-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v331) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x4096x128 : Shape := ⟨3, ![8, 4096, 128]⟩
abbrev S4x512x128 : Shape := ⟨3, ![4, 512, 128]⟩
abbrev S4x256x4 : Shape := ⟨3, ![4, 256, 4]⟩
abbrev S4x256 : Shape := ⟨2, ![4, 256]⟩
abbrev S4x40x256 : Shape := ⟨3, ![4, 40, 256]⟩
abbrev S4x256x8 : Shape := ⟨3, ![4, 256, 8]⟩
abbrev S4x256x16 : Shape := ⟨3, ![4, 256, 16]⟩
abbrev S4x128x256 : Shape := ⟨3, ![4, 128, 256]⟩
abbrev S4x128x512 : Shape := ⟨3, ![4, 128, 512]⟩
abbrev S4x4x256 : Shape := ⟨3, ![4, 4, 256]⟩
abbrev S4x1x256 : Shape := ⟨3, ![4, 1, 256]⟩
abbrev S4x256x40 : Shape := ⟨3, ![4, 256, 40]⟩
abbrev S4x8x256 : Shape := ⟨3, ![4, 8, 256]⟩
abbrev S4x16x256 : Shape := ⟨3, ![4, 16, 256]⟩
abbrev S4x256x128 : Shape := ⟨3, ![4, 256, 128]⟩
abbrev S1x4096x128 : Shape := ⟨3, ![1, 4096, 128]⟩
abbrev S4104x256 : Shape := ⟨2, ![4104, 256]⟩
abbrev S4096x256 : Shape := ⟨2, ![4096, 256]⟩
abbrev S4096x40 : Shape := ⟨2, ![4096, 40]⟩
abbrev S128x16x256 : Shape := ⟨3, ![128, 16, 256]⟩
abbrev S4096x128 : Shape := ⟨2, ![4096, 128]⟩
abbrev S8x256 : Shape := ⟨2, ![8, 256]⟩
abbrev S1x128x512 : Shape := ⟨3, ![1, 128, 512]⟩
abbrev S128x512 : Shape := ⟨2, ![128, 512]⟩
abbrev S1x4x256 : Shape := ⟨3, ![1, 4, 256]⟩
abbrev S1x1x256 : Shape := ⟨3, ![1, 1, 256]⟩
abbrev S1x256 : Shape := ⟨2, ![1, 256]⟩
abbrev S1x256x40 : Shape := ⟨3, ![1, 256, 40]⟩
abbrev S256x40 : Shape := ⟨2, ![256, 40]⟩
abbrev S1x8x256 : Shape := ⟨3, ![1, 8, 256]⟩
abbrev S1x16x256 : Shape := ⟨3, ![1, 16, 256]⟩
abbrev S16x256 : Shape := ⟨2, ![16, 256]⟩
abbrev S1x256x128 : Shape := ⟨3, ![1, 256, 128]⟩
abbrev S256x128 : Shape := ⟨2, ![256, 128]⟩
abbrev S1x128x128 : Shape := ⟨3, ![1, 128, 128]⟩
abbrev S128x128 : Shape := ⟨2, ![128, 128]⟩
abbrev S128x256 : Shape := ⟨2, ![128, 256]⟩
abbrev S136x256 : Shape := ⟨2, ![136, 256]⟩
abbrev S128x40 : Shape := ⟨2, ![128, 40]⟩
abbrev S128x8 : Shape := ⟨2, ![128, 8]⟩
abbrev S128x1x256 : Shape := ⟨3, ![128, 1, 256]⟩
abbrev S128x16 : Shape := ⟨2, ![128, 16]⟩
abbrev S128x1 : Shape := ⟨2, ![128, 1]⟩

abbrev nBuf : Space → Nat
  | .hbm => 22
  | .vmem => 22
  | .smem => 0
  | _ => 0

abbrev bufTy : (tb : Table) → Fin (tcTables nBuf tb) → BufTy
  | .hbm, ⟨0, _⟩ => ⟨S8x4096x128, .f32⟩
  | .hbm, ⟨1, _⟩ => ⟨S4x512x128, .f32⟩
  | .hbm, ⟨2, _⟩ => ⟨S4x256x4, .f32⟩
  | .hbm, ⟨3, _⟩ => ⟨S4x256, .f32⟩
  | .hbm, ⟨4, _⟩ => ⟨S4x40x256, .f32⟩
  | .hbm, ⟨5, _⟩ => ⟨S4x256x8, .f32⟩
  | .hbm, ⟨6, _⟩ => ⟨S4x256, .f32⟩
  | .hbm, ⟨7, _⟩ => ⟨S4x256x16, .f32⟩
  | .hbm, ⟨8, _⟩ => ⟨S4x256, .f32⟩
  | .hbm, ⟨9, _⟩ => ⟨S4x128x256, .f32⟩
  | .hbm, ⟨10, _⟩ => ⟨S4x128x512, .f32⟩
  | .hbm, ⟨11, _⟩ => ⟨S4x4x256, .f32⟩
  | .hbm, ⟨12, _⟩ => ⟨S4x1x256, .f32⟩
  | .hbm, ⟨13, _⟩ => ⟨S4x256x40, .f32⟩
  | .hbm, ⟨14, _⟩ => ⟨S4x8x256, .f32⟩
  | .hbm, ⟨15, _⟩ => ⟨S4x1x256, .f32⟩
  | .hbm, ⟨16, _⟩ => ⟨S4x256x16, .f32⟩
  | .hbm, ⟨17, _⟩ => ⟨S4x256x16, .f32⟩
  | .hbm, ⟨18, _⟩ => ⟨S4x16x256, .f32⟩
  | .hbm, ⟨19, _⟩ => ⟨S4x1x256, .f32⟩
  | .hbm, ⟨20, _⟩ => ⟨S4x256x128, .f32⟩
  | .hbm, ⟨21, _⟩ => ⟨S8x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S4x128x512, .f32⟩
  | .local _ .vmem, ⟨3, _⟩ => ⟨S4x4x256, .f32⟩
  | .local _ .vmem, ⟨4, _⟩ => ⟨S4x1x256, .f32⟩
  | .local _ .vmem, ⟨5, _⟩ => ⟨S4x256x40, .f32⟩
  | .local _ .vmem, ⟨6, _⟩ => ⟨S4x8x256, .f32⟩
  | .local _ .vmem, ⟨7, _⟩ => ⟨S4x1x256, .f32⟩
  | .local _ .vmem, ⟨8, _⟩ => ⟨S4x16x256, .f32⟩
  | .local _ .vmem, ⟨9, _⟩ => ⟨S4x1x256, .f32⟩
  | .local _ .vmem, ⟨10, _⟩ => ⟨S4x256x128, .f32⟩
  | .local _ .vmem, ⟨11, _⟩ => ⟨S1x4096x128, .f32⟩
  | .local _ .vmem, ⟨12, _⟩ => ⟨S1x4096x128, .f32⟩
  | .local _ .vmem, ⟨13, _⟩ => ⟨S4104x256, .f32⟩
  | .local _ .vmem, ⟨14, _⟩ => ⟨S4096x256, .f32⟩
  | .local _ .vmem, ⟨15, _⟩ => ⟨S4096x256, .f32⟩
  | .local _ .vmem, ⟨16, _⟩ => ⟨S4096x256, .f32⟩
  | .local _ .vmem, ⟨17, _⟩ => ⟨S4096x256, .f32⟩
  | .local _ .vmem, ⟨18, _⟩ => ⟨S4096x40, .f32⟩
  | .local _ .vmem, ⟨19, _⟩ => ⟨S128x16x256, .f32⟩
  | .local _ .vmem, ⟨20, _⟩ => ⟨S128x16x256, .f32⟩
  | .local _ .vmem, ⟨21, _⟩ => ⟨S4096x128, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_v0 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v22 : BitVec 32 := Scalar.addi c0_i32 c32_i32
  let c1_i32 : BitVec 32 := 1#32
  ⟨c0_i32, v22, c1_i32⟩
def k0_mult1 (k0_t1 : Fin k0_t1_loop.trips) : BitVec 32 :=
  let c0_i32 : BitVec 32 := 0#32
  let c1_i32 : BitVec 32 := 1#32
  let arg21 : BitVec 32 := Scf.iv c0_i32 c1_i32 k0_t1
  let c128_i32 : BitVec 32 := 128#32
  let v96 : BitVec 32 := Scalar.muli arg21 c128_i32
  v96
def k0_off1 (k0_t1 : Fin k0_t1_loop.trips) : Fin 3 → Nat :=
  let c0_155 : Index := 0#32
  let c0_i32 : BitVec 32 := 0#32
  let c1_i32 : BitVec 32 := 1#32
  let arg21 : BitVec 32 := Scf.iv c0_i32 c1_i32 k0_t1
  let c128_i32 : BitVec 32 := 128#32
  let v96 : BitVec 32 := Scalar.muli arg21 c128_i32
  let v97 : BitVec 32 := v96
  let v98 : Index := Scalar.indexCast v97
  let c0_156 : Index := 0#32
  ![0, v98.toNat, 0]
def k0_mult2 (k0_t1 : Fin k0_t1_loop.trips) : BitVec 32 :=
  let c0_i32 : BitVec 32 := 0#32
  let c1_i32 : BitVec 32 := 1#32
  let arg21 : BitVec 32 := Scf.iv c0_i32 c1_i32 k0_t1
  let c128_i32 : BitVec 32 := 128#32
  let v96 : BitVec 32 := Scalar.muli arg21 c128_i32
  let v97 : BitVec 32 := v96
  let c8_i32 : BitVec 32 := 8#32
  let v103 : BitVec 32 := Scalar.addi v97 c8_i32
  v103
def k0_off2 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v96 : BitVec 32 := Scalar.muli arg21 c128_i32
  let v97 : BitVec 32 := v96
  let c8_i32 : BitVec 32 := 8#32
  let v103 : BitVec 32 := Scalar.addi v97 c8_i32
  let v104 : BitVec 32 := v103
  let v105 : Index := Scalar.indexCast v104
  let c0_158 : Index := 0#32
  ![v105.toNat, 0]
def k0_off3 (k0_t1 : Fin k0_t1_loop.trips) : Fin 2 → Nat :=
  let c0_i32 : BitVec 32 := 0#32
  let c1_i32 : BitVec 32 := 1#32
  let arg21 : BitVec 32 := Scf.iv c0_i32 c1_i32 k0_t1
  let c128_i32 : BitVec 32 := 128#32
  let v96 : BitVec 32 := Scalar.muli arg21 c128_i32
  let v97 : BitVec 32 := v96
  let v110 : Index := Scalar.indexCast v97
  let c0_159 : Index := 0#32
  ![v110.toNat, 0]
@[reducible] def k0_t2_loop : Scf.Loop 32 :=
  let c0_i32_29 : BitVec 32 := 0#32
  let c32_i32_30 : BitVec 32 := 32#32
  let v23 : BitVec 32 := Scalar.addi c0_i32_29 c32_i32_30
  let c1_i32_31 : BitVec 32 := 1#32
  ⟨c0_i32_29, v23, c1_i32_31⟩
def k0_mult3 (k0_t2 : Fin k0_t2_loop.trips) : BitVec 32 :=
  let c0_i32_29 : BitVec 32 := 0#32
  let c1_i32_31 : BitVec 32 := 1#32
  let arg21 : BitVec 32 := Scf.iv c0_i32_29 c1_i32_31 k0_t2
  let c128_i32 : BitVec 32 := 128#32
  let v96 : BitVec 32 := Scalar.muli arg21 c128_i32
  v96
def k0_off4 (k0_t2 : Fin k0_t2_loop.trips) : Fin 2 → Nat :=
  let c0_i32_29 : BitVec 32 := 0#32
  let c1_i32_31 : BitVec 32 := 1#32
  let arg21 : BitVec 32 := Scf.iv c0_i32_29 c1_i32_31 k0_t2
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_off5 (k0_t2 : Fin k0_t2_loop.trips) : Fin 2 → Nat :=
  let c0_i32_29 : BitVec 32 := 0#32
  let c1_i32_31 : BitVec 32 := 1#32
  let arg21 : BitVec 32 := Scf.iv c0_i32_29 c1_i32_31 k0_t2
  let c128_i32 : BitVec 32 := 128#32
  let v96 : BitVec 32 := Scalar.muli arg21 c128_i32
  let v97 : BitVec 32 := v96
  let v123 : Index := Scalar.indexCast v97
  let c0_156 : Index := 0#32
  ![v123.toNat, 0]
def k0_off6 (k0_t2 : Fin k0_t2_loop.trips) : Fin 2 → Nat :=
  let c0_i32_29 : BitVec 32 := 0#32
  let c1_i32_31 : BitVec 32 := 1#32
  let arg21 : BitVec 32 := Scf.iv c0_i32_29 c1_i32_31 k0_t2
  let c128_i32 : BitVec 32 := 128#32
  let v96 : BitVec 32 := Scalar.muli arg21 c128_i32
  let v97 : BitVec 32 := v96
  let v128 : Index := Scalar.indexCast v97
  let c0_158 : Index := 0#32
  ![v128.toNat, 0]
@[reducible] def k0_t3_loop : Scf.Loop 32 :=
  let c0_i32_34 : BitVec 32 := 0#32
  let c32_i32_35 : BitVec 32 := 32#32
  let v25 : BitVec 32 := Scalar.addi c0_i32_34 c32_i32_35
  let c1_i32_36 : BitVec 32 := 1#32
  ⟨c0_i32_34, v25, c1_i32_36⟩
def k0_mult4 (k0_t3 : Fin k0_t3_loop.trips) : BitVec 32 :=
  let c0_i32_34 : BitVec 32 := 0#32
  let c1_i32_36 : BitVec 32 := 1#32
  let arg21 : BitVec 32 := Scf.iv c0_i32_34 c1_i32_36 k0_t3
  let c128_i32 : BitVec 32 := 128#32
  let v96 : BitVec 32 := Scalar.muli arg21 c128_i32
  v96
def k0_off7 (k0_t3 : Fin k0_t3_loop.trips) : Fin 2 → Nat :=
  let c0_i32_34 : BitVec 32 := 0#32
  let c1_i32_36 : BitVec 32 := 1#32
  let arg21 : BitVec 32 := Scf.iv c0_i32_34 c1_i32_36 k0_t3
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_off8 (k0_t3 : Fin k0_t3_loop.trips) : Fin 2 → Nat :=
  let c0_i32_34 : BitVec 32 := 0#32
  let c1_i32_36 : BitVec 32 := 1#32
  let arg21 : BitVec 32 := Scf.iv c0_i32_34 c1_i32_36 k0_t3
  let c128_i32 : BitVec 32 := 128#32
  let v96 : BitVec 32 := Scalar.muli arg21 c128_i32
  let v97 : BitVec 32 := v96
  let v214 : Index := Scalar.indexCast v97
  let c0_193 : Index := 0#32
  ![v214.toNat, 0]
@[reducible] def k0_t4_loop : Scf.Loop 32 :=
  let c0_i32_242 : BitVec 32 := 0#32
  let c128_i32_243 : BitVec 32 := 128#32
  let v314 : BitVec 32 := Scalar.addi c0_i32_242 c128_i32_243
  let c1_i32_244 : BitVec 32 := 1#32
  ⟨c0_i32_242, v314, c1_i32_244⟩
def k0_off9 (k0_t4 : Fin k0_t4_loop.trips) : Fin 3 → Nat :=
  let c0_i32_242 : BitVec 32 := 0#32
  let c1_i32_244 : BitVec 32 := 1#32
  let arg23 : BitVec 32 := Scf.iv c0_i32_242 c1_i32_244 k0_t4
  let v426 : Index := Scalar.indexCast arg23
  let c0_298 : Index := 0#32
  let c0_299 : Index := 0#32
  ![v426.toNat, 0, 0]
def k0_off10 (k0_t3 : Fin k0_t3_loop.trips) : Fin 2 → Nat :=
  let c0_i32_34 : BitVec 32 := 0#32
  let c1_i32_36 : BitVec 32 := 1#32
  let arg21 : BitVec 32 := Scf.iv c0_i32_34 c1_i32_36 k0_t3
  let c128_i32 : BitVec 32 := 128#32
  let v96 : BitVec 32 := Scalar.muli arg21 c128_i32
  let v97 : BitVec 32 := v96
  let v422 : Index := Scalar.indexCast v97
  let c0_297 : Index := 0#32
  ![v422.toNat, 0]
@[reducible] def k0_t5_loop : Scf.Loop 32 :=
  let c0_i32_64 : BitVec 32 := 0#32
  let c32_i32_65 : BitVec 32 := 32#32
  let v45 : BitVec 32 := Scalar.addi c0_i32_64 c32_i32_65
  let c1_i32_66 : BitVec 32 := 1#32
  ⟨c0_i32_64, v45, c1_i32_66⟩
def k0_mult5 (k0_t5 : Fin k0_t5_loop.trips) : BitVec 32 :=
  let c0_i32_64 : BitVec 32 := 0#32
  let c1_i32_66 : BitVec 32 := 1#32
  let arg21 : BitVec 32 := Scf.iv c0_i32_64 c1_i32_66 k0_t5
  let c128_i32 : BitVec 32 := 128#32
  let v96 : BitVec 32 := Scalar.muli arg21 c128_i32
  v96
def k0_off11 (k0_t5 : Fin k0_t5_loop.trips) : Fin 2 → Nat :=
  let c0_i32_64 : BitVec 32 := 0#32
  let c1_i32_66 : BitVec 32 := 1#32
  let arg21 : BitVec 32 := Scf.iv c0_i32_64 c1_i32_66 k0_t5
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_mult6 (k0_t5 : Fin k0_t5_loop.trips) : BitVec 32 :=
  let c0_i32_64 : BitVec 32 := 0#32
  let c1_i32_66 : BitVec 32 := 1#32
  let arg21 : BitVec 32 := Scf.iv c0_i32_64 c1_i32_66 k0_t5
  let c128_i32 : BitVec 32 := 128#32
  let v96 : BitVec 32 := Scalar.muli arg21 c128_i32
  let v97 : BitVec 32 := v96
  let c8_i32 : BitVec 32 := 8#32
  let v102 : BitVec 32 := Scalar.addi v97 c8_i32
  v102
def k0_off12 (k0_t5 : Fin k0_t5_loop.trips) : Fin 2 → Nat :=
  let c0_i32_64 : BitVec 32 := 0#32
  let c1_i32_66 : BitVec 32 := 1#32
  let arg21 : BitVec 32 := Scf.iv c0_i32_64 c1_i32_66 k0_t5
  let c128_i32 : BitVec 32 := 128#32
  let v96 : BitVec 32 := Scalar.muli arg21 c128_i32
  let v97 : BitVec 32 := v96
  let c8_i32 : BitVec 32 := 8#32
  let v102 : BitVec 32 := Scalar.addi v97 c8_i32
  let v103 : BitVec 32 := v102
  let v104 : Index := Scalar.indexCast v103
  let c0_157 : Index := 0#32
  ![v104.toNat, 0]
def k0_off13 (k0_t5 : Fin k0_t5_loop.trips) : Fin 2 → Nat :=
  let c0_i32_64 : BitVec 32 := 0#32
  let c1_i32_66 : BitVec 32 := 1#32
  let arg21 : BitVec 32 := Scf.iv c0_i32_64 c1_i32_66 k0_t5
  let c128_i32 : BitVec 32 := 128#32
  let v96 : BitVec 32 := Scalar.muli arg21 c128_i32
  let v97 : BitVec 32 := v96
  let v109 : Index := Scalar.indexCast v97
  let c0_158 : Index := 0#32
  ![v109.toNat, 0]
@[reducible] def k0_t6_loop : Scf.Loop 32 :=
  let c0_i32_68 : BitVec 32 := 0#32
  let c32_i32_69 : BitVec 32 := 32#32
  let v46 : BitVec 32 := Scalar.addi c0_i32_68 c32_i32_69
  let c1_i32_70 : BitVec 32 := 1#32
  ⟨c0_i32_68, v46, c1_i32_70⟩
def k0_mult7 (k0_t6 : Fin k0_t6_loop.trips) : BitVec 32 :=
  let c0_i32_68 : BitVec 32 := 0#32
  let c1_i32_70 : BitVec 32 := 1#32
  let arg21 : BitVec 32 := Scf.iv c0_i32_68 c1_i32_70 k0_t6
  let c128_i32 : BitVec 32 := 128#32
  let v96 : BitVec 32 := Scalar.muli arg21 c128_i32
  v96
def k0_off14 (k0_t6 : Fin k0_t6_loop.trips) : Fin 2 → Nat :=
  let c0_i32_68 : BitVec 32 := 0#32
  let c1_i32_70 : BitVec 32 := 1#32
  let arg21 : BitVec 32 := Scf.iv c0_i32_68 c1_i32_70 k0_t6
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_off15 (k0_t6 : Fin k0_t6_loop.trips) : Fin 2 → Nat :=
  let c0_i32_68 : BitVec 32 := 0#32
  let c1_i32_70 : BitVec 32 := 1#32
  let arg21 : BitVec 32 := Scf.iv c0_i32_68 c1_i32_70 k0_t6
  let c128_i32 : BitVec 32 := 128#32
  let v96 : BitVec 32 := Scalar.muli arg21 c128_i32
  let v97 : BitVec 32 := v96
  let v123 : Index := Scalar.indexCast v97
  let c0_156 : Index := 0#32
  ![v123.toNat, 0]
def k0_off16 (k0_t6 : Fin k0_t6_loop.trips) : Fin 2 → Nat :=
  let c0_i32_68 : BitVec 32 := 0#32
  let c1_i32_70 : BitVec 32 := 1#32
  let arg21 : BitVec 32 := Scf.iv c0_i32_68 c1_i32_70 k0_t6
  let c128_i32 : BitVec 32 := 128#32
  let v96 : BitVec 32 := Scalar.muli arg21 c128_i32
  let v97 : BitVec 32 := v96
  let v128 : Index := Scalar.indexCast v97
  let c0_158 : Index := 0#32
  ![v128.toNat, 0]
@[reducible] def k0_t7_loop : Scf.Loop 32 :=
  let c0_i32_73 : BitVec 32 := 0#32
  let c32_i32_74 : BitVec 32 := 32#32
  let v48 : BitVec 32 := Scalar.addi c0_i32_73 c32_i32_74
  let c1_i32_75 : BitVec 32 := 1#32
  ⟨c0_i32_73, v48, c1_i32_75⟩
def k0_mult8 (k0_t7 : Fin k0_t7_loop.trips) : BitVec 32 :=
  let c0_i32_73 : BitVec 32 := 0#32
  let c1_i32_75 : BitVec 32 := 1#32
  let arg21 : BitVec 32 := Scf.iv c0_i32_73 c1_i32_75 k0_t7
  let c128_i32 : BitVec 32 := 128#32
  let v96 : BitVec 32 := Scalar.muli arg21 c128_i32
  v96
def k0_off17 (k0_t7 : Fin k0_t7_loop.trips) : Fin 2 → Nat :=
  let c0_i32_73 : BitVec 32 := 0#32
  let c1_i32_75 : BitVec 32 := 1#32
  let arg21 : BitVec 32 := Scf.iv c0_i32_73 c1_i32_75 k0_t7
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_off18 (k0_t7 : Fin k0_t7_loop.trips) : Fin 2 → Nat :=
  let c0_i32_73 : BitVec 32 := 0#32
  let c1_i32_75 : BitVec 32 := 1#32
  let arg21 : BitVec 32 := Scf.iv c0_i32_73 c1_i32_75 k0_t7
  let c128_i32 : BitVec 32 := 128#32
  let v96 : BitVec 32 := Scalar.muli arg21 c128_i32
  let v97 : BitVec 32 := v96
  let v214 : Index := Scalar.indexCast v97
  let c0_193 : Index := 0#32
  ![v214.toNat, 0]
@[reducible] def k0_t8_loop : Scf.Loop 32 :=
  let c0_i32_242 : BitVec 32 := 0#32
  let c128_i32_243 : BitVec 32 := 128#32
  let v314 : BitVec 32 := Scalar.addi c0_i32_242 c128_i32_243
  let c1_i32_244 : BitVec 32 := 1#32
  ⟨c0_i32_242, v314, c1_i32_244⟩
def k0_off19 (k0_t8 : Fin k0_t8_loop.trips) : Fin 3 → Nat :=
  let c0_i32_242 : BitVec 32 := 0#32
  let c1_i32_244 : BitVec 32 := 1#32
  let arg23 : BitVec 32 := Scf.iv c0_i32_242 c1_i32_244 k0_t8
  let v426 : Index := Scalar.indexCast arg23
  let c0_298 : Index := 0#32
  let c0_299 : Index := 0#32
  ![v426.toNat, 0, 0]
def k0_off20 (k0_t7 : Fin k0_t7_loop.trips) : Fin 2 → Nat :=
  let c0_i32_73 : BitVec 32 := 0#32
  let c1_i32_75 : BitVec 32 := 1#32
  let arg21 : BitVec 32 := Scf.iv c0_i32_73 c1_i32_75 k0_t7
  let c128_i32 : BitVec 32 := 128#32
  let v96 : BitVec 32 := Scalar.muli arg21 c128_i32
  let v97 : BitVec 32 := v96
  let v422 : Index := Scalar.indexCast v97
  let c0_297 : Index := 0#32
  ![v422.toNat, 0]
@[reducible] def k0_t9_loop : Scf.Loop 32 :=
  let c0_i32_103 : BitVec 32 := 0#32
  let c32_i32_104 : BitVec 32 := 32#32
  let v68 : BitVec 32 := Scalar.addi c0_i32_103 c32_i32_104
  let c1_i32_105 : BitVec 32 := 1#32
  ⟨c0_i32_103, v68, c1_i32_105⟩
def k0_mult9 (k0_t9 : Fin k0_t9_loop.trips) : BitVec 32 :=
  let c0_i32_103 : BitVec 32 := 0#32
  let c1_i32_105 : BitVec 32 := 1#32
  let arg21 : BitVec 32 := Scf.iv c0_i32_103 c1_i32_105 k0_t9
  let c128_i32 : BitVec 32 := 128#32
  let v96 : BitVec 32 := Scalar.muli arg21 c128_i32
  v96
def k0_off21 (k0_t9 : Fin k0_t9_loop.trips) : Fin 2 → Nat :=
  let c0_i32_103 : BitVec 32 := 0#32
  let c1_i32_105 : BitVec 32 := 1#32
  let arg21 : BitVec 32 := Scf.iv c0_i32_103 c1_i32_105 k0_t9
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_mult10 (k0_t9 : Fin k0_t9_loop.trips) : BitVec 32 :=
  let c0_i32_103 : BitVec 32 := 0#32
  let c1_i32_105 : BitVec 32 := 1#32
  let arg21 : BitVec 32 := Scf.iv c0_i32_103 c1_i32_105 k0_t9
  let c128_i32 : BitVec 32 := 128#32
  let v96 : BitVec 32 := Scalar.muli arg21 c128_i32
  let v97 : BitVec 32 := v96
  let c8_i32 : BitVec 32 := 8#32
  let v102 : BitVec 32 := Scalar.addi v97 c8_i32
  v102
def k0_off22 (k0_t9 : Fin k0_t9_loop.trips) : Fin 2 → Nat :=
  let c0_i32_103 : BitVec 32 := 0#32
  let c1_i32_105 : BitVec 32 := 1#32
  let arg21 : BitVec 32 := Scf.iv c0_i32_103 c1_i32_105 k0_t9
  let c128_i32 : BitVec 32 := 128#32
  let v96 : BitVec 32 := Scalar.muli arg21 c128_i32
  let v97 : BitVec 32 := v96
  let c8_i32 : BitVec 32 := 8#32
  let v102 : BitVec 32 := Scalar.addi v97 c8_i32
  let v103 : BitVec 32 := v102
  let v104 : Index := Scalar.indexCast v103
  let c0_157 : Index := 0#32
  ![v104.toNat, 0]
def k0_off23 (k0_t9 : Fin k0_t9_loop.trips) : Fin 2 → Nat :=
  let c0_i32_103 : BitVec 32 := 0#32
  let c1_i32_105 : BitVec 32 := 1#32
  let arg21 : BitVec 32 := Scf.iv c0_i32_103 c1_i32_105 k0_t9
  let c128_i32 : BitVec 32 := 128#32
  let v96 : BitVec 32 := Scalar.muli arg21 c128_i32
  let v97 : BitVec 32 := v96
  let v109 : Index := Scalar.indexCast v97
  let c0_158 : Index := 0#32
  ![v109.toNat, 0]
@[reducible] def k0_t10_loop : Scf.Loop 32 :=
  let c0_i32_107 : BitVec 32 := 0#32
  let c32_i32_108 : BitVec 32 := 32#32
  let v69 : BitVec 32 := Scalar.addi c0_i32_107 c32_i32_108
  let c1_i32_109 : BitVec 32 := 1#32
  ⟨c0_i32_107, v69, c1_i32_109⟩
def k0_mult11 (k0_t10 : Fin k0_t10_loop.trips) : BitVec 32 :=
  let c0_i32_107 : BitVec 32 := 0#32
  let c1_i32_109 : BitVec 32 := 1#32
  let arg21 : BitVec 32 := Scf.iv c0_i32_107 c1_i32_109 k0_t10
  let c128_i32 : BitVec 32 := 128#32
  let v96 : BitVec 32 := Scalar.muli arg21 c128_i32
  v96
def k0_off24 (k0_t10 : Fin k0_t10_loop.trips) : Fin 2 → Nat :=
  let c0_i32_107 : BitVec 32 := 0#32
  let c1_i32_109 : BitVec 32 := 1#32
  let arg21 : BitVec 32 := Scf.iv c0_i32_107 c1_i32_109 k0_t10
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_off25 (k0_t10 : Fin k0_t10_loop.trips) : Fin 2 → Nat :=
  let c0_i32_107 : BitVec 32 := 0#32
  let c1_i32_109 : BitVec 32 := 1#32
  let arg21 : BitVec 32 := Scf.iv c0_i32_107 c1_i32_109 k0_t10
  let c128_i32 : BitVec 32 := 128#32
  let v96 : BitVec 32 := Scalar.muli arg21 c128_i32
  let v97 : BitVec 32 := v96
  let v123 : Index := Scalar.indexCast v97
  let c0_156 : Index := 0#32
  ![v123.toNat, 0]
def k0_off26 (k0_t10 : Fin k0_t10_loop.trips) : Fin 2 → Nat :=
  let c0_i32_107 : BitVec 32 := 0#32
  let c1_i32_109 : BitVec 32 := 1#32
  let arg21 : BitVec 32 := Scf.iv c0_i32_107 c1_i32_109 k0_t10
  let c128_i32 : BitVec 32 := 128#32
  let v96 : BitVec 32 := Scalar.muli arg21 c128_i32
  let v97 : BitVec 32 := v96
  let v128 : Index := Scalar.indexCast v97
  let c0_158 : Index := 0#32
  ![v128.toNat, 0]
@[reducible] def k0_t11_loop : Scf.Loop 32 :=
  let c0_i32_112 : BitVec 32 := 0#32
  let c32_i32_113 : BitVec 32 := 32#32
  let v71 : BitVec 32 := Scalar.addi c0_i32_112 c32_i32_113
  let c1_i32_114 : BitVec 32 := 1#32
  ⟨c0_i32_112, v71, c1_i32_114⟩
def k0_mult12 (k0_t11 : Fin k0_t11_loop.trips) : BitVec 32 :=
  let c0_i32_112 : BitVec 32 := 0#32
  let c1_i32_114 : BitVec 32 := 1#32
  let arg21 : BitVec 32 := Scf.iv c0_i32_112 c1_i32_114 k0_t11
  let c128_i32 : BitVec 32 := 128#32
  let v96 : BitVec 32 := Scalar.muli arg21 c128_i32
  v96
def k0_off27 (k0_t11 : Fin k0_t11_loop.trips) : Fin 2 → Nat :=
  let c0_i32_112 : BitVec 32 := 0#32
  let c1_i32_114 : BitVec 32 := 1#32
  let arg21 : BitVec 32 := Scf.iv c0_i32_112 c1_i32_114 k0_t11
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_off28 (k0_t11 : Fin k0_t11_loop.trips) : Fin 2 → Nat :=
  let c0_i32_112 : BitVec 32 := 0#32
  let c1_i32_114 : BitVec 32 := 1#32
  let arg21 : BitVec 32 := Scf.iv c0_i32_112 c1_i32_114 k0_t11
  let c128_i32 : BitVec 32 := 128#32
  let v96 : BitVec 32 := Scalar.muli arg21 c128_i32
  let v97 : BitVec 32 := v96
  let v214 : Index := Scalar.indexCast v97
  let c0_193 : Index := 0#32
  ![v214.toNat, 0]
@[reducible] def k0_t12_loop : Scf.Loop 32 :=
  let c0_i32_242 : BitVec 32 := 0#32
  let c128_i32_243 : BitVec 32 := 128#32
  let v314 : BitVec 32 := Scalar.addi c0_i32_242 c128_i32_243
  let c1_i32_244 : BitVec 32 := 1#32
  ⟨c0_i32_242, v314, c1_i32_244⟩
def k0_off29 (k0_t12 : Fin k0_t12_loop.trips) : Fin 3 → Nat :=
  let c0_i32_242 : BitVec 32 := 0#32
  let c1_i32_244 : BitVec 32 := 1#32
  let arg23 : BitVec 32 := Scf.iv c0_i32_242 c1_i32_244 k0_t12
  let v426 : Index := Scalar.indexCast arg23
  let c0_298 : Index := 0#32
  let c0_299 : Index := 0#32
  ![v426.toNat, 0, 0]
def k0_off30 (k0_t11 : Fin k0_t11_loop.trips) : Fin 2 → Nat :=
  let c0_i32_112 : BitVec 32 := 0#32
  let c1_i32_114 : BitVec 32 := 1#32
  let arg21 : BitVec 32 := Scf.iv c0_i32_112 c1_i32_114 k0_t11
  let c128_i32 : BitVec 32 := 128#32
  let v96 : BitVec 32 := Scalar.muli arg21 c128_i32
  let v97 : BitVec 32 := v96
  let v422 : Index := Scalar.indexCast v97
  let c0_297 : Index := 0#32
  ![v422.toNat, 0]
@[reducible] def k0_t13_loop : Scf.Loop 32 :=
  let c0_i32_142 : BitVec 32 := 0#32
  let c32_i32_143 : BitVec 32 := 32#32
  let v91 : BitVec 32 := Scalar.addi c0_i32_142 c32_i32_143
  let c1_i32_144 : BitVec 32 := 1#32
  ⟨c0_i32_142, v91, c1_i32_144⟩
def k0_mult13 (k0_t13 : Fin k0_t13_loop.trips) : BitVec 32 :=
  let c0_i32_142 : BitVec 32 := 0#32
  let c1_i32_144 : BitVec 32 := 1#32
  let arg21 : BitVec 32 := Scf.iv c0_i32_142 c1_i32_144 k0_t13
  let c128_i32 : BitVec 32 := 128#32
  let v96 : BitVec 32 := Scalar.muli arg21 c128_i32
  v96
def k0_off31 (k0_t13 : Fin k0_t13_loop.trips) : Fin 2 → Nat :=
  let c0_i32_142 : BitVec 32 := 0#32
  let c1_i32_144 : BitVec 32 := 1#32
  let arg21 : BitVec 32 := Scf.iv c0_i32_142 c1_i32_144 k0_t13
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_mult14 (k0_t13 : Fin k0_t13_loop.trips) : BitVec 32 :=
  let c0_i32_142 : BitVec 32 := 0#32
  let c1_i32_144 : BitVec 32 := 1#32
  let arg21 : BitVec 32 := Scf.iv c0_i32_142 c1_i32_144 k0_t13
  let c128_i32 : BitVec 32 := 128#32
  let v96 : BitVec 32 := Scalar.muli arg21 c128_i32
  let v97 : BitVec 32 := v96
  let c8_i32 : BitVec 32 := 8#32
  let v102 : BitVec 32 := Scalar.addi v97 c8_i32
  v102
def k0_off32 (k0_t13 : Fin k0_t13_loop.trips) : Fin 2 → Nat :=
  let c0_i32_142 : BitVec 32 := 0#32
  let c1_i32_144 : BitVec 32 := 1#32
  let arg21 : BitVec 32 := Scf.iv c0_i32_142 c1_i32_144 k0_t13
  let c128_i32 : BitVec 32 := 128#32
  let v96 : BitVec 32 := Scalar.muli arg21 c128_i32
  let v97 : BitVec 32 := v96
  let c8_i32 : BitVec 32 := 8#32
  let v102 : BitVec 32 := Scalar.addi v97 c8_i32
  let v103 : BitVec 32 := v102
  let v104 : Index := Scalar.indexCast v103
  let c0_157 : Index := 0#32
  ![v104.toNat, 0]
def k0_off33 (k0_t13 : Fin k0_t13_loop.trips) : Fin 2 → Nat :=
  let c0_i32_142 : BitVec 32 := 0#32
  let c1_i32_144 : BitVec 32 := 1#32
  let arg21 : BitVec 32 := Scf.iv c0_i32_142 c1_i32_144 k0_t13
  let c128_i32 : BitVec 32 := 128#32
  let v96 : BitVec 32 := Scalar.muli arg21 c128_i32
  let v97 : BitVec 32 := v96
  let v109 : Index := Scalar.indexCast v97
  let c0_158 : Index := 0#32
  ![v109.toNat, 0]
@[reducible] def k0_t14_loop : Scf.Loop 32 :=
  let c0_i32_146 : BitVec 32 := 0#32
  let c32_i32_147 : BitVec 32 := 32#32
  let v92 : BitVec 32 := Scalar.addi c0_i32_146 c32_i32_147
  let c1_i32_148 : BitVec 32 := 1#32
  ⟨c0_i32_146, v92, c1_i32_148⟩
def k0_mult15 (k0_t14 : Fin k0_t14_loop.trips) : BitVec 32 :=
  let c0_i32_146 : BitVec 32 := 0#32
  let c1_i32_148 : BitVec 32 := 1#32
  let arg21 : BitVec 32 := Scf.iv c0_i32_146 c1_i32_148 k0_t14
  let c128_i32 : BitVec 32 := 128#32
  let v96 : BitVec 32 := Scalar.muli arg21 c128_i32
  v96
def k0_off34 (k0_t14 : Fin k0_t14_loop.trips) : Fin 2 → Nat :=
  let c0_i32_146 : BitVec 32 := 0#32
  let c1_i32_148 : BitVec 32 := 1#32
  let arg21 : BitVec 32 := Scf.iv c0_i32_146 c1_i32_148 k0_t14
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_off35 (k0_t14 : Fin k0_t14_loop.trips) : Fin 2 → Nat :=
  let c0_i32_146 : BitVec 32 := 0#32
  let c1_i32_148 : BitVec 32 := 1#32
  let arg21 : BitVec 32 := Scf.iv c0_i32_146 c1_i32_148 k0_t14
  let c128_i32 : BitVec 32 := 128#32
  let v96 : BitVec 32 := Scalar.muli arg21 c128_i32
  let v97 : BitVec 32 := v96
  let v123 : Index := Scalar.indexCast v97
  let c0_156 : Index := 0#32
  ![v123.toNat, 0]
def k0_off36 (k0_t14 : Fin k0_t14_loop.trips) : Fin 2 → Nat :=
  let c0_i32_146 : BitVec 32 := 0#32
  let c1_i32_148 : BitVec 32 := 1#32
  let arg21 : BitVec 32 := Scf.iv c0_i32_146 c1_i32_148 k0_t14
  let c128_i32 : BitVec 32 := 128#32
  let v96 : BitVec 32 := Scalar.muli arg21 c128_i32
  let v97 : BitVec 32 := v96
  let v128 : Index := Scalar.indexCast v97
  let c0_158 : Index := 0#32
  ![v128.toNat, 0]
@[reducible] def k0_t15_loop : Scf.Loop 32 :=
  let c0_i32_151 : BitVec 32 := 0#32
  let c32_i32_152 : BitVec 32 := 32#32
  let v94 : BitVec 32 := Scalar.addi c0_i32_151 c32_i32_152
  let c1_i32_153 : BitVec 32 := 1#32
  ⟨c0_i32_151, v94, c1_i32_153⟩
def k0_mult16 (k0_t15 : Fin k0_t15_loop.trips) : BitVec 32 :=
  let c0_i32_151 : BitVec 32 := 0#32
  let c1_i32_153 : BitVec 32 := 1#32
  let arg21 : BitVec 32 := Scf.iv c0_i32_151 c1_i32_153 k0_t15
  let c128_i32 : BitVec 32 := 128#32
  let v96 : BitVec 32 := Scalar.muli arg21 c128_i32
  v96
def k0_off37 (k0_t15 : Fin k0_t15_loop.trips) : Fin 2 → Nat :=
  let c0_i32_151 : BitVec 32 := 0#32
  let c1_i32_153 : BitVec 32 := 1#32
  let arg21 : BitVec 32 := Scf.iv c0_i32_151 c1_i32_153 k0_t15
  let c128_i32 : BitVec 32 := 128#32
  let v96 : BitVec 32 := Scalar.muli arg21 c128_i32
  let v97 : BitVec 32 := v96
  let v98 : Index := Scalar.indexCast v97
  let c0_155 : Index := 0#32
  ![v98.toNat, 0]
def k0_off38 (k0_t15 : Fin k0_t15_loop.trips) : Fin 2 → Nat :=
  let c0_i32_151 : BitVec 32 := 0#32
  let c1_i32_153 : BitVec 32 := 1#32
  let arg21 : BitVec 32 := Scf.iv c0_i32_151 c1_i32_153 k0_t15
  let c128_i32 : BitVec 32 := 128#32
  let v96 : BitVec 32 := Scalar.muli arg21 c128_i32
  let v97 : BitVec 32 := v96
  let v214 : Index := Scalar.indexCast v97
  let c0_193 : Index := 0#32
  ![v214.toNat, 0]
@[reducible] def k0_t16_loop : Scf.Loop 32 :=
  let c0_i32_242 : BitVec 32 := 0#32
  let c128_i32_243 : BitVec 32 := 128#32
  let v314 : BitVec 32 := Scalar.addi c0_i32_242 c128_i32_243
  let c1_i32_244 : BitVec 32 := 1#32
  ⟨c0_i32_242, v314, c1_i32_244⟩
def k0_off39 (k0_t16 : Fin k0_t16_loop.trips) : Fin 3 → Nat :=
  let c0_i32_242 : BitVec 32 := 0#32
  let c1_i32_244 : BitVec 32 := 1#32
  let arg23 : BitVec 32 := Scf.iv c0_i32_242 c1_i32_244 k0_t16
  let v426 : Index := Scalar.indexCast arg23
  let c0_299 : Index := 0#32
  let c0_300 : Index := 0#32
  ![v426.toNat, 0, 0]
def k0_off40 (k0_t15 : Fin k0_t15_loop.trips) : Fin 3 → Nat :=
  let c0_297 : Index := 0#32
  let c0_i32_151 : BitVec 32 := 0#32
  let c1_i32_153 : BitVec 32 := 1#32
  let arg21 : BitVec 32 := Scf.iv c0_i32_151 c1_i32_153 k0_t15
  let c128_i32 : BitVec 32 := 128#32
  let v96 : BitVec 32 := Scalar.muli arg21 c128_i32
  let v97 : BitVec 32 := v96
  let v422 : Index := Scalar.indexCast v97
  let c0_298 : Index := 0#32
  ![0, v422.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x40 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x256x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x4096x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S8x4096x128 : Shape := ⟨3, ![8, 4096, 128]⟩
abbrev S4x512x128 : Shape := ⟨3, ![4, 512, 128]⟩
abbrev S4x256x4 : Shape := ⟨3, ![4, 256, 4]⟩
abbrev S4x256 : Shape := ⟨2, ![4, 256]⟩
abbrev S4x40x256 : Shape := ⟨3, ![4, 40, 256]⟩
abbrev S4x256x8 : Shape := ⟨3, ![4, 256, 8]⟩
abbrev S4x256x16 : Shape := ⟨3, ![4, 256, 16]⟩
abbrev S4x128x256 : Shape := ⟨3, ![4, 128, 256]⟩
abbrev S1x512x128 : Shape := ⟨3, ![1, 512, 128]⟩
abbrev S512x128 : Shape := ⟨2, ![512, 128]⟩
abbrev S1x256x4 : Shape := ⟨3, ![1, 256, 4]⟩
abbrev S256x4 : Shape := ⟨2, ![256, 4]⟩
abbrev S1x256 : Shape := ⟨2, ![1, 256]⟩
abbrev S256 : Shape := ⟨1, ![256]⟩
abbrev S1x40x256 : Shape := ⟨3, ![1, 40, 256]⟩
abbrev S40x256 : Shape := ⟨2, ![40, 256]⟩
abbrev S1x256x8 : Shape := ⟨3, ![1, 256, 8]⟩
abbrev S256x8 : Shape := ⟨2, ![256, 8]⟩
abbrev S1x256x16 : Shape := ⟨3, ![1, 256, 16]⟩
abbrev S256x16 : Shape := ⟨2, ![256, 16]⟩
abbrev S1x128x256 : Shape := ⟨3, ![1, 128, 256]⟩
abbrev S128x256 : Shape := ⟨2, ![128, 256]⟩
abbrev S128x512 : Shape := ⟨2, ![128, 512]⟩
abbrev S8x4096x512 : Shape := ⟨3, ![8, 4096, 512]⟩
abbrev S8x4096x256 : Shape := ⟨3, ![8, 4096, 256]⟩
abbrev S_ : Shape := ⟨0, ![]⟩
abbrev S8x4099x256 : Shape := ⟨3, ![8, 4099, 256]⟩
abbrev S256x1 : Shape := ⟨2, ![256, 1]⟩
abbrev S1x1x256 : Shape := ⟨3, ![1, 1, 256]⟩
abbrev S256x40 : Shape := ⟨2, ![256, 40]⟩
abbrev S8x4096x40 : Shape := ⟨3, ![8, 4096, 40]⟩
abbrev S8x4096x8 : Shape := ⟨3, ![8, 4096, 8]⟩
abbrev S8x4096x16 : Shape := ⟨3, ![8, 4096, 16]⟩
abbrev S8x256 : Shape := ⟨2, ![8, 256]⟩
abbrev S8x256x16 : Shape := ⟨3, ![8, 256, 16]⟩
abbrev S4096x8x256 : Shape := ⟨3, ![4096, 8, 256]⟩
abbrev S4096x8x16 : Shape := ⟨3, ![4096, 8, 16]⟩
abbrev S1x8x256 : Shape := ⟨3, ![1, 8, 256]⟩
abbrev S1x8x16 : Shape := ⟨3, ![1, 8, 16]⟩
abbrev S8x16 : Shape := ⟨2, ![8, 16]⟩
abbrev S8x256x1 : Shape := ⟨3, ![8, 256, 1]⟩
abbrev S8x1x16 : Shape := ⟨3, ![8, 1, 16]⟩
abbrev S256x128 : Shape := ⟨2, ![256, 128]⟩

abbrev nBuf : Space → Nat
  | .hbm => 662
  | .vmem => 0
  | .smem => 0
  | _ => 0

abbrev hbmTy0_0 (i : Nat) : BufTy := match i % 128 with
  | 0 => ⟨S8x4096x128, .f32⟩
  | 1 => ⟨S4x512x128, .f32⟩
  | 2 => ⟨S4x256x4, .f32⟩
  | 3 => ⟨S4x256, .f32⟩
  | 4 => ⟨S4x40x256, .f32⟩
  | 5 => ⟨S4x256x8, .f32⟩
  | 6 => ⟨S4x256, .f32⟩
  | 7 => ⟨S4x256x16, .f32⟩
  | 8 => ⟨S4x256, .f32⟩
  | 9 => ⟨S4x128x256, .f32⟩
  | 10 => ⟨S1x512x128, .f32⟩
  | 11 => ⟨S512x128, .f32⟩
  | 12 => ⟨S1x256x4, .f32⟩
  | 13 => ⟨S256x4, .f32⟩
  | 14 => ⟨S1x256, .f32⟩
  | 15 => ⟨S256, .f32⟩
  | 16 => ⟨S1x40x256, .f32⟩
  | 17 => ⟨S40x256, .f32⟩
  | 18 => ⟨S1x256x8, .f32⟩
  | 19 => ⟨S256x8, .f32⟩
  | 20 => ⟨S1x256, .f32⟩
  | 21 => ⟨S256, .f32⟩
  | 22 => ⟨S1x256x16, .f32⟩
  | 23 => ⟨S256x16, .f32⟩
  | 24 => ⟨S1x256, .f32⟩
  | 25 => ⟨S256, .f32⟩
  | 26 => ⟨S1x128x256, .f32⟩
  | 27 => ⟨S128x256, .f32⟩
  | 28 => ⟨S128x512, .f32⟩
  | 29 => ⟨S8x4096x512, .f32⟩
  | 30 => ⟨S8x4096x256, .f32⟩
  | 31 => ⟨S8x4096x256, .f32⟩
  | 32 => ⟨S_, .i32⟩
  | 33 => ⟨S_, .f32⟩
  | 34 => ⟨S8x4099x256, .f32⟩
  | 35 => ⟨S8x4096x256, .f32⟩
  | 36 => ⟨S256x1, .f32⟩
  | 37 => ⟨S256, .f32⟩
  | 38 => ⟨S1x1x256, .f32⟩
  | 39 => ⟨S8x4096x256, .f32⟩
  | 40 => ⟨S8x4096x256, .f32⟩
  | 41 => ⟨S1x1x256, .f32⟩
  | 42 => ⟨S8x4096x256, .f32⟩
  | 43 => ⟨S8x4096x256, .f32⟩
  | 44 => ⟨S8x4096x256, .f32⟩
  | 45 => ⟨S256x1, .f32⟩
  | 46 => ⟨S256, .f32⟩
  | 47 => ⟨S1x1x256, .f32⟩
  | 48 => ⟨S8x4096x256, .f32⟩
  | 49 => ⟨S8x4096x256, .f32⟩
  | 50 => ⟨S8x4096x256, .f32⟩
  | 51 => ⟨S8x4096x256, .f32⟩
  | 52 => ⟨S256x1, .f32⟩
  | 53 => ⟨S256, .f32⟩
  | 54 => ⟨S1x1x256, .f32⟩
  | 55 => ⟨S8x4096x256, .f32⟩
  | 56 => ⟨S8x4096x256, .f32⟩
  | 57 => ⟨S8x4096x256, .f32⟩
  | 58 => ⟨S8x4096x256, .f32⟩
  | 59 => ⟨S256x1, .f32⟩
  | 60 => ⟨S256, .f32⟩
  | 61 => ⟨S1x1x256, .f32⟩
  | 62 => ⟨S8x4096x256, .f32⟩
  | 63 => ⟨S8x4096x256, .f32⟩
  | 64 => ⟨S8x4096x256, .f32⟩
  | 65 => ⟨S8x4096x256, .f32⟩
  | 66 => ⟨S8x4096x256, .f32⟩
  | 67 => ⟨S_, .f32⟩
  | 68 => ⟨S8x4096x256, .f32⟩
  | 69 => ⟨S8x4096x256, .f32⟩
  | 70 => ⟨S_, .f32⟩
  | 71 => ⟨S8x4096x256, .f32⟩
  | 72 => ⟨S8x4096x256, .f32⟩
  | 73 => ⟨S8x4096x256, .f32⟩
  | 74 => ⟨S256x40, .f32⟩
  | 75 => ⟨S8x4096x40, .f32⟩
  | 76 => ⟨S8x4096x8, .f32⟩
  | 77 => ⟨S8x4096x16, .f32⟩
  | 78 => ⟨S8x4096x16, .f32⟩
  | 79 => ⟨S8x256, .f32⟩
  | 80 => ⟨S8x4096x256, .f32⟩
  | 81 => ⟨S1x1x256, .f32⟩
  | 82 => ⟨S8x4096x256, .f32⟩
  | 83 => ⟨S8x4096x256, .f32⟩
  | 84 => ⟨S_, .f32⟩
  | 85 => ⟨S8x4096x256, .f32⟩
  | 86 => ⟨S8x4096x256, .f32⟩
  | 87 => ⟨S8x4096x256, .f32⟩
  | 88 => ⟨S8x4096x256, .f32⟩
  | 89 => ⟨S8x4096x256, .i1⟩
  | 90 => ⟨S8x4096x256, .f32⟩
  | 91 => ⟨S8x4096x256, .f32⟩
  | 92 => ⟨S8x4096x256, .f32⟩
  | 93 => ⟨S8x4096x256, .f32⟩
  | 94 => ⟨S8x4096x256, .f32⟩
  | 95 => ⟨S8x4096x256, .f32⟩
  | 96 => ⟨S8x4096x256, .f32⟩
  | 97 => ⟨S8x4096x256, .f32⟩
  | 98 => ⟨S256x16, .f32⟩
  | 99 => ⟨S256x16, .f32⟩
  | 100 => ⟨S_, .f32⟩
  | 101 => ⟨S8x256x16, .f32⟩
  | 102 => ⟨S4096x8x256, .f32⟩
  | 103 => ⟨S4096x8x16, .f32⟩
  | 104 => ⟨S4096x8x16, .f32⟩
  | 105 => ⟨S4096x8x256, .f32⟩
  | 106 => ⟨S_, .f32⟩
  | 107 => ⟨S4096x8x256, .f32⟩
  | 108 => ⟨S_, .i32⟩
  | 109 => ⟨S4096x8x256, .f32⟩
  | 110 => ⟨S4096x8x16, .f32⟩
  | 111 => ⟨S4096x8x16, .f32⟩
  | 112 => ⟨S4096x8x256, .f32⟩
  | 113 => ⟨S256x16, .f32⟩
  | 114 => ⟨S_, .i32⟩
  | 115 => ⟨S8x256x16, .f32⟩
  | 116 => ⟨S4096x8x256, .f32⟩
  | 117 => ⟨S_, .i32⟩
  | 118 => ⟨S_, .i1⟩
  | 119 => ⟨S_, .i32⟩
  | 120 => ⟨S_, .i32⟩
  | 121 => ⟨S1x8x256, .f32⟩
  | 122 => ⟨S8x256, .f32⟩
  | 123 => ⟨S_, .i32⟩
  | 124 => ⟨S_, .i32⟩
  | 125 => ⟨S1x8x16, .f32⟩
  | 126 => ⟨S8x16, .f32⟩
  | 127 => ⟨S_, .i32⟩
  | _ => ⟨S8x4096x128, .f32⟩

abbrev hbmTy0_1 (i : Nat) : BufTy := match i % 128 with
  | 0 => ⟨S_, .i32⟩
  | 1 => ⟨S1x8x16, .f32⟩
  | 2 => ⟨S8x16, .f32⟩
  | 3 => ⟨S_, .i32⟩
  | 4 => ⟨S_, .i32⟩
  | 5 => ⟨S1x8x256, .f32⟩
  | 6 => ⟨S8x256, .f32⟩
  | 7 => ⟨S8x256x1, .f32⟩
  | 8 => ⟨S1x256x16, .f32⟩
  | 9 => ⟨S8x256x16, .f32⟩
  | 10 => ⟨S8x256x16, .f32⟩
  | 11 => ⟨S8x256x16, .f32⟩
  | 12 => ⟨S8x256x16, .f32⟩
  | 13 => ⟨S8x256x16, .f32⟩
  | 14 => ⟨S8x256, .f32⟩
  | 15 => ⟨S8x256x1, .f32⟩
  | 16 => ⟨S8x1x16, .f32⟩
  | 17 => ⟨S8x256x16, .f32⟩
  | 18 => ⟨S8x256x16, .f32⟩
  | 19 => ⟨S8x256x16, .f32⟩
  | 20 => ⟨S8x256x16, .f32⟩
  | 21 => ⟨S8x256, .f32⟩
  | 22 => ⟨S1x8x256, .f32⟩
  | 23 => ⟨S_, .i32⟩
  | 24 => ⟨S_, .i32⟩
  | 25 => ⟨S4096x8x256, .f32⟩
  | 26 => ⟨S_, .i32⟩
  | 27 => ⟨S_, .i32⟩
  | 28 => ⟨S8x4096x256, .f32⟩
  | 29 => ⟨S1x1x256, .f32⟩
  | 30 => ⟨S8x4096x256, .f32⟩
  | 31 => ⟨S8x4096x256, .f32⟩
  | 32 => ⟨S8x4096x256, .f32⟩
  | 33 => ⟨S8x4096x256, .f32⟩
  | 34 => ⟨S8x4096x256, .f32⟩
  | 35 => ⟨S_, .f32⟩
  | 36 => ⟨S8x4096x256, .f32⟩
  | 37 => ⟨S8x4096x256, .f32⟩
  | 38 => ⟨S_, .f32⟩
  | 39 => ⟨S8x4096x256, .f32⟩
  | 40 => ⟨S8x4096x256, .f32⟩
  | 41 => ⟨S8x4096x256, .f32⟩
  | 42 => ⟨S8x4096x256, .f32⟩
  | 43 => ⟨S256x128, .f32⟩
  | 44 => ⟨S8x4096x128, .f32⟩
  | 45 => ⟨S1x512x128, .f32⟩
  | 46 => ⟨S512x128, .f32⟩
  | 47 => ⟨S1x256x4, .f32⟩
  | 48 => ⟨S256x4, .f32⟩
  | 49 => ⟨S1x256, .f32⟩
  | 50 => ⟨S256, .f32⟩
  | 51 => ⟨S1x40x256, .f32⟩
  | 52 => ⟨S40x256, .f32⟩
  | 53 => ⟨S1x256x8, .f32⟩
  | 54 => ⟨S256x8, .f32⟩
  | 55 => ⟨S1x256, .f32⟩
  | 56 => ⟨S256, .f32⟩
  | 57 => ⟨S1x256x16, .f32⟩
  | 58 => ⟨S256x16, .f32⟩
  | 59 => ⟨S1x256, .f32⟩
  | 60 => ⟨S256, .f32⟩
  | 61 => ⟨S1x128x256, .f32⟩
  | 62 => ⟨S128x256, .f32⟩
  | 63 => ⟨S128x512, .f32⟩
  | 64 => ⟨S8x4096x512, .f32⟩
  | 65 => ⟨S8x4096x256, .f32⟩
  | 66 => ⟨S8x4096x256, .f32⟩
  | 67 => ⟨S_, .i32⟩
  | 68 => ⟨S_, .f32⟩
  | 69 => ⟨S8x4099x256, .f32⟩
  | 70 => ⟨S8x4096x256, .f32⟩
  | 71 => ⟨S256x1, .f32⟩
  | 72 => ⟨S256, .f32⟩
  | 73 => ⟨S1x1x256, .f32⟩
  | 74 => ⟨S8x4096x256, .f32⟩
  | 75 => ⟨S8x4096x256, .f32⟩
  | 76 => ⟨S1x1x256, .f32⟩
  | 77 => ⟨S8x4096x256, .f32⟩
  | 78 => ⟨S8x4096x256, .f32⟩
  | 79 => ⟨S8x4096x256, .f32⟩
  | 80 => ⟨S256x1, .f32⟩
  | 81 => ⟨S256, .f32⟩
  | 82 => ⟨S1x1x256, .f32⟩
  | 83 => ⟨S8x4096x256, .f32⟩
  | 84 => ⟨S8x4096x256, .f32⟩
  | 85 => ⟨S8x4096x256, .f32⟩
  | 86 => ⟨S8x4096x256, .f32⟩
  | 87 => ⟨S256x1, .f32⟩
  | 88 => ⟨S256, .f32⟩
  | 89 => ⟨S1x1x256, .f32⟩
  | 90 => ⟨S8x4096x256, .f32⟩
  | 91 => ⟨S8x4096x256, .f32⟩
  | 92 => ⟨S8x4096x256, .f32⟩
  | 93 => ⟨S8x4096x256, .f32⟩
  | 94 => ⟨S256x1, .f32⟩
  | 95 => ⟨S256, .f32⟩
  | 96 => ⟨S1x1x256, .f32⟩
  | 97 => ⟨S8x4096x256, .f32⟩
  | 98 => ⟨S8x4096x256, .f32⟩
  | 99 => ⟨S8x4096x256, .f32⟩
  | 100 => ⟨S8x4096x256, .f32⟩
  | 101 => ⟨S8x4096x256, .f32⟩
  | 102 => ⟨S_, .f32⟩
  | 103 => ⟨S8x4096x256, .f32⟩
  | 104 => ⟨S8x4096x256, .f32⟩
  | 105 => ⟨S_, .f32⟩
  | 106 => ⟨S8x4096x256, .f32⟩
  | 107 => ⟨S8x4096x256, .f32⟩
  | 108 => ⟨S8x4096x256, .f32⟩
  | 109 => ⟨S256x40, .f32⟩
  | 110 => ⟨S8x4096x40, .f32⟩
  | 111 => ⟨S8x4096x8, .f32⟩
  | 112 => ⟨S8x4096x16, .f32⟩
  | 113 => ⟨S8x4096x16, .f32⟩
  | 114 => ⟨S8x256, .f32⟩
  | 115 => ⟨S8x4096x256, .f32⟩
  | 116 => ⟨S1x1x256, .f32⟩
  | 117 => ⟨S8x4096x256, .f32⟩
  | 118 => ⟨S8x4096x256, .f32⟩
  | 119 => ⟨S_, .f32⟩
  | 120 => ⟨S8x4096x256, .f32⟩
  | 121 => ⟨S8x4096x256, .f32⟩
  | 122 => ⟨S8x4096x256, .f32⟩
  | 123 => ⟨S8x4096x256, .f32⟩
  | 124 => ⟨S8x4096x256, .i1⟩
  | 125 => ⟨S8x4096x256, .f32⟩
  | 126 => ⟨S8x4096x256, .f32⟩
  | 127 => ⟨S8x4096x256, .f32⟩
  | _ => ⟨S8x4096x128, .f32⟩

abbrev hbmTy0_2 (i : Nat) : BufTy := match i % 128 with
  | 0 => ⟨S8x4096x256, .f32⟩
  | 1 => ⟨S8x4096x256, .f32⟩
  | 2 => ⟨S8x4096x256, .f32⟩
  | 3 => ⟨S8x4096x256, .f32⟩
  | 4 => ⟨S8x4096x256, .f32⟩
  | 5 => ⟨S256x16, .f32⟩
  | 6 => ⟨S256x16, .f32⟩
  | 7 => ⟨S_, .f32⟩
  | 8 => ⟨S8x256x16, .f32⟩
  | 9 => ⟨S4096x8x256, .f32⟩
  | 10 => ⟨S4096x8x16, .f32⟩
  | 11 => ⟨S4096x8x16, .f32⟩
  | 12 => ⟨S4096x8x256, .f32⟩
  | 13 => ⟨S_, .f32⟩
  | 14 => ⟨S4096x8x256, .f32⟩
  | 15 => ⟨S_, .i32⟩
  | 16 => ⟨S4096x8x256, .f32⟩
  | 17 => ⟨S4096x8x16, .f32⟩
  | 18 => ⟨S4096x8x16, .f32⟩
  | 19 => ⟨S4096x8x256, .f32⟩
  | 20 => ⟨S256x16, .f32⟩
  | 21 => ⟨S_, .i32⟩
  | 22 => ⟨S8x256x16, .f32⟩
  | 23 => ⟨S4096x8x256, .f32⟩
  | 24 => ⟨S_, .i32⟩
  | 25 => ⟨S_, .i1⟩
  | 26 => ⟨S_, .i32⟩
  | 27 => ⟨S_, .i32⟩
  | 28 => ⟨S1x8x256, .f32⟩
  | 29 => ⟨S8x256, .f32⟩
  | 30 => ⟨S_, .i32⟩
  | 31 => ⟨S_, .i32⟩
  | 32 => ⟨S1x8x16, .f32⟩
  | 33 => ⟨S8x16, .f32⟩
  | 34 => ⟨S_, .i32⟩
  | 35 => ⟨S_, .i32⟩
  | 36 => ⟨S1x8x16, .f32⟩
  | 37 => ⟨S8x16, .f32⟩
  | 38 => ⟨S_, .i32⟩
  | 39 => ⟨S_, .i32⟩
  | 40 => ⟨S1x8x256, .f32⟩
  | 41 => ⟨S8x256, .f32⟩
  | 42 => ⟨S8x256x1, .f32⟩
  | 43 => ⟨S1x256x16, .f32⟩
  | 44 => ⟨S8x256x16, .f32⟩
  | 45 => ⟨S8x256x16, .f32⟩
  | 46 => ⟨S8x256x16, .f32⟩
  | 47 => ⟨S8x256x16, .f32⟩
  | 48 => ⟨S8x256x16, .f32⟩
  | 49 => ⟨S8x256, .f32⟩
  | 50 => ⟨S8x256x1, .f32⟩
  | 51 => ⟨S8x1x16, .f32⟩
  | 52 => ⟨S8x256x16, .f32⟩
  | 53 => ⟨S8x256x16, .f32⟩
  | 54 => ⟨S8x256x16, .f32⟩
  | 55 => ⟨S8x256x16, .f32⟩
  | 56 => ⟨S8x256, .f32⟩
  | 57 => ⟨S1x8x256, .f32⟩
  | 58 => ⟨S_, .i32⟩
  | 59 => ⟨S_, .i32⟩
  | 60 => ⟨S4096x8x256, .f32⟩
  | 61 => ⟨S_, .i32⟩
  | 62 => ⟨S_, .i32⟩
  | 63 => ⟨S8x4096x256, .f32⟩
  | 64 => ⟨S1x1x256, .f32⟩
  | 65 => ⟨S8x4096x256, .f32⟩
  | 66 => ⟨S8x4096x256, .f32⟩
  | 67 => ⟨S8x4096x256, .f32⟩
  | 68 => ⟨S8x4096x256, .f32⟩
  | 69 => ⟨S8x4096x256, .f32⟩
  | 70 => ⟨S_, .f32⟩
  | 71 => ⟨S8x4096x256, .f32⟩
  | 72 => ⟨S8x4096x256, .f32⟩
  | 73 => ⟨S_, .f32⟩
  | 74 => ⟨S8x4096x256, .f32⟩
  | 75 => ⟨S8x4096x256, .f32⟩
  | 76 => ⟨S8x4096x256, .f32⟩
  | 77 => ⟨S8x4096x256, .f32⟩
  | 78 => ⟨S256x128, .f32⟩
  | 79 => ⟨S8x4096x128, .f32⟩
  | 80 => ⟨S1x512x128, .f32⟩
  | 81 => ⟨S512x128, .f32⟩
  | 82 => ⟨S1x256x4, .f32⟩
  | 83 => ⟨S256x4, .f32⟩
  | 84 => ⟨S1x256, .f32⟩
  | 85 => ⟨S256, .f32⟩
  | 86 => ⟨S1x40x256, .f32⟩
  | 87 => ⟨S40x256, .f32⟩
  | 88 => ⟨S1x256x8, .f32⟩
  | 89 => ⟨S256x8, .f32⟩
  | 90 => ⟨S1x256, .f32⟩
  | 91 => ⟨S256, .f32⟩
  | 92 => ⟨S1x256x16, .f32⟩
  | 93 => ⟨S256x16, .f32⟩
  | 94 => ⟨S1x256, .f32⟩
  | 95 => ⟨S256, .f32⟩
  | 96 => ⟨S1x128x256, .f32⟩
  | 97 => ⟨S128x256, .f32⟩
  | 98 => ⟨S128x512, .f32⟩
  | 99 => ⟨S8x4096x512, .f32⟩
  | 100 => ⟨S8x4096x256, .f32⟩
  | 101 => ⟨S8x4096x256, .f32⟩
  | 102 => ⟨S_, .i32⟩
  | 103 => ⟨S_, .f32⟩
  | 104 => ⟨S8x4099x256, .f32⟩
  | 105 => ⟨S8x4096x256, .f32⟩
  | 106 => ⟨S256x1, .f32⟩
  | 107 => ⟨S256, .f32⟩
  | 108 => ⟨S1x1x256, .f32⟩
  | 109 => ⟨S8x4096x256, .f32⟩
  | 110 => ⟨S8x4096x256, .f32⟩
  | 111 => ⟨S1x1x256, .f32⟩
  | 112 => ⟨S8x4096x256, .f32⟩
  | 113 => ⟨S8x4096x256, .f32⟩
  | 114 => ⟨S8x4096x256, .f32⟩
  | 115 => ⟨S256x1, .f32⟩
  | 116 => ⟨S256, .f32⟩
  | 117 => ⟨S1x1x256, .f32⟩
  | 118 => ⟨S8x4096x256, .f32⟩
  | 119 => ⟨S8x4096x256, .f32⟩
  | 120 => ⟨S8x4096x256, .f32⟩
  | 121 => ⟨S8x4096x256, .f32⟩
  | 122 => ⟨S256x1, .f32⟩
  | 123 => ⟨S256, .f32⟩
  | 124 => ⟨S1x1x256, .f32⟩
  | 125 => ⟨S8x4096x256, .f32⟩
  | 126 => ⟨S8x4096x256, .f32⟩
  | 127 => ⟨S8x4096x256, .f32⟩
  | _ => ⟨S8x4096x128, .f32⟩

abbrev hbmTy0_3 (i : Nat) : BufTy := match i % 128 with
  | 0 => ⟨S8x4096x256, .f32⟩
  | 1 => ⟨S256x1, .f32⟩
  | 2 => ⟨S256, .f32⟩
  | 3 => ⟨S1x1x256, .f32⟩
  | 4 => ⟨S8x4096x256, .f32⟩
  | 5 => ⟨S8x4096x256, .f32⟩
  | 6 => ⟨S8x4096x256, .f32⟩
  | 7 => ⟨S8x4096x256, .f32⟩
  | 8 => ⟨S8x4096x256, .f32⟩
  | 9 => ⟨S_, .f32⟩
  | 10 => ⟨S8x4096x256, .f32⟩
  | 11 => ⟨S8x4096x256, .f32⟩
  | 12 => ⟨S_, .f32⟩
  | 13 => ⟨S8x4096x256, .f32⟩
  | 14 => ⟨S8x4096x256, .f32⟩
  | 15 => ⟨S8x4096x256, .f32⟩
  | 16 => ⟨S256x40, .f32⟩
  | 17 => ⟨S8x4096x40, .f32⟩
  | 18 => ⟨S8x4096x8, .f32⟩
  | 19 => ⟨S8x4096x16, .f32⟩
  | 20 => ⟨S8x4096x16, .f32⟩
  | 21 => ⟨S8x256, .f32⟩
  | 22 => ⟨S8x4096x256, .f32⟩
  | 23 => ⟨S1x1x256, .f32⟩
  | 24 => ⟨S8x4096x256, .f32⟩
  | 25 => ⟨S8x4096x256, .f32⟩
  | 26 => ⟨S_, .f32⟩
  | 27 => ⟨S8x4096x256, .f32⟩
  | 28 => ⟨S8x4096x256, .f32⟩
  | 29 => ⟨S8x4096x256, .f32⟩
  | 30 => ⟨S8x4096x256, .f32⟩
  | 31 => ⟨S8x4096x256, .i1⟩
  | 32 => ⟨S8x4096x256, .f32⟩
  | 33 => ⟨S8x4096x256, .f32⟩
  | 34 => ⟨S8x4096x256, .f32⟩
  | 35 => ⟨S8x4096x256, .f32⟩
  | 36 => ⟨S8x4096x256, .f32⟩
  | 37 => ⟨S8x4096x256, .f32⟩
  | 38 => ⟨S8x4096x256, .f32⟩
  | 39 => ⟨S8x4096x256, .f32⟩
  | 40 => ⟨S256x16, .f32⟩
  | 41 => ⟨S256x16, .f32⟩
  | 42 => ⟨S_, .f32⟩
  | 43 => ⟨S8x256x16, .f32⟩
  | 44 => ⟨S4096x8x256, .f32⟩
  | 45 => ⟨S4096x8x16, .f32⟩
  | 46 => ⟨S4096x8x16, .f32⟩
  | 47 => ⟨S4096x8x256, .f32⟩
  | 48 => ⟨S_, .f32⟩
  | 49 => ⟨S4096x8x256, .f32⟩
  | 50 => ⟨S_, .i32⟩
  | 51 => ⟨S4096x8x256, .f32⟩
  | 52 => ⟨S4096x8x16, .f32⟩
  | 53 => ⟨S4096x8x16, .f32⟩
  | 54 => ⟨S4096x8x256, .f32⟩
  | 55 => ⟨S256x16, .f32⟩
  | 56 => ⟨S_, .i32⟩
  | 57 => ⟨S8x256x16, .f32⟩
  | 58 => ⟨S4096x8x256, .f32⟩
  | 59 => ⟨S_, .i32⟩
  | 60 => ⟨S_, .i1⟩
  | 61 => ⟨S_, .i32⟩
  | 62 => ⟨S_, .i32⟩
  | 63 => ⟨S1x8x256, .f32⟩
  | 64 => ⟨S8x256, .f32⟩
  | 65 => ⟨S_, .i32⟩
  | 66 => ⟨S_, .i32⟩
  | 67 => ⟨S1x8x16, .f32⟩
  | 68 => ⟨S8x16, .f32⟩
  | 69 => ⟨S_, .i32⟩
  | 70 => ⟨S_, .i32⟩
  | 71 => ⟨S1x8x16, .f32⟩
  | 72 => ⟨S8x16, .f32⟩
  | 73 => ⟨S_, .i32⟩
  | 74 => ⟨S_, .i32⟩
  | 75 => ⟨S1x8x256, .f32⟩
  | 76 => ⟨S8x256, .f32⟩
  | 77 => ⟨S8x256x1, .f32⟩
  | 78 => ⟨S1x256x16, .f32⟩
  | 79 => ⟨S8x256x16, .f32⟩
  | 80 => ⟨S8x256x16, .f32⟩
  | 81 => ⟨S8x256x16, .f32⟩
  | 82 => ⟨S8x256x16, .f32⟩
  | 83 => ⟨S8x256x16, .f32⟩
  | 84 => ⟨S8x256, .f32⟩
  | 85 => ⟨S8x256x1, .f32⟩
  | 86 => ⟨S8x1x16, .f32⟩
  | 87 => ⟨S8x256x16, .f32⟩
  | 88 => ⟨S8x256x16, .f32⟩
  | 89 => ⟨S8x256x16, .f32⟩
  | 90 => ⟨S8x256x16, .f32⟩
  | 91 => ⟨S8x256, .f32⟩
  | 92 => ⟨S1x8x256, .f32⟩
  | 93 => ⟨S_, .i32⟩
  | 94 => ⟨S_, .i32⟩
  | 95 => ⟨S4096x8x256, .f32⟩
  | 96 => ⟨S_, .i32⟩
  | 97 => ⟨S_, .i32⟩
  | 98 => ⟨S8x4096x256, .f32⟩
  | 99 => ⟨S1x1x256, .f32⟩
  | 100 => ⟨S8x4096x256, .f32⟩
  | 101 => ⟨S8x4096x256, .f32⟩
  | 102 => ⟨S8x4096x256, .f32⟩
  | 103 => ⟨S8x4096x256, .f32⟩
  | 104 => ⟨S8x4096x256, .f32⟩
  | 105 => ⟨S_, .f32⟩
  | 106 => ⟨S8x4096x256, .f32⟩
  | 107 => ⟨S8x4096x256, .f32⟩
  | 108 => ⟨S_, .f32⟩
  | 109 => ⟨S8x4096x256, .f32⟩
  | 110 => ⟨S8x4096x256, .f32⟩
  | 111 => ⟨S8x4096x256, .f32⟩
  | 112 => ⟨S8x4096x256, .f32⟩
  | 113 => ⟨S256x128, .f32⟩
  | 114 => ⟨S8x4096x128, .f32⟩
  | 115 => ⟨S1x512x128, .f32⟩
  | 116 => ⟨S512x128, .f32⟩
  | 117 => ⟨S1x256x4, .f32⟩
  | 118 => ⟨S256x4, .f32⟩
  | 119 => ⟨S1x256, .f32⟩
  | 120 => ⟨S256, .f32⟩
  | 121 => ⟨S1x40x256, .f32⟩
  | 122 => ⟨S40x256, .f32⟩
  | 123 => ⟨S1x256x8, .f32⟩
  | 124 => ⟨S256x8, .f32⟩
  | 125 => ⟨S1x256, .f32⟩
  | 126 => ⟨S256, .f32⟩
  | 127 => ⟨S1x256x16, .f32⟩
  | _ => ⟨S8x4096x128, .f32⟩

abbrev hbmTy0_4 (i : Nat) : BufTy := match i % 128 with
  | 0 => ⟨S256x16, .f32⟩
  | 1 => ⟨S1x256, .f32⟩
  | 2 => ⟨S256, .f32⟩
  | 3 => ⟨S1x128x256, .f32⟩
  | 4 => ⟨S128x256, .f32⟩
  | 5 => ⟨S128x512, .f32⟩
  | 6 => ⟨S8x4096x512, .f32⟩
  | 7 => ⟨S8x4096x256, .f32⟩
  | 8 => ⟨S8x4096x256, .f32⟩
  | 9 => ⟨S_, .i32⟩
  | 10 => ⟨S_, .f32⟩
  | 11 => ⟨S8x4099x256, .f32⟩
  | 12 => ⟨S8x4096x256, .f32⟩
  | 13 => ⟨S256x1, .f32⟩
  | 14 => ⟨S256, .f32⟩
  | 15 => ⟨S1x1x256, .f32⟩
  | 16 => ⟨S8x4096x256, .f32⟩
  | 17 => ⟨S8x4096x256, .f32⟩
  | 18 => ⟨S1x1x256, .f32⟩
  | 19 => ⟨S8x4096x256, .f32⟩
  | 20 => ⟨S8x4096x256, .f32⟩
  | 21 => ⟨S8x4096x256, .f32⟩
  | 22 => ⟨S256x1, .f32⟩
  | 23 => ⟨S256, .f32⟩
  | 24 => ⟨S1x1x256, .f32⟩
  | 25 => ⟨S8x4096x256, .f32⟩
  | 26 => ⟨S8x4096x256, .f32⟩
  | 27 => ⟨S8x4096x256, .f32⟩
  | 28 => ⟨S8x4096x256, .f32⟩
  | 29 => ⟨S256x1, .f32⟩
  | 30 => ⟨S256, .f32⟩
  | 31 => ⟨S1x1x256, .f32⟩
  | 32 => ⟨S8x4096x256, .f32⟩
  | 33 => ⟨S8x4096x256, .f32⟩
  | 34 => ⟨S8x4096x256, .f32⟩
  | 35 => ⟨S8x4096x256, .f32⟩
  | 36 => ⟨S256x1, .f32⟩
  | 37 => ⟨S256, .f32⟩
  | 38 => ⟨S1x1x256, .f32⟩
  | 39 => ⟨S8x4096x256, .f32⟩
  | 40 => ⟨S8x4096x256, .f32⟩
  | 41 => ⟨S8x4096x256, .f32⟩
  | 42 => ⟨S8x4096x256, .f32⟩
  | 43 => ⟨S8x4096x256, .f32⟩
  | 44 => ⟨S_, .f32⟩
  | 45 => ⟨S8x4096x256, .f32⟩
  | 46 => ⟨S8x4096x256, .f32⟩
  | 47 => ⟨S_, .f32⟩
  | 48 => ⟨S8x4096x256, .f32⟩
  | 49 => ⟨S8x4096x256, .f32⟩
  | 50 => ⟨S8x4096x256, .f32⟩
  | 51 => ⟨S256x40, .f32⟩
  | 52 => ⟨S8x4096x40, .f32⟩
  | 53 => ⟨S8x4096x8, .f32⟩
  | 54 => ⟨S8x4096x16, .f32⟩
  | 55 => ⟨S8x4096x16, .f32⟩
  | 56 => ⟨S8x256, .f32⟩
  | 57 => ⟨S8x4096x256, .f32⟩
  | 58 => ⟨S1x1x256, .f32⟩
  | 59 => ⟨S8x4096x256, .f32⟩
  | 60 => ⟨S8x4096x256, .f32⟩
  | 61 => ⟨S_, .f32⟩
  | 62 => ⟨S8x4096x256, .f32⟩
  | 63 => ⟨S8x4096x256, .f32⟩
  | 64 => ⟨S8x4096x256, .f32⟩
  | 65 => ⟨S8x4096x256, .f32⟩
  | 66 => ⟨S8x4096x256, .i1⟩
  | 67 => ⟨S8x4096x256, .f32⟩
  | 68 => ⟨S8x4096x256, .f32⟩
  | 69 => ⟨S8x4096x256, .f32⟩
  | 70 => ⟨S8x4096x256, .f32⟩
  | 71 => ⟨S8x4096x256, .f32⟩
  | 72 => ⟨S8x4096x256, .f32⟩
  | 73 => ⟨S8x4096x256, .f32⟩
  | 74 => ⟨S8x4096x256, .f32⟩
  | 75 => ⟨S256x16, .f32⟩
  | 76 => ⟨S256x16, .f32⟩
  | 77 => ⟨S_, .f32⟩
  | 78 => ⟨S8x256x16, .f32⟩
  | 79 => ⟨S4096x8x256, .f32⟩
  | 80 => ⟨S4096x8x16, .f32⟩
  | 81 => ⟨S4096x8x16, .f32⟩
  | 82 => ⟨S4096x8x256, .f32⟩
  | 83 => ⟨S_, .f32⟩
  | 84 => ⟨S4096x8x256, .f32⟩
  | 85 => ⟨S_, .i32⟩
  | 86 => ⟨S4096x8x256, .f32⟩
  | 87 => ⟨S4096x8x16, .f32⟩
  | 88 => ⟨S4096x8x16, .f32⟩
  | 89 => ⟨S4096x8x256, .f32⟩
  | 90 => ⟨S256x16, .f32⟩
  | 91 => ⟨S_, .i32⟩
  | 92 => ⟨S8x256x16, .f32⟩
  | 93 => ⟨S4096x8x256, .f32⟩
  | 94 => ⟨S_, .i32⟩
  | 95 => ⟨S_, .i1⟩
  | 96 => ⟨S_, .i32⟩
  | 97 => ⟨S_, .i32⟩
  | 98 => ⟨S1x8x256, .f32⟩
  | 99 => ⟨S8x256, .f32⟩
  | 100 => ⟨S_, .i32⟩
  | 101 => ⟨S_, .i32⟩
  | 102 => ⟨S1x8x16, .f32⟩
  | 103 => ⟨S8x16, .f32⟩
  | 104 => ⟨S_, .i32⟩
  | 105 => ⟨S_, .i32⟩
  | 106 => ⟨S1x8x16, .f32⟩
  | 107 => ⟨S8x16, .f32⟩
  | 108 => ⟨S_, .i32⟩
  | 109 => ⟨S_, .i32⟩
  | 110 => ⟨S1x8x256, .f32⟩
  | 111 => ⟨S8x256, .f32⟩
  | 112 => ⟨S8x256x1, .f32⟩
  | 113 => ⟨S1x256x16, .f32⟩
  | 114 => ⟨S8x256x16, .f32⟩
  | 115 => ⟨S8x256x16, .f32⟩
  | 116 => ⟨S8x256x16, .f32⟩
  | 117 => ⟨S8x256x16, .f32⟩
  | 118 => ⟨S8x256x16, .f32⟩
  | 119 => ⟨S8x256, .f32⟩
  | 120 => ⟨S8x256x1, .f32⟩
  | 121 => ⟨S8x1x16, .f32⟩
  | 122 => ⟨S8x256x16, .f32⟩
  | 123 => ⟨S8x256x16, .f32⟩
  | 124 => ⟨S8x256x16, .f32⟩
  | 125 => ⟨S8x256x16, .f32⟩
  | 126 => ⟨S8x256, .f32⟩
  | 127 => ⟨S1x8x256, .f32⟩
  | _ => ⟨S8x4096x128, .f32⟩

abbrev hbmTy0_5 (i : Nat) : BufTy := match i % 128 with
  | 0 => ⟨S_, .i32⟩
  | 1 => ⟨S_, .i32⟩
  | 2 => ⟨S4096x8x256, .f32⟩
  | 3 => ⟨S_, .i32⟩
  | 4 => ⟨S_, .i32⟩
  | 5 => ⟨S8x4096x256, .f32⟩
  | 6 => ⟨S1x1x256, .f32⟩
  | 7 => ⟨S8x4096x256, .f32⟩
  | 8 => ⟨S8x4096x256, .f32⟩
  | 9 => ⟨S8x4096x256, .f32⟩
  | 10 => ⟨S8x4096x256, .f32⟩
  | 11 => ⟨S8x4096x256, .f32⟩
  | 12 => ⟨S_, .f32⟩
  | 13 => ⟨S8x4096x256, .f32⟩
  | 14 => ⟨S8x4096x256, .f32⟩
  | 15 => ⟨S_, .f32⟩
  | 16 => ⟨S8x4096x256, .f32⟩
  | 17 => ⟨S8x4096x256, .f32⟩
  | 18 => ⟨S8x4096x256, .f32⟩
  | 19 => ⟨S8x4096x256, .f32⟩
  | 20 => ⟨S256x128, .f32⟩
  | 21 => ⟨S8x4096x128, .f32⟩
  | _ => ⟨S8x4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x4096x128, .f32⟩

abbrev bufTy : (tb : Table) → Fin (tcTables nBuf tb) → BufTy
  | .hbm, ⟨i, _⟩ => hbmTy i
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_call2_cst : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_0 : Ref sig .tc := ⟨.hbm, 106, rfl⟩
abbrev main_v72 : Ref sig .tc := ⟨.hbm, 107, rfl⟩
abbrev main_c_1 : Ref sig .tc := ⟨.hbm, 108, rfl⟩
abbrev main_v73_0 : Ref sig .tc := ⟨.hbm, 109, rfl⟩
abbrev main_v73_1 : Ref sig .tc := ⟨.hbm, 110, rfl⟩
abbrev main_v73_2 : Ref sig .tc := ⟨.hbm, 111, rfl⟩
abbrev main_v73_3 : Ref sig .tc := ⟨.hbm, 112, rfl⟩
abbrev main_v73_4 : Ref sig .tc := ⟨.hbm, 113, rfl⟩
abbrev main_v73_5 : Ref sig .tc := ⟨.hbm, 114, rfl⟩
abbrev main_v73_6 : Ref sig .tc := ⟨.hbm, 115, rfl⟩
abbrev main_v73_7 : Ref sig .tc := ⟨.hbm, 116, rfl⟩
abbrev main_while0c_c_21 : Ref sig .tc := ⟨.hbm, 117, rfl⟩
abbrev main_while0c_v332 : Ref sig .tc := ⟨.hbm, 118, rfl⟩
abbrev main_while0b_call3_c : Ref sig .tc := ⟨.hbm, 119, rfl⟩
abbrev main_while0b_call3_c_0 : Ref sig .tc := ⟨.hbm, 120, rfl⟩
abbrev main_while0b_call3_v0 : Ref sig .tc := ⟨.hbm, 121, rfl⟩
abbrev main_while0b_v332 : Ref sig .tc := ⟨.hbm, 122, rfl⟩
abbrev main_while0b_call4_c : Ref sig .tc := ⟨.hbm, 123, rfl⟩
abbrev main_while0b_call4_c_0 : Ref sig .tc := ⟨.hbm, 124, rfl⟩
abbrev main_while0b_call4_v0 : Ref sig .tc := ⟨.hbm, 125, rfl⟩
abbrev main_while0b_v333 : Ref sig .tc := ⟨.hbm, 126, rfl⟩
abbrev main_while0b_call5_c : Ref sig .tc := ⟨.hbm, 127, rfl⟩
abbrev main_while0b_call5_c_0 : Ref sig .tc := ⟨.hbm, 128, rfl⟩
abbrev main_while0b_call5_v0 : Ref sig .tc := ⟨.hbm, 129, rfl⟩
abbrev main_while0b_v334 : Ref sig .tc := ⟨.hbm, 130, rfl⟩
abbrev main_while0b_call6_c : Ref sig .tc := ⟨.hbm, 131, rfl⟩
abbrev main_while0b_call6_c_0 : Ref sig .tc := ⟨.hbm, 132, rfl⟩
abbrev main_while0b_call6_v0 : Ref sig .tc := ⟨.hbm, 133, rfl⟩
abbrev main_while0b_v335 : Ref sig .tc := ⟨.hbm, 134, rfl⟩
abbrev main_while0b_v336 : Ref sig .tc := ⟨.hbm, 135, rfl⟩
abbrev main_while0b_v337 : Ref sig .tc := ⟨.hbm, 136, rfl⟩
abbrev main_while0b_v338 : Ref sig .tc := ⟨.hbm, 137, rfl⟩
abbrev main_while0b_v339 : Ref sig .tc := ⟨.hbm, 138, rfl⟩
abbrev main_while0b_v340 : Ref sig .tc := ⟨.hbm, 139, rfl⟩
abbrev main_while0b_v341 : Ref sig .tc := ⟨.hbm, 140, rfl⟩
abbrev main_while0b_v342 : Ref sig .tc := ⟨.hbm, 141, rfl⟩
abbrev main_while0b_v343 : Ref sig .tc := ⟨.hbm, 142, rfl⟩
abbrev main_while0b_v344 : Ref sig .tc := ⟨.hbm, 143, rfl⟩
abbrev main_while0b_v345 : Ref sig .tc := ⟨.hbm, 144, rfl⟩
abbrev main_while0b_v346 : Ref sig .tc := ⟨.hbm, 145, rfl⟩
abbrev main_while0b_v347 : Ref sig .tc := ⟨.hbm, 146, rfl⟩
abbrev main_while0b_v348 : Ref sig .tc := ⟨.hbm, 147, rfl⟩
abbrev main_while0b_v349 : Ref sig .tc := ⟨.hbm, 148, rfl⟩
abbrev main_while0b_v350 : Ref sig .tc := ⟨.hbm, 149, rfl⟩
abbrev main_while0b_call7_v0 : Ref sig .tc := ⟨.hbm, 150, rfl⟩
abbrev main_while0b_call7_c : Ref sig .tc := ⟨.hbm, 151, rfl⟩
abbrev main_while0b_call7_c_0 : Ref sig .tc := ⟨.hbm, 152, rfl⟩
abbrev main_while0b_v351 : Ref sig .tc := ⟨.hbm, 153, rfl⟩
abbrev main_while0b_c_21 : Ref sig .tc := ⟨.hbm, 154, rfl⟩
abbrev main_while0b_v352 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_v101 : Ref sig .tc := ⟨.hbm, 191, rfl⟩
abbrev main_v102 : Ref sig .tc := ⟨.hbm, 192, rfl⟩
abbrev main_v103 : Ref sig .tc := ⟨.hbm, 193, rfl⟩
abbrev main_v104 : Ref sig .tc := ⟨.hbm, 194, rfl⟩
abbrev main_c_2 : Ref sig .tc := ⟨.hbm, 195, rfl⟩
abbrev main_call9_v0 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_v108 : Ref sig .tc := ⟨.hbm, 200, rfl⟩
abbrev main_v109 : Ref sig .tc := ⟨.hbm, 201, rfl⟩
abbrev main_v110 : Ref sig .tc := ⟨.hbm, 202, rfl⟩
abbrev main_v111 : Ref sig .tc := ⟨.hbm, 203, rfl⟩
abbrev main_v112 : Ref sig .tc := ⟨.hbm, 204, rfl⟩
abbrev main_v113 : Ref sig .tc := ⟨.hbm, 205, rfl⟩
abbrev main_v114 : Ref sig .tc := ⟨.hbm, 206, rfl⟩
abbrev main_v115 : Ref sig .tc := ⟨.hbm, 207, rfl⟩
abbrev main_v116 : Ref sig .tc := ⟨.hbm, 208, rfl⟩
abbrev main_v117 : Ref sig .tc := ⟨.hbm, 209, rfl⟩
abbrev main_v118 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_call10_v0 : Ref sig .tc := ⟨.hbm, 228, rfl⟩
abbrev main_call10_v1 : Ref sig .tc := ⟨.hbm, 229, rfl⟩
abbrev main_call10_cst : Ref sig .tc := ⟨.hbm, 230, rfl⟩
abbrev main_call10_v2 : Ref sig .tc := ⟨.hbm, 231, rfl⟩
abbrev main_call10_v3 : Ref sig .tc := ⟨.hbm, 232, rfl⟩
abbrev main_call10_cst_0 : Ref sig .tc := ⟨.hbm, 233, rfl⟩
abbrev main_call10_v4 : Ref sig .tc := ⟨.hbm, 234, rfl⟩
abbrev main_call10_v5 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_v140 : Ref sig .tc := ⟨.hbm, 240, rfl⟩
abbrev main_v141 : Ref sig .tc := ⟨.hbm, 241, rfl⟩
abbrev main_v142 : Ref sig .tc := ⟨.hbm, 242, rfl⟩
abbrev main_v143 : Ref sig .tc := ⟨.hbm, 243, rfl⟩
abbrev main_v144 : Ref sig .tc := ⟨.hbm, 244, rfl⟩
abbrev main_v145 : Ref sig .tc := ⟨.hbm, 245, rfl⟩
abbrev main_v146 : Ref sig .tc := ⟨.hbm, 246, rfl⟩
abbrev main_call11_cst : Ref sig .tc := ⟨.hbm, 247, rfl⟩
abbrev main_call11_v0 : Ref sig .tc := ⟨.hbm, 248, rfl⟩
abbrev main_call11_v1 : Ref sig .tc := ⟨.hbm, 249, rfl⟩
abbrev main_call11_v2 : Ref sig .tc := ⟨.hbm, 250, rfl⟩
abbrev main_call11_v3 : Ref sig .tc := ⟨.hbm, 251, rfl⟩
abbrev main_call11_v4 : Ref sig .tc := ⟨.hbm, 252, rfl⟩
abbrev main_call11_v5 : Ref sig .tc := ⟨.hbm, 253, rfl⟩
abbrev main_call11_v6 : Ref sig .tc := ⟨.hbm, 254, rfl⟩
abbrev main_call11_v7 : Ref sig .tc := ⟨.hbm, 255, rfl⟩
abbrev main_call11_v8 : Ref sig .tc := ⟨.hbm, 256, rfl⟩
abbrev main_call11_v9 : Ref sig .tc := ⟨.hbm, 257, rfl⟩
abbrev main_call11_v10 : Ref sig .tc := ⟨.hbm, 258, rfl⟩
abbrev main_call11_v11 : Ref sig .tc := ⟨.hbm, 259, rfl⟩
abbrev main_v147 : Ref sig .tc := ⟨.hbm, 260, rfl⟩
abbrev main_v148 : Ref sig .tc := ⟨.hbm, 261, rfl⟩
abbrev main_v149 : Ref sig .tc := ⟨.hbm, 262, rfl⟩
abbrev main_cst_3 : Ref sig .tc := ⟨.hbm, 263, rfl⟩
abbrev main_v150 : Ref sig .tc := ⟨.hbm, 264, rfl⟩
abbrev main_v151 : Ref sig .tc := ⟨.hbm, 265, rfl⟩
abbrev main_v152 : Ref sig .tc := ⟨.hbm, 266, rfl⟩
abbrev main_v153 : Ref sig .tc := ⟨.hbm, 267, rfl⟩
abbrev main_v154 : Ref sig .tc := ⟨.hbm, 268, rfl⟩
abbrev main_cst_4 : Ref sig .tc := ⟨.hbm, 269, rfl⟩
abbrev main_v155 : Ref sig .tc := ⟨.hbm, 270, rfl⟩
abbrev main_c_5 : Ref sig .tc := ⟨.hbm, 271, rfl⟩
abbrev main_v156_0 : Ref sig .tc := ⟨.hbm, 272, rfl⟩
abbrev main_v156_1 : Ref sig .tc := ⟨.hbm, 273, rfl⟩
abbrev main_v156_2 : Ref sig .tc := ⟨.hbm, 274, rfl⟩
abbrev main_v156_3 : Ref sig .tc := ⟨.hbm, 275, rfl⟩
abbrev main_v156_4 : Ref sig .tc := ⟨.hbm, 276, rfl⟩
abbrev main_v156_5 : Ref sig .tc := ⟨.hbm, 277, rfl⟩
abbrev main_v156_6 : Ref sig .tc := ⟨.hbm, 278, rfl⟩
abbrev main_v156_7 : Ref sig .tc := ⟨.hbm, 279, rfl⟩
abbrev main_while1c_c_21 : Ref sig .tc := ⟨.hbm, 280, rfl⟩
abbrev main_while1c_v332 : Ref sig .tc := ⟨.hbm, 281, rfl⟩
abbrev main_while1b_call12_c : Ref sig .tc := ⟨.hbm, 282, rfl⟩
abbrev main_while1b_call12_c_0 : Ref sig .tc := ⟨.hbm, 283, rfl⟩
abbrev main_while1b_call12_v0 : Ref sig .tc := ⟨.hbm, 284, rfl⟩
abbrev main_while1b_v332 : Ref sig .tc := ⟨.hbm, 285, rfl⟩
abbrev main_while1b_call13_c : Ref sig .tc := ⟨.hbm, 286, rfl⟩
abbrev main_while1b_call13_c_0 : Ref sig .tc := ⟨.hbm, 287, rfl⟩
abbrev main_while1b_call13_v0 : Ref sig .tc := ⟨.hbm, 288, rfl⟩
abbrev main_while1b_v333 : Ref sig .tc := ⟨.hbm, 289, rfl⟩
abbrev main_while1b_call14_c : Ref sig .tc := ⟨.hbm, 290, rfl⟩
abbrev main_while1b_call14_c_0 : Ref sig .tc := ⟨.hbm, 291, rfl⟩
abbrev main_while1b_call14_v0 : Ref sig .tc := ⟨.hbm, 292, rfl⟩
abbrev main_while1b_v334 : Ref sig .tc := ⟨.hbm, 293, rfl⟩
abbrev main_while1b_call15_c : Ref sig .tc := ⟨.hbm, 294, rfl⟩
abbrev main_while1b_call15_c_0 : Ref sig .tc := ⟨.hbm, 295, rfl⟩
abbrev main_while1b_call15_v0 : Ref sig .tc := ⟨.hbm, 296, rfl⟩
abbrev main_while1b_v335 : Ref sig .tc := ⟨.hbm, 297, rfl⟩
abbrev main_while1b_v336 : Ref sig .tc := ⟨.hbm, 298, rfl⟩
abbrev main_while1b_v337 : Ref sig .tc := ⟨.hbm, 299, rfl⟩
abbrev main_while1b_v338 : Ref sig .tc := ⟨.hbm, 300, rfl⟩
abbrev main_while1b_v339 : Ref sig .tc := ⟨.hbm, 301, rfl⟩
abbrev main_while1b_v340 : Ref sig .tc := ⟨.hbm, 302, rfl⟩
abbrev main_while1b_v341 : Ref sig .tc := ⟨.hbm, 303, rfl⟩
abbrev main_while1b_v342 : Ref sig .tc := ⟨.hbm, 304, rfl⟩
abbrev main_while1b_v343 : Ref sig .tc := ⟨.hbm, 305, rfl⟩
abbrev main_while1b_v344 : Ref sig .tc := ⟨.hbm, 306, rfl⟩
abbrev main_while1b_v345 : Ref sig .tc := ⟨.hbm, 307, rfl⟩
abbrev main_while1b_v346 : Ref sig .tc := ⟨.hbm, 308, rfl⟩
abbrev main_while1b_v347 : Ref sig .tc := ⟨.hbm, 309, rfl⟩
abbrev main_while1b_v348 : Ref sig .tc := ⟨.hbm, 310, rfl⟩
abbrev main_while1b_v349 : Ref sig .tc := ⟨.hbm, 311, rfl⟩
abbrev main_while1b_v350 : Ref sig .tc := ⟨.hbm, 312, rfl⟩
abbrev main_while1b_call16_v0 : Ref sig .tc := ⟨.hbm, 313, rfl⟩
abbrev main_while1b_call16_c : Ref sig .tc := ⟨.hbm, 314, rfl⟩
abbrev main_while1b_call16_c_0 : Ref sig .tc := ⟨.hbm, 315, rfl⟩
abbrev main_while1b_v351 : Ref sig .tc := ⟨.hbm, 316, rfl⟩
abbrev main_while1b_c_21 : Ref sig .tc := ⟨.hbm, 317, rfl⟩
abbrev main_while1b_v352 : Ref sig .tc := ⟨.hbm, 318, rfl⟩
abbrev main_v157 : Ref sig .tc := ⟨.hbm, 319, rfl⟩
abbrev main_v158 : Ref sig .tc := ⟨.hbm, 320, rfl⟩
abbrev main_v159 : Ref sig .tc := ⟨.hbm, 321, rfl⟩
abbrev main_v160 : Ref sig .tc := ⟨.hbm, 322, rfl⟩
abbrev main_v161 : Ref sig .tc := ⟨.hbm, 323, rfl⟩
abbrev main_call17_v0 : Ref sig .tc := ⟨.hbm, 324, rfl⟩
abbrev main_call17_v1 : Ref sig .tc := ⟨.hbm, 325, rfl⟩
abbrev main_call17_cst : Ref sig .tc := ⟨.hbm, 326, rfl⟩
abbrev main_call17_v2 : Ref sig .tc := ⟨.hbm, 327, rfl⟩
abbrev main_call17_v3 : Ref sig .tc := ⟨.hbm, 328, rfl⟩
abbrev main_call17_cst_0 : Ref sig .tc := ⟨.hbm, 329, rfl⟩
abbrev main_call17_v4 : Ref sig .tc := ⟨.hbm, 330, rfl⟩
abbrev main_call17_v5 : Ref sig .tc := ⟨.hbm, 331, rfl⟩
abbrev main_v162 : Ref sig .tc := ⟨.hbm, 332, rfl⟩
abbrev main_v163 : Ref sig .tc := ⟨.hbm, 333, rfl⟩
abbrev main_v164 : Ref sig .tc := ⟨.hbm, 334, rfl⟩
abbrev main_v165 : Ref sig .tc := ⟨.hbm, 335, rfl⟩
abbrev main_v166 : Ref sig .tc := ⟨.hbm, 336, rfl⟩
abbrev main_v167 : Ref sig .tc := ⟨.hbm, 337, rfl⟩
abbrev main_v168 : Ref sig .tc := ⟨.hbm, 338, rfl⟩
abbrev main_v169 : Ref sig .tc := ⟨.hbm, 339, rfl⟩
abbrev main_v170 : Ref sig .tc := ⟨.hbm, 340, rfl⟩
abbrev main_v171 : Ref sig .tc := ⟨.hbm, 341, rfl⟩
abbrev main_v172 : Ref sig .tc := ⟨.hbm, 342, rfl⟩
abbrev main_v173 : Ref sig .tc := ⟨.hbm, 343, rfl⟩
abbrev main_v174 : Ref sig .tc := ⟨.hbm, 344, rfl⟩
abbrev main_v175 : Ref sig .tc := ⟨.hbm, 345, rfl⟩
abbrev main_v176 : Ref sig .tc := ⟨.hbm, 346, rfl⟩
abbrev main_v177 : Ref sig .tc := ⟨.hbm, 347, rfl⟩
abbrev main_v178 : Ref sig .tc := ⟨.hbm, 348, rfl⟩
abbrev main_v179 : Ref sig .tc := ⟨.hbm, 349, rfl⟩
abbrev main_v180 : Ref sig .tc := ⟨.hbm, 350, rfl⟩
abbrev main_v181 : Ref sig .tc := ⟨.hbm, 351, rfl⟩
abbrev main_v182 : Ref sig .tc := ⟨.hbm, 352, rfl⟩
abbrev main_v183 : Ref sig .tc := ⟨.hbm, 353, rfl⟩
abbrev main_v184 : Ref sig .tc := ⟨.hbm, 354, rfl⟩
abbrev main_v185 : Ref sig .tc := ⟨.hbm, 355, rfl⟩
abbrev main_v186 : Ref sig .tc := ⟨.hbm, 356, rfl⟩
abbrev main_v187 : Ref sig .tc := ⟨.hbm, 357, rfl⟩
abbrev main_c_6 : Ref sig .tc := ⟨.hbm, 358, rfl⟩
abbrev main_call18_v0 : Ref sig .tc := ⟨.hbm, 359, rfl⟩
abbrev main_v188 : Ref sig .tc := ⟨.hbm, 360, rfl⟩
abbrev main_v189 : Ref sig .tc := ⟨.hbm, 361, rfl⟩
abbrev main_v190 : Ref sig .tc := ⟨.hbm, 362, rfl⟩
abbrev main_v191 : Ref sig .tc := ⟨.hbm, 363, rfl⟩
abbrev main_v192 : Ref sig .tc := ⟨.hbm, 364, rfl⟩
abbrev main_v193 : Ref sig .tc := ⟨.hbm, 365, rfl⟩
abbrev main_v194 : Ref sig .tc := ⟨.hbm, 366, rfl⟩
abbrev main_v195 : Ref sig .tc := ⟨.hbm, 367, rfl⟩
abbrev main_v196 : Ref sig .tc := ⟨.hbm, 368, rfl⟩
abbrev main_v197 : Ref sig .tc := ⟨.hbm, 369, rfl⟩
abbrev main_v198 : Ref sig .tc := ⟨.hbm, 370, rfl⟩
abbrev main_v199 : Ref sig .tc := ⟨.hbm, 371, rfl⟩
abbrev main_v200 : Ref sig .tc := ⟨.hbm, 372, rfl⟩
abbrev main_v201 : Ref sig .tc := ⟨.hbm, 373, rfl⟩
abbrev main_v202 : Ref sig .tc := ⟨.hbm, 374, rfl⟩
abbrev main_v203 : Ref sig .tc := ⟨.hbm, 375, rfl⟩
abbrev main_v204 : Ref sig .tc := ⟨.hbm, 376, rfl⟩
abbrev main_v205 : Ref sig .tc := ⟨.hbm, 377, rfl⟩
abbrev main_v206 : Ref sig .tc := ⟨.hbm, 378, rfl⟩
abbrev main_v207 : Ref sig .tc := ⟨.hbm, 379, rfl⟩
abbrev main_v208 : Ref sig .tc := ⟨.hbm, 380, rfl⟩
abbrev main_v209 : Ref sig .tc := ⟨.hbm, 381, rfl⟩
abbrev main_v210 : Ref sig .tc := ⟨.hbm, 382, rfl⟩
abbrev main_v211 : Ref sig .tc := ⟨.hbm, 383, rfl⟩
abbrev main_v212 : Ref sig .tc := ⟨.hbm, 384, rfl⟩
abbrev main_v213 : Ref sig .tc := ⟨.hbm, 385, rfl⟩
abbrev main_v214 : Ref sig .tc := ⟨.hbm, 386, rfl⟩
abbrev main_v215 : Ref sig .tc := ⟨.hbm, 387, rfl⟩
abbrev main_v216 : Ref sig .tc := ⟨.hbm, 388, rfl⟩
abbrev main_v217 : Ref sig .tc := ⟨.hbm, 389, rfl⟩
abbrev main_v218 : Ref sig .tc := ⟨.hbm, 390, rfl⟩
abbrev main_call19_v0 : Ref sig .tc := ⟨.hbm, 391, rfl⟩
abbrev main_call19_v1 : Ref sig .tc := ⟨.hbm, 392, rfl⟩
abbrev main_call19_cst : Ref sig .tc := ⟨.hbm, 393, rfl⟩
abbrev main_call19_v2 : Ref sig .tc := ⟨.hbm, 394, rfl⟩
abbrev main_call19_v3 : Ref sig .tc := ⟨.hbm, 395, rfl⟩
abbrev main_call19_cst_0 : Ref sig .tc := ⟨.hbm, 396, rfl⟩
abbrev main_call19_v4 : Ref sig .tc := ⟨.hbm, 397, rfl⟩
abbrev main_call19_v5 : Ref sig .tc := ⟨.hbm, 398, rfl⟩
abbrev main_v219 : Ref sig .tc := ⟨.hbm, 399, rfl⟩
abbrev main_v220 : Ref sig .tc := ⟨.hbm, 400, rfl⟩
abbrev main_v221 : Ref sig .tc := ⟨.hbm, 401, rfl⟩
abbrev main_v222 : Ref sig .tc := ⟨.hbm, 402, rfl⟩
abbrev main_v223 : Ref sig .tc := ⟨.hbm, 403, rfl⟩
abbrev main_v224 : Ref sig .tc := ⟨.hbm, 404, rfl⟩
abbrev main_v225 : Ref sig .tc := ⟨.hbm, 405, rfl⟩
abbrev main_v226 : Ref sig .tc := ⟨.hbm, 406, rfl⟩
abbrev main_v227 : Ref sig .tc := ⟨.hbm, 407, rfl⟩
abbrev main_v228 : Ref sig .tc := ⟨.hbm, 408, rfl⟩
abbrev main_v229 : Ref sig .tc := ⟨.hbm, 409, rfl⟩
abbrev main_call20_cst : Ref sig .tc := ⟨.hbm, 410, rfl⟩
abbrev main_call20_v0 : Ref sig .tc := ⟨.hbm, 411, rfl⟩
abbrev main_call20_v1 : Ref sig .tc := ⟨.hbm, 412, rfl⟩
abbrev main_call20_v2 : Ref sig .tc := ⟨.hbm, 413, rfl⟩
abbrev main_call20_v3 : Ref sig .tc := ⟨.hbm, 414, rfl⟩
abbrev main_call20_v4 : Ref sig .tc := ⟨.hbm, 415, rfl⟩
abbrev main_call20_v5 : Ref sig .tc := ⟨.hbm, 416, rfl⟩
abbrev main_call20_v6 : Ref sig .tc := ⟨.hbm, 417, rfl⟩
abbrev main_call20_v7 : Ref sig .tc := ⟨.hbm, 418, rfl⟩
abbrev main_call20_v8 : Ref sig .tc := ⟨.hbm, 419, rfl⟩
abbrev main_call20_v9 : Ref sig .tc := ⟨.hbm, 420, rfl⟩
abbrev main_call20_v10 : Ref sig .tc := ⟨.hbm, 421, rfl⟩
abbrev main_call20_v11 : Ref sig .tc := ⟨.hbm, 422, rfl⟩
abbrev main_v230 : Ref sig .tc := ⟨.hbm, 423, rfl⟩
abbrev main_v231 : Ref sig .tc := ⟨.hbm, 424, rfl⟩
abbrev main_v232 : Ref sig .tc := ⟨.hbm, 425, rfl⟩
abbrev main_cst_7 : Ref sig .tc := ⟨.hbm, 426, rfl⟩
abbrev main_v233 : Ref sig .tc := ⟨.hbm, 427, rfl⟩
abbrev main_v234 : Ref sig .tc := ⟨.hbm, 428, rfl⟩
abbrev main_v235 : Ref sig .tc := ⟨.hbm, 429, rfl⟩
abbrev main_v236 : Ref sig .tc := ⟨.hbm, 430, rfl⟩
abbrev main_v237 : Ref sig .tc := ⟨.hbm, 431, rfl⟩
abbrev main_cst_8 : Ref sig .tc := ⟨.hbm, 432, rfl⟩
abbrev main_v238 : Ref sig .tc := ⟨.hbm, 433, rfl⟩
abbrev main_c_9 : Ref sig .tc := ⟨.hbm, 434, rfl⟩
abbrev main_v239_0 : Ref sig .tc := ⟨.hbm, 435, rfl⟩
abbrev main_v239_1 : Ref sig .tc := ⟨.hbm, 436, rfl⟩
abbrev main_v239_2 : Ref sig .tc := ⟨.hbm, 437, rfl⟩
abbrev main_v239_3 : Ref sig .tc := ⟨.hbm, 438, rfl⟩
abbrev main_v239_4 : Ref sig .tc := ⟨.hbm, 439, rfl⟩
abbrev main_v239_5 : Ref sig .tc := ⟨.hbm, 440, rfl⟩
abbrev main_v239_6 : Ref sig .tc := ⟨.hbm, 441, rfl⟩
abbrev main_v239_7 : Ref sig .tc := ⟨.hbm, 442, rfl⟩
abbrev main_while2c_c_21 : Ref sig .tc := ⟨.hbm, 443, rfl⟩
abbrev main_while2c_v332 : Ref sig .tc := ⟨.hbm, 444, rfl⟩
abbrev main_while2b_call21_c : Ref sig .tc := ⟨.hbm, 445, rfl⟩
abbrev main_while2b_call21_c_0 : Ref sig .tc := ⟨.hbm, 446, rfl⟩
abbrev main_while2b_call21_v0 : Ref sig .tc := ⟨.hbm, 447, rfl⟩
abbrev main_while2b_v332 : Ref sig .tc := ⟨.hbm, 448, rfl⟩
abbrev main_while2b_call22_c : Ref sig .tc := ⟨.hbm, 449, rfl⟩
abbrev main_while2b_call22_c_0 : Ref sig .tc := ⟨.hbm, 450, rfl⟩
abbrev main_while2b_call22_v0 : Ref sig .tc := ⟨.hbm, 451, rfl⟩
abbrev main_while2b_v333 : Ref sig .tc := ⟨.hbm, 452, rfl⟩
abbrev main_while2b_call23_c : Ref sig .tc := ⟨.hbm, 453, rfl⟩
abbrev main_while2b_call23_c_0 : Ref sig .tc := ⟨.hbm, 454, rfl⟩
abbrev main_while2b_call23_v0 : Ref sig .tc := ⟨.hbm, 455, rfl⟩
abbrev main_while2b_v334 : Ref sig .tc := ⟨.hbm, 456, rfl⟩
abbrev main_while2b_call24_c : Ref sig .tc := ⟨.hbm, 457, rfl⟩
abbrev main_while2b_call24_c_0 : Ref sig .tc := ⟨.hbm, 458, rfl⟩
abbrev main_while2b_call24_v0 : Ref sig .tc := ⟨.hbm, 459, rfl⟩
abbrev main_while2b_v335 : Ref sig .tc := ⟨.hbm, 460, rfl⟩
abbrev main_while2b_v336 : Ref sig .tc := ⟨.hbm, 461, rfl⟩
abbrev main_while2b_v337 : Ref sig .tc := ⟨.hbm, 462, rfl⟩
abbrev main_while2b_v338 : Ref sig .tc := ⟨.hbm, 463, rfl⟩
abbrev main_while2b_v339 : Ref sig .tc := ⟨.hbm, 464, rfl⟩
abbrev main_while2b_v340 : Ref sig .tc := ⟨.hbm, 465, rfl⟩
abbrev main_while2b_v341 : Ref sig .tc := ⟨.hbm, 466, rfl⟩
abbrev main_while2b_v342 : Ref sig .tc := ⟨.hbm, 467, rfl⟩
abbrev main_while2b_v343 : Ref sig .tc := ⟨.hbm, 468, rfl⟩
abbrev main_while2b_v344 : Ref sig .tc := ⟨.hbm, 469, rfl⟩
abbrev main_while2b_v345 : Ref sig .tc := ⟨.hbm, 470, rfl⟩
abbrev main_while2b_v346 : Ref sig .tc := ⟨.hbm, 471, rfl⟩
abbrev main_while2b_v347 : Ref sig .tc := ⟨.hbm, 472, rfl⟩
abbrev main_while2b_v348 : Ref sig .tc := ⟨.hbm, 473, rfl⟩
abbrev main_while2b_v349 : Ref sig .tc := ⟨.hbm, 474, rfl⟩
abbrev main_while2b_v350 : Ref sig .tc := ⟨.hbm, 475, rfl⟩
abbrev main_while2b_call25_v0 : Ref sig .tc := ⟨.hbm, 476, rfl⟩
abbrev main_while2b_call25_c : Ref sig .tc := ⟨.hbm, 477, rfl⟩
abbrev main_while2b_call25_c_0 : Ref sig .tc := ⟨.hbm, 478, rfl⟩
abbrev main_while2b_v351 : Ref sig .tc := ⟨.hbm, 479, rfl⟩
abbrev main_while2b_c_21 : Ref sig .tc := ⟨.hbm, 480, rfl⟩
abbrev main_while2b_v352 : Ref sig .tc := ⟨.hbm, 481, rfl⟩
abbrev main_v240 : Ref sig .tc := ⟨.hbm, 482, rfl⟩
abbrev main_v241 : Ref sig .tc := ⟨.hbm, 483, rfl⟩
abbrev main_v242 : Ref sig .tc := ⟨.hbm, 484, rfl⟩
abbrev main_v243 : Ref sig .tc := ⟨.hbm, 485, rfl⟩
abbrev main_v244 : Ref sig .tc := ⟨.hbm, 486, rfl⟩
abbrev main_call26_v0 : Ref sig .tc := ⟨.hbm, 487, rfl⟩
abbrev main_call26_v1 : Ref sig .tc := ⟨.hbm, 488, rfl⟩
abbrev main_call26_cst : Ref sig .tc := ⟨.hbm, 489, rfl⟩
abbrev main_call26_v2 : Ref sig .tc := ⟨.hbm, 490, rfl⟩
abbrev main_call26_v3 : Ref sig .tc := ⟨.hbm, 491, rfl⟩
abbrev main_call26_cst_0 : Ref sig .tc := ⟨.hbm, 492, rfl⟩
abbrev main_call26_v4 : Ref sig .tc := ⟨.hbm, 493, rfl⟩
abbrev main_call26_v5 : Ref sig .tc := ⟨.hbm, 494, rfl⟩
abbrev main_v245 : Ref sig .tc := ⟨.hbm, 495, rfl⟩
abbrev main_v246 : Ref sig .tc := ⟨.hbm, 496, rfl⟩
abbrev main_v247 : Ref sig .tc := ⟨.hbm, 497, rfl⟩
abbrev main_v248 : Ref sig .tc := ⟨.hbm, 498, rfl⟩
abbrev main_v249 : Ref sig .tc := ⟨.hbm, 499, rfl⟩
abbrev main_v250 : Ref sig .tc := ⟨.hbm, 500, rfl⟩
abbrev main_v251 : Ref sig .tc := ⟨.hbm, 501, rfl⟩
abbrev main_v252 : Ref sig .tc := ⟨.hbm, 502, rfl⟩
abbrev main_v253 : Ref sig .tc := ⟨.hbm, 503, rfl⟩
abbrev main_v254 : Ref sig .tc := ⟨.hbm, 504, rfl⟩
abbrev main_v255 : Ref sig .tc := ⟨.hbm, 505, rfl⟩
abbrev main_v256 : Ref sig .tc := ⟨.hbm, 506, rfl⟩
abbrev main_v257 : Ref sig .tc := ⟨.hbm, 507, rfl⟩
abbrev main_v258 : Ref sig .tc := ⟨.hbm, 508, rfl⟩
abbrev main_v259 : Ref sig .tc := ⟨.hbm, 509, rfl⟩
abbrev main_v260 : Ref sig .tc := ⟨.hbm, 510, rfl⟩
abbrev main_v261 : Ref sig .tc := ⟨.hbm, 511, rfl⟩
abbrev main_v262 : Ref sig .tc := ⟨.hbm, 512, rfl⟩
abbrev main_v263 : Ref sig .tc := ⟨.hbm, 513, rfl⟩
abbrev main_v264 : Ref sig .tc := ⟨.hbm, 514, rfl⟩
abbrev main_v265 : Ref sig .tc := ⟨.hbm, 515, rfl⟩
abbrev main_v266 : Ref sig .tc := ⟨.hbm, 516, rfl⟩
abbrev main_v267 : Ref sig .tc := ⟨.hbm, 517, rfl⟩
abbrev main_v268 : Ref sig .tc := ⟨.hbm, 518, rfl⟩
abbrev main_v269 : Ref sig .tc := ⟨.hbm, 519, rfl⟩
abbrev main_v270 : Ref sig .tc := ⟨.hbm, 520, rfl⟩
abbrev main_c_10 : Ref sig .tc := ⟨.hbm, 521, rfl⟩
abbrev main_call27_v0 : Ref sig .tc := ⟨.hbm, 522, rfl⟩
abbrev main_v271 : Ref sig .tc := ⟨.hbm, 523, rfl⟩
abbrev main_v272 : Ref sig .tc := ⟨.hbm, 524, rfl⟩
abbrev main_v273 : Ref sig .tc := ⟨.hbm, 525, rfl⟩
abbrev main_v274 : Ref sig .tc := ⟨.hbm, 526, rfl⟩
abbrev main_v275 : Ref sig .tc := ⟨.hbm, 527, rfl⟩
abbrev main_v276 : Ref sig .tc := ⟨.hbm, 528, rfl⟩
abbrev main_v277 : Ref sig .tc := ⟨.hbm, 529, rfl⟩
abbrev main_v278 : Ref sig .tc := ⟨.hbm, 530, rfl⟩
abbrev main_v279 : Ref sig .tc := ⟨.hbm, 531, rfl⟩
abbrev main_v280 : Ref sig .tc := ⟨.hbm, 532, rfl⟩
abbrev main_v281 : Ref sig .tc := ⟨.hbm, 533, rfl⟩
abbrev main_v282 : Ref sig .tc := ⟨.hbm, 534, rfl⟩
abbrev main_v283 : Ref sig .tc := ⟨.hbm, 535, rfl⟩
abbrev main_v284 : Ref sig .tc := ⟨.hbm, 536, rfl⟩
abbrev main_v285 : Ref sig .tc := ⟨.hbm, 537, rfl⟩
abbrev main_v286 : Ref sig .tc := ⟨.hbm, 538, rfl⟩
abbrev main_v287 : Ref sig .tc := ⟨.hbm, 539, rfl⟩
abbrev main_v288 : Ref sig .tc := ⟨.hbm, 540, rfl⟩
abbrev main_v289 : Ref sig .tc := ⟨.hbm, 541, rfl⟩
abbrev main_v290 : Ref sig .tc := ⟨.hbm, 542, rfl⟩
abbrev main_v291 : Ref sig .tc := ⟨.hbm, 543, rfl⟩
abbrev main_v292 : Ref sig .tc := ⟨.hbm, 544, rfl⟩
abbrev main_v293 : Ref sig .tc := ⟨.hbm, 545, rfl⟩
abbrev main_v294 : Ref sig .tc := ⟨.hbm, 546, rfl⟩
abbrev main_v295 : Ref sig .tc := ⟨.hbm, 547, rfl⟩
abbrev main_v296 : Ref sig .tc := ⟨.hbm, 548, rfl⟩
abbrev main_v297 : Ref sig .tc := ⟨.hbm, 549, rfl⟩
abbrev main_v298 : Ref sig .tc := ⟨.hbm, 550, rfl⟩
abbrev main_v299 : Ref sig .tc := ⟨.hbm, 551, rfl⟩
abbrev main_v300 : Ref sig .tc := ⟨.hbm, 552, rfl⟩
abbrev main_v301 : Ref sig .tc := ⟨.hbm, 553, rfl⟩
abbrev main_call28_v0 : Ref sig .tc := ⟨.hbm, 554, rfl⟩
abbrev main_call28_v1 : Ref sig .tc := ⟨.hbm, 555, rfl⟩
abbrev main_call28_cst : Ref sig .tc := ⟨.hbm, 556, rfl⟩
abbrev main_call28_v2 : Ref sig .tc := ⟨.hbm, 557, rfl⟩
abbrev main_call28_v3 : Ref sig .tc := ⟨.hbm, 558, rfl⟩
abbrev main_call28_cst_0 : Ref sig .tc := ⟨.hbm, 559, rfl⟩
abbrev main_call28_v4 : Ref sig .tc := ⟨.hbm, 560, rfl⟩
abbrev main_call28_v5 : Ref sig .tc := ⟨.hbm, 561, rfl⟩
abbrev main_v302 : Ref sig .tc := ⟨.hbm, 562, rfl⟩
abbrev main_v303 : Ref sig .tc := ⟨.hbm, 563, rfl⟩
abbrev main_v304 : Ref sig .tc := ⟨.hbm, 564, rfl⟩
abbrev main_v305 : Ref sig .tc := ⟨.hbm, 565, rfl⟩
abbrev main_v306 : Ref sig .tc := ⟨.hbm, 566, rfl⟩
abbrev main_v307 : Ref sig .tc := ⟨.hbm, 567, rfl⟩
abbrev main_v308 : Ref sig .tc := ⟨.hbm, 568, rfl⟩
abbrev main_v309 : Ref sig .tc := ⟨.hbm, 569, rfl⟩
abbrev main_v310 : Ref sig .tc := ⟨.hbm, 570, rfl⟩
abbrev main_v311 : Ref sig .tc := ⟨.hbm, 571, rfl⟩
abbrev main_v312 : Ref sig .tc := ⟨.hbm, 572, rfl⟩
abbrev main_call29_cst : Ref sig .tc := ⟨.hbm, 573, rfl⟩
abbrev main_call29_v0 : Ref sig .tc := ⟨.hbm, 574, rfl⟩
abbrev main_call29_v1 : Ref sig .tc := ⟨.hbm, 575, rfl⟩
abbrev main_call29_v2 : Ref sig .tc := ⟨.hbm, 576, rfl⟩
abbrev main_call29_v3 : Ref sig .tc := ⟨.hbm, 577, rfl⟩
abbrev main_call29_v4 : Ref sig .tc := ⟨.hbm, 578, rfl⟩
abbrev main_call29_v5 : Ref sig .tc := ⟨.hbm, 579, rfl⟩
abbrev main_call29_v6 : Ref sig .tc := ⟨.hbm, 580, rfl⟩
abbrev main_call29_v7 : Ref sig .tc := ⟨.hbm, 581, rfl⟩
abbrev main_call29_v8 : Ref sig .tc := ⟨.hbm, 582, rfl⟩
abbrev main_call29_v9 : Ref sig .tc := ⟨.hbm, 583, rfl⟩
abbrev main_call29_v10 : Ref sig .tc := ⟨.hbm, 584, rfl⟩
abbrev main_call29_v11 : Ref sig .tc := ⟨.hbm, 585, rfl⟩
abbrev main_v313 : Ref sig .tc := ⟨.hbm, 586, rfl⟩
abbrev main_v314 : Ref sig .tc := ⟨.hbm, 587, rfl⟩
abbrev main_v315 : Ref sig .tc := ⟨.hbm, 588, rfl⟩
abbrev main_cst_11 : Ref sig .tc := ⟨.hbm, 589, rfl⟩
abbrev main_v316 : Ref sig .tc := ⟨.hbm, 590, rfl⟩
abbrev main_v317 : Ref sig .tc := ⟨.hbm, 591, rfl⟩
abbrev main_v318 : Ref sig .tc := ⟨.hbm, 592, rfl⟩
abbrev main_v319 : Ref sig .tc := ⟨.hbm, 593, rfl⟩
abbrev main_v320 : Ref sig .tc := ⟨.hbm, 594, rfl⟩
abbrev main_cst_12 : Ref sig .tc := ⟨.hbm, 595, rfl⟩
abbrev main_v321 : Ref sig .tc := ⟨.hbm, 596, rfl⟩
abbrev main_c_13 : Ref sig .tc := ⟨.hbm, 597, rfl⟩
abbrev main_v322_0 : Ref sig .tc := ⟨.hbm, 598, rfl⟩
abbrev main_v322_1 : Ref sig .tc := ⟨.hbm, 599, rfl⟩
abbrev main_v322_2 : Ref sig .tc := ⟨.hbm, 600, rfl⟩
abbrev main_v322_3 : Ref sig .tc := ⟨.hbm, 601, rfl⟩
abbrev main_v322_4 : Ref sig .tc := ⟨.hbm, 602, rfl⟩
abbrev main_v322_5 : Ref sig .tc := ⟨.hbm, 603, rfl⟩
abbrev main_v322_6 : Ref sig .tc := ⟨.hbm, 604, rfl⟩
abbrev main_v322_7 : Ref sig .tc := ⟨.hbm, 605, rfl⟩
abbrev main_while3c_c_21 : Ref sig .tc := ⟨.hbm, 606, rfl⟩
abbrev main_while3c_v332 : Ref sig .tc := ⟨.hbm, 607, rfl⟩
abbrev main_while3b_call30_c : Ref sig .tc := ⟨.hbm, 608, rfl⟩
abbrev main_while3b_call30_c_0 : Ref sig .tc := ⟨.hbm, 609, rfl⟩
abbrev main_while3b_call30_v0 : Ref sig .tc := ⟨.hbm, 610, rfl⟩
abbrev main_while3b_v332 : Ref sig .tc := ⟨.hbm, 611, rfl⟩
abbrev main_while3b_call31_c : Ref sig .tc := ⟨.hbm, 612, rfl⟩
abbrev main_while3b_call31_c_0 : Ref sig .tc := ⟨.hbm, 613, rfl⟩
abbrev main_while3b_call31_v0 : Ref sig .tc := ⟨.hbm, 614, rfl⟩
abbrev main_while3b_v333 : Ref sig .tc := ⟨.hbm, 615, rfl⟩
abbrev main_while3b_call32_c : Ref sig .tc := ⟨.hbm, 616, rfl⟩
abbrev main_while3b_call32_c_0 : Ref sig .tc := ⟨.hbm, 617, rfl⟩
abbrev main_while3b_call32_v0 : Ref sig .tc := ⟨.hbm, 618, rfl⟩
abbrev main_while3b_v334 : Ref sig .tc := ⟨.hbm, 619, rfl⟩
abbrev main_while3b_call33_c : Ref sig .tc := ⟨.hbm, 620, rfl⟩
abbrev main_while3b_call33_c_0 : Ref sig .tc := ⟨.hbm, 621, rfl⟩
abbrev main_while3b_call33_v0 : Ref sig .tc := ⟨.hbm, 622, rfl⟩
abbrev main_while3b_v335 : Ref sig .tc := ⟨.hbm, 623, rfl⟩
abbrev main_while3b_v336 : Ref sig .tc := ⟨.hbm, 624, rfl⟩
abbrev main_while3b_v337 : Ref sig .tc := ⟨.hbm, 625, rfl⟩
abbrev main_while3b_v338 : Ref sig .tc := ⟨.hbm, 626, rfl⟩
abbrev main_while3b_v339 : Ref sig .tc := ⟨.hbm, 627, rfl⟩
abbrev main_while3b_v340 : Ref sig .tc := ⟨.hbm, 628, rfl⟩
abbrev main_while3b_v341 : Ref sig .tc := ⟨.hbm, 629, rfl⟩
abbrev main_while3b_v342 : Ref sig .tc := ⟨.hbm, 630, rfl⟩
abbrev main_while3b_v343 : Ref sig .tc := ⟨.hbm, 631, rfl⟩
abbrev main_while3b_v344 : Ref sig .tc := ⟨.hbm, 632, rfl⟩
abbrev main_while3b_v345 : Ref sig .tc := ⟨.hbm, 633, rfl⟩
abbrev main_while3b_v346 : Ref sig .tc := ⟨.hbm, 634, rfl⟩
abbrev main_while3b_v347 : Ref sig .tc := ⟨.hbm, 635, rfl⟩
abbrev main_while3b_v348 : Ref sig .tc := ⟨.hbm, 636, rfl⟩
abbrev main_while3b_v349 : Ref sig .tc := ⟨.hbm, 637, rfl⟩
abbrev main_while3b_v350 : Ref sig .tc := ⟨.hbm, 638, rfl⟩
abbrev main_while3b_call34_v0 : Ref sig .tc := ⟨.hbm, 639, rfl⟩
abbrev main_while3b_call34_c : Ref sig .tc := ⟨.hbm, 640, rfl⟩
abbrev main_while3b_call34_c_0 : Ref sig .tc := ⟨.hbm, 641, rfl⟩
abbrev main_while3b_v351 : Ref sig .tc := ⟨.hbm, 642, rfl⟩
abbrev main_while3b_c_21 : Ref sig .tc := ⟨.hbm, 643, rfl⟩
abbrev main_while3b_v352 : Ref sig .tc := ⟨.hbm, 644, rfl⟩
abbrev main_v323 : Ref sig .tc := ⟨.hbm, 645, rfl⟩
abbrev main_v324 : Ref sig .tc := ⟨.hbm, 646, rfl⟩
abbrev main_v325 : Ref sig .tc := ⟨.hbm, 647, rfl⟩
abbrev main_v326 : Ref sig .tc := ⟨.hbm, 648, rfl⟩
abbrev main_v327 : Ref sig .tc := ⟨.hbm, 649, rfl⟩
abbrev main_call35_v0 : Ref sig .tc := ⟨.hbm, 650, rfl⟩
abbrev main_call35_v1 : Ref sig .tc := ⟨.hbm, 651, rfl⟩
abbrev main_call35_cst : Ref sig .tc := ⟨.hbm, 652, rfl⟩
abbrev main_call35_v2 : Ref sig .tc := ⟨.hbm, 653, rfl⟩
abbrev main_call35_v3 : Ref sig .tc := ⟨.hbm, 654, rfl⟩
abbrev main_call35_cst_0 : Ref sig .tc := ⟨.hbm, 655, rfl⟩
abbrev main_call35_v4 : Ref sig .tc := ⟨.hbm, 656, rfl⟩
abbrev main_call35_v5 : Ref sig .tc := ⟨.hbm, 657, rfl⟩
abbrev main_v328 : Ref sig .tc := ⟨.hbm, 658, rfl⟩
abbrev main_v329 : Ref sig .tc := ⟨.hbm, 659, rfl⟩
abbrev main_v330 : Ref sig .tc := ⟨.hbm, 660, rfl⟩
abbrev main_v331 : Ref sig .tc := ⟨.hbm, 661, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩

abbrev main_while2_count : Scf.Loop 32 := ⟨0#32, 4096#32, 1#32⟩

abbrev main_while3_count : Scf.Loop 32 := ⟨0#32, 4096#32, 1#32⟩
-- ==== Proof.Tiles.lean ====
/-
  What the body computes on one tile of 128 time steps, and the whole program of one grid point written once over the four layers.

  `Cert.Mamba.prog` is the body with its repeated parts written as parts: three passes over the 32 tiles of the sequence for each layer.
  It is stated over any signature, so that the program and its idealised form are both instances of it.
-/
module

public import proofs.«01_k».proof.Proof.Gen.KernelIdeal.Skeleton
public import Idealize.ShloMosaic.Lib.VecWindow
public import Idealize.ShloMosaic.Lib.Tactic

@[expose] public section

noncomputable section

namespace Cert.Mamba

open Idealize.ShloMosaic Idealize.SL.Sem
open Cert.KernelIdeal Cert.KernelIdeal.Gen

variable {F : FTy → Type} [FloatOps F]

/-! ## One tile -/

/-- The step sizes of a tile: the softplus of the projected step sizes. -/
def dtTile (cw : FVec F S4x256 .f32) (cb : FVec F S1x256 .f32) (xpw : FVec F S256x40 .f32) (dtw : FVec F S8x256 .f32)
    (dtb : FVec F S1x256 .f32) (p : FVec F S136x256 .f32) : FVec F S128x256 .f32 :=
  k0_pay238 (k0_pay14 cw cb xpw dtw dtb p) (k0_pay16 cw cb xpw dtw dtb p) (k0_pay17 cw cb xpw dtw dtb p)
    (k0_pay18 cw cb xpw dtw dtb p) k0_pay19

/-- The step sizes of a tile times its convolved inputs. -/
def wTile (cw : FVec F S4x256 .f32) (cb : FVec F S1x256 .f32) (xpw : FVec F S256x40 .f32) (dtw : FVec F S8x256 .f32)
    (dtb : FVec F S1x256 .f32) (p : FVec F S136x256 .f32) : FVec F S128x256 .f32 :=
  k0_pay239 (k0_pay9 cw cb p) (k0_pay14 cw cb xpw dtw dtb p) (k0_pay16 cw cb xpw dtw dtb p) (k0_pay17 cw cb xpw dtw dtb p)
    (k0_pay18 cw cb xpw dtw dtb p) k0_pay19

theorem slices_row : ∀ n : Fin 16, S16x256.Slices ![n.val, 0] S1x256 := by decide
theorem slices_col : ∀ n : Fin 16, S128x16.Slices ![0, n.val] S128x1 := by decide

/-- The decay of state `n` over a tile. -/
def gTile (n : Fin 16) (a : FVec F S16x256 .f32) (dt : FVec F S128x256 .f32) : FVec F S128x1x256 .f32 :=
  shapeCast S128x1x256 (exp (mulf dt (broadcastTo S128x256 (extractStridedSlice S1x256 ![n.val, 0] a (slices_row n))
    broadcasts_S1x256_S128x256))) shapeCasts_S128x256_S128x1x256

/-- The input of state `n` over a tile. -/
def sTile (n : Fin 16) (w : FVec F S128x256 .f32) (b : FVec F S128x16 .f32) : FVec F S128x1x256 .f32 :=
  shapeCast S128x1x256 (mulf w (broadcastTo S128x256 (extractStridedSlice S128x1 ![0, n.val] b (slices_col n))
    broadcasts_S128x1_S128x256)) shapeCasts_S128x256_S128x1x256

/-- State `n` of a tile read out by its coefficient. -/
def yTerm (n : Fin 16) (cv : FVec F S128x16 .f32) (h : FVec F S128x1x256 .f32) : FVec F S128x256 .f32 :=
  mulf (shapeCast S128x256 h shapeCasts_S128x1x256_S128x256)
    (broadcastTo S128x256 (extractStridedSlice S128x1 ![0, n.val] cv (slices_col n)) broadcasts_S128x1_S128x256)

/-- The layer's output on a tile. -/
def outTile (d : FVec F S1x256 .f32) (ow : FVec F S256x128 .f32) (y z xa : FVec F S128x256 .f32) : FVec F S128x128 .f32 :=
  matmul dot_S128x256_S256x128_S128x128_1_0_0_1_n_n none
    (mulf (addf y (mulf xa (broadcastTo S128x256 d broadcasts_S1x256_S128x256))) (mulf z (logistic z))) ow
    (constant S128x128 .f32 0x00000000#32)

/-! ## The program of one grid point -/

/-- A layer's weights, as the body holds them. -/
structure LayerW (F : FTy → Type) where
  inw : FVec F S128x512 .f32
  cw : FVec F S4x256 .f32
  cb : FVec F S1x256 .f32
  xpw : FVec F S256x40 .f32
  dtw : FVec F S8x256 .f32
  dtb : FVec F S1x256 .f32
  a : FVec F S16x256 .f32
  d : FVec F S1x256 .f32
  ow : FVec F S256x128 .f32

section Prog

variable {nD : ℕ} {τ : Topo} {sig : RefSig} {Λ : Labels}

/-- The buffers of one grid point: the input block, the nine weight arrays, the output block, the nine scratch buffers. -/
structure Bufs (sig : RefSig) where
  x : Memref sig .tc .vmem S1x4096x128 .f32
  inw : Memref sig .tc .vmem S4x128x512 .f32
  cw : Memref sig .tc .vmem S4x4x256 .f32
  cb : Memref sig .tc .vmem S4x1x256 .f32
  xpw : Memref sig .tc .vmem S4x256x40 .f32
  dtw : Memref sig .tc .vmem S4x8x256 .f32
  dtb : Memref sig .tc .vmem S4x1x256 .f32
  a : Memref sig .tc .vmem S4x16x256 .f32
  d : Memref sig .tc .vmem S4x1x256 .f32
  ow : Memref sig .tc .vmem S4x256x128 .f32
  o : Memref sig .tc .vmem S1x4096x128 .f32
  pre : Memref sig .tc .vmem S4104x256 .f32
  xa : Memref sig .tc .vmem S4096x256 .f32
  z : Memref sig .tc .vmem S4096x256 .f32
  dt : Memref sig .tc .vmem S4096x256 .f32
  w : Memref sig .tc .vmem S4096x256 .f32
  pj : Memref sig .tc .vmem S4096x40 .f32
  g3 : Memref sig .tc .vmem S128x16x256 .f32
  w3 : Memref sig .tc .vmem S128x16x256 .f32
  xn : Memref sig .tc .vmem S4096x128 .f32

/-- A program of the body. -/
abbrev Pg (nD : ℕ) (τ : Topo) (sig : RefSig) (F : FTy → Type) (Λ : Labels) (α : Type) := Prog (TpuEff nD τ sig (Elt F) Λ .tc) α

/-- A load of the window of `size` at `off`. -/
abbrev ld {s : Shape} (m : Memref sig .tc .vmem s .f32) (off size : Fin s.rank → ℕ) (inb : ∀ a, off a + size a ≤ s.size a)
    (h : 0 < (Rect.unit (s := s) off size inb).shape.numel) : Pg nD τ sig F Λ (Vec F (Rect.unit (s := s) off size inb).shape .f32) :=
  Prog.lift (.load m (Rect.unit (s := s) off size inb).toLoadRect (View.loadsAt_vmem h))

/-- A store of the window of `size` at `off`. -/
abbrev st {s : Shape} (m : Memref sig .tc .vmem s .f32) (off size : Fin s.rank → ℕ) (inb : ∀ a, off a + size a ≤ s.size a)
    (h : 0 < (Rect.unit (s := s) off size inb).shape.numel) (w : Vec F (Rect.unit (s := s) off size inb).shape .f32) : Pg nD τ sig F Λ Unit :=
  Prog.lift (.store m (Rect.unit (s := s) off size inb) w Finset.univ (View.stores_vmem_bits_univ h rfl) (.inl rfl))

variable (B : Bufs sig)

/-- The first pass: every tile of the input projected, its first half kept for the convolution (eight rows down), its second half for the gate. -/
def pass1 (ldx : Fin k0_t1_loop.trips → Pg nD τ sig F Λ (FVec F S128x128 .f32)) (inw : FVec F S128x512 .f32) : Pg nD τ sig F Λ Unit :=
  Scf.Loop.for k0_t1_loop k0_t1_ok () fun k _ => do
    let x ← ldx k
    let _ ← ld B.pre (k0_off2 k) S128x256.size (k0_off2_inb k) h_S128x256
    st B.pre (k0_off2 k) S128x256.size (k0_off2_inb k) h_S128x256 (k0_pay2 inw x)
    let _ ← ld B.z (k0_off3 k) S128x256.size (k0_off3_inb k) h_S128x256
    st B.z (k0_off3 k) S128x256.size (k0_off3_inb k) h_S128x256 (k0_pay3 inw x)
    pure ()

/-- The second pass: every tile convolved with the eight rows before it, projected, and its step sizes found. -/
def pass2 (cw : FVec F S4x256 .f32) (cb : FVec F S1x256 .f32) (xpw : FVec F S256x40 .f32) (dtw : FVec F S8x256 .f32)
    (dtb : FVec F S1x256 .f32) : Pg nD τ sig F Λ Unit :=
  Scf.Loop.for k0_t2_loop k0_t2_ok () fun k _ => do
    let p ← ld B.pre (k0_off4 k) S136x256.size (k0_off4_inb k) h_S136x256
    let _ ← ld B.xa (k0_off5 k) S128x256.size (k0_off5_inb k) h_S128x256
    st B.xa (k0_off5 k) S128x256.size (k0_off5_inb k) h_S128x256 (k0_pay10 cw cb p)
    let _ ← ld B.pj (k0_off6 k) S128x40.size (k0_off6_inb k) h_S128x40
    st B.pj (k0_off6 k) S128x40.size (k0_off6_inb k) h_S128x40 (k0_pay12 cw cb xpw p)
    let _ ← ld B.dt (k0_off5 k) S128x256.size (k0_off5_inb k) h_S128x256
    st B.dt (k0_off5 k) S128x256.size (k0_off5_inb k) h_S128x256 (dtTile cw cb xpw dtw dtb p)
    let _ ← ld B.w (k0_off5 k) S128x256.size (k0_off5_inb k) h_S128x256
    st B.w (k0_off5 k) S128x256.size (k0_off5_inb k) h_S128x256 (wTile cw cb xpw dtw dtb p)
    pure ()

theorem inb_state : ∀ n : Fin 16, ∀ a, (![0, n.val, 0] : Fin 3 → ℕ) a + S128x1x256.size a ≤ S128x16x256.size a := by decide

/-- The 16 states in order. -/
def states : List (Fin 16) := [0, 1, 2, 3, 4, 5, 6, 7, 8, 9, 10, 11, 12, 13, 14, 15]

theorem states_eq : states = List.finRange 16 := by decide

/-- For every state a dead load and a store of its row. -/
def fill (m : Memref sig .tc .vmem S128x16x256 .f32) (v : Fin 16 → FVec F S128x1x256 .f32) : Pg nD τ sig F Λ Unit :=
  Scf.forFrom (fun n _ => do
    let _ ← ld m ![0, n.val, 0] S128x1x256.size (inb_state n) h_S128x1x256
    st m ![0, n.val, 0] S128x1x256.size (inb_state n) h_S128x1x256 (v n)) states ()

/-- The 128 steps of the recurrence over a tile: each state row is overwritten by the state after it. -/
def steps (h : FVec F S16x256 .f32) : Pg nD τ sig F Λ (FVec F S16x256 .f32) :=
  Scf.Loop.for k0_t4_loop k0_t4_ok h fun t h => do
    let g ← ld B.g3 (k0_off9 t) S1x16x256.size (k0_off9_inb t) h_S1x16x256
    let w ← ld B.w3 (k0_off9 t) S1x16x256.size (k0_off9_inb t) h_S1x16x256
    let _ ← ld B.w3 (k0_off9 t) S1x16x256.size (k0_off9_inb t) h_S1x16x256
    st B.w3 (k0_off9 t) S1x16x256.size (k0_off9_inb t) h_S1x16x256 (k0_pay58 h g w)
    pure (k0_pay57 h g w)

/-- The states of a tile read out by their coefficients and added up. -/
def readOut (cv : FVec F S128x16 .f32) : Pg nD τ sig F Λ (FVec F S128x256 .f32) := do
  let h ← ld B.w3 ![0, 0, 0] S128x1x256.size (inb_state 0) h_S128x1x256
  Scf.forFrom (fun n acc => do
    let h ← ld B.w3 ![0, n.val, 0] S128x1x256.size (inb_state n) h_S128x1x256
    pure (addf acc (yTerm n cv h))) (states.drop 1) (yTerm 0 cv h)

/-- The third pass: for every tile the decays and the inputs of the 16 states, the recurrence, and the output, put down by `sto`. -/
def pass3 (sto : Fin k0_t3_loop.trips → FVec F S128x128 .f32 → Pg nD τ sig F Λ Unit) (a : FVec F S16x256 .f32)
    (d : FVec F S1x256 .f32) (ow : FVec F S256x128 .f32) : Pg nD τ sig F Λ (FVec F S16x256 .f32) :=
  Scf.Loop.for k0_t3_loop k0_t3_ok (k0_pay240 (F := F)) fun k h => do
    let dt ← ld B.dt (k0_off7 k) S128x256.size (k0_off7_inb k) h_S128x256
    fill B.g3 fun n => gTile n a dt
    let w ← ld B.w (k0_off7 k) S128x256.size (k0_off7_inb k) h_S128x256
    let pj ← ld B.pj (k0_off8 k) S128x40.size (k0_off8_inb k) h_S128x40
    fill B.w3 fun n => sTile n w (k0_pay39 pj)
    let h' ← (steps B h >>= fun h' => pure h')
    let y ← readOut B (k0_pay40 pj)
    let z ← ld B.z (k0_off7 k) S128x256.size (k0_off7_inb k) h_S128x256
    let xa ← ld B.xa (k0_off7 k) S128x256.size (k0_off7_inb k) h_S128x256
    sto k (outTile d ow y z xa)
    pure h'

/-- The weights of layer `l` loaded. -/
def loadW (l : ℕ) (h1 : ∀ a, (![l, 0, 0] : Fin 3 → ℕ) a + S1x128x512.size a ≤ S4x128x512.size a)
    (h2 : ∀ a, (![l, 0, 0] : Fin 3 → ℕ) a + S1x4x256.size a ≤ S4x4x256.size a)
    (h3 : ∀ a, (![l, 0, 0] : Fin 3 → ℕ) a + S1x1x256.size a ≤ S4x1x256.size a)
    (h4 : ∀ a, (![l, 0, 0] : Fin 3 → ℕ) a + S1x256x40.size a ≤ S4x256x40.size a)
    (h5 : ∀ a, (![l, 0, 0] : Fin 3 → ℕ) a + S1x8x256.size a ≤ S4x8x256.size a)
    (h6 : ∀ a, (![l, 0, 0] : Fin 3 → ℕ) a + S1x16x256.size a ≤ S4x16x256.size a)
    (h7 : ∀ a, (![l, 0, 0] : Fin 3 → ℕ) a + S1x256x128.size a ≤ S4x256x128.size a) : Pg nD τ sig F Λ (LayerW F) := do
  let inw ← ld B.inw ![l, 0, 0] S1x128x512.size h1 h_S1x128x512
  let cw ← ld B.cw ![l, 0, 0] S1x4x256.size h2 h_S1x4x256
  let cb ← ld B.cb ![l, 0, 0] S1x1x256.size h3 h_S1x1x256
  let xpw ← ld B.xpw ![l, 0, 0] S1x256x40.size h4 h_S1x256x40
  let dtw ← ld B.dtw ![l, 0, 0] S1x8x256.size h5 h_S1x8x256
  let dtb ← ld B.dtb ![l, 0, 0] S1x1x256.size h3 h_S1x1x256
  let a ← ld B.a ![l, 0, 0] S1x16x256.size h6 h_S1x16x256
  let d ← ld B.d ![l, 0, 0] S1x1x256.size h3 h_S1x1x256
  let ow ← ld B.ow ![l, 0, 0] S1x256x128.size h7 h_S1x256x128
  pure ⟨shapeCast S128x512 inw shapeCasts_S1x128x512_S128x512, shapeCast S4x256 cw shapeCasts_S1x4x256_S4x256,
    shapeCast S1x256 cb shapeCasts_S1x1x256_S1x256, shapeCast S256x40 xpw shapeCasts_S1x256x40_S256x40,
    shapeCast S8x256 dtw shapeCasts_S1x8x256_S8x256, shapeCast S1x256 dtb shapeCasts_S1x1x256_S1x256,
    shapeCast S16x256 a shapeCasts_S1x16x256_S16x256, shapeCast S1x256 d shapeCasts_S1x1x256_S1x256,
    shapeCast S256x128 ow shapeCasts_S1x256x128_S256x128⟩

/-- A tile of the input block. -/
def ldX (k : Fin k0_t1_loop.trips) : Pg nD τ sig F Λ (FVec F S128x128 .f32) := do
  let v ← ld B.x (k0_off1 k) S1x128x128.size (k0_off1_inb k) h_S1x128x128
  pure (shapeCast S128x128 v shapeCasts_S1x128x128_S128x128)

/-- A tile of the layer before. -/
def ldN (k : Fin k0_t1_loop.trips) : Pg nD τ sig F Λ (FVec F S128x128 .f32) :=
  ld B.xn (k0_off10 k) S128x128.size (k0_off10_inb k) h_S128x128

/-- A tile of this layer put down for the next. -/
def stN (k : Fin k0_t3_loop.trips) (v : FVec F S128x128 .f32) : Pg nD τ sig F Λ Unit := do
  let _ ← ld B.xn (k0_off10 k) S128x128.size (k0_off10_inb k) h_S128x128
  st B.xn (k0_off10 k) S128x128.size (k0_off10_inb k) h_S128x128 (shapeCast S128x128 v shapeCasts_S128x128_S128x128)

/-- A tile of the last layer put down in the output block. -/
def stO (k : Fin k0_t3_loop.trips) (v : FVec F S128x128 .f32) : Pg nD τ sig F Λ Unit := do
  let _ ← ld B.o (k0_off1 k) S1x128x128.size (k0_off1_inb k) h_S1x128x128
  st B.o (k0_off1 k) S1x128x128.size (k0_off1_inb k) h_S1x128x128 (shapeCast S1x128x128 v shapeCasts_S128x128_S1x128x128)

/-- A layer on its loaded weights. -/
def layerProg (ldx : Fin k0_t1_loop.trips → Pg nD τ sig F Λ (FVec F S128x128 .f32))
    (sto : Fin k0_t3_loop.trips → FVec F S128x128 .f32 → Pg nD τ sig F Λ Unit) (W : LayerW F) : Pg nD τ sig F Λ Unit := do
  pass1 B ldx W.inw
  pass2 B W.cw W.cb W.xpw W.dtw W.dtb
  let _ ← pass3 B sto W.a W.d W.ow
  pure ()

/-- The program of one grid point. -/
def prog : Pg nD τ sig F Λ Unit := do
  let _ ← ld B.pre ![0, 0] S8x256.size inb_S4104x256_S8x256_0_0 h_S8x256
  st B.pre ![0, 0] S8x256.size inb_S4104x256_S8x256_0_0 h_S8x256 (k0_pay225 (F := F))
  let W ← loadW B 0 inb_S4x128x512_S1x128x512_0_0_0 inb_S4x4x256_S1x4x256_0_0_0 inb_S4x1x256_S1x1x256_0_0_0 inb_S4x256x40_S1x256x40_0_0_0 inb_S4x8x256_S1x8x256_0_0_0 inb_S4x16x256_S1x16x256_0_0_0 inb_S4x256x128_S1x256x128_0_0_0
  layerProg B (ldX B) (stN B) W
  let W ← loadW B 1 inb_S4x128x512_S1x128x512_1_0_0 inb_S4x4x256_S1x4x256_1_0_0 inb_S4x1x256_S1x1x256_1_0_0 inb_S4x256x40_S1x256x40_1_0_0 inb_S4x8x256_S1x8x256_1_0_0 inb_S4x16x256_S1x16x256_1_0_0 inb_S4x256x128_S1x256x128_1_0_0
  layerProg B (ldN B) (stN B) W
  let W ← loadW B 2 inb_S4x128x512_S1x128x512_2_0_0 inb_S4x4x256_S1x4x256_2_0_0 inb_S4x1x256_S1x1x256_2_0_0 inb_S4x256x40_S1x256x40_2_0_0 inb_S4x8x256_S1x8x256_2_0_0 inb_S4x16x256_S1x16x256_2_0_0 inb_S4x256x128_S1x256x128_2_0_0
  layerProg B (ldN B) (stN B) W
  let W ← loadW B 3 inb_S4x128x512_S1x128x512_3_0_0 inb_S4x4x256_S1x4x256_3_0_0 inb_S4x1x256_S1x1x256_3_0_0 inb_S4x256x40_S1x256x40_3_0_0 inb_S4x8x256_S1x8x256_3_0_0 inb_S4x16x256_S1x16x256_3_0_0 inb_S4x256x128_S1x256x128_3_0_0
  layerProg B (ldN B) (stO B) W

end Prog

end Cert.Mamba
end
-- ==== Proof.Mem.lean ====
/-
  What a program of the body does to its buffers, as a statement over the arrays they hold.

  `Ok p σ Q` says: run while the buffers hold the arrays `σ`, the program `p` ends with a result and arrays that meet `Q`.
  The rules below are the only ones the passes of the body need: a load, a store, a sequence and a loop.
-/
module

public import proofs.«01_k».proof.Proof.Tiles
public import Idealize.ShloMosaic.Lib.Writes
public import Idealize.SL.ProofMode.BigOp

@[expose] public section

noncomputable section

namespace Cert.Mamba

open Idealize.SL Idealize.SL.RA Idealize.SL.BI
open scoped Idealize.SL.BI
open Idealize.SL.BI.BIBase Idealize.SL.BI.Laws Idealize.SL.ProofMode Idealize.SL.Sem
open Idealize.ShloMosaic Idealize.ShloMosaic.Tactic
open Cert.KernelIdeal Cert.KernelIdeal.Gen

/-- The names of the buffers of one grid point. -/
inductive Cell
  | x | inw | cw | cb | xpw | dtw | dtb | a | d | ow | o | pre | xa | z | dt | w | pj | g3 | w3 | xn
  deriving DecidableEq

/-- The buffers in order. -/
def Cell.all : List Cell := [.x, .inw, .cw, .cb, .xpw, .dtw, .dtb, .a, .d, .ow, .o, .pre, .xa, .z, .dt, .w, .pj, .g3, .w3, .xn]

instance : Fintype Cell := ⟨⟨Cell.all, by decide⟩, fun b => by cases b <;> decide⟩

/-- The shape of each buffer. -/
@[reducible] def Cell.shape : Cell → Shape
  | .x => S1x4096x128 | .inw => S4x128x512 | .cw => S4x4x256 | .cb => S4x1x256 | .xpw => S4x256x40 | .dtw => S4x8x256
  | .dtb => S4x1x256 | .a => S4x16x256 | .d => S4x1x256 | .ow => S4x256x128 | .o => S1x4096x128 | .pre => S4104x256
  | .xa => S4096x256 | .z => S4096x256 | .dt => S4096x256 | .w => S4096x256 | .pj => S4096x40 | .g3 => S128x16x256
  | .w3 => S128x16x256 | .xn => S4096x128

/-- The array each buffer holds. -/
abbrev State (F : FTy → Type) := (b : Cell) → Vec F b.shape .f32

/-- The buffer of each name. -/
@[reducible] def Bufs.mem {sig : RefSig} (B : Bufs sig) : (b : Cell) → Memref sig .tc .vmem b.shape .f32
  | .x => B.x | .inw => B.inw | .cw => B.cw | .cb => B.cb | .xpw => B.xpw | .dtw => B.dtw | .dtb => B.dtb | .a => B.a
  | .d => B.d | .ow => B.ow | .o => B.o | .pre => B.pre | .xa => B.xa | .z => B.z | .dt => B.dt | .w => B.w | .pj => B.pj
  | .g3 => B.g3 | .w3 => B.w3 | .xn => B.xn

section Rules

variable {F : FTy → Type} [FloatOps F] {nD : ℕ} {τ : Topo} {sig : RefSig} {Λ : Labels}
variable {Ix : Type} [DecidableEq Ix] {Name : Type} [DecidableEq Name] {U : Type} [URA U] {Lvl : Type} [Preorder Lvl]

/-- The buffers held whole, each at its array. -/
def Own (Ix Name U Lvl : Type) [DecidableEq Ix] [DecidableEq Name] [URA U] (c : Dev nD) (B : Bufs sig) (σ : State F) :
    sProp (MT nD τ sig Ix (Elt F) Name U Lvl) :=
  bigSep Finset.univ fun b : Cell => owns (c.tc : Thread nD τ) (B.mem b) fullShare (σ b)

variable (Ix Name U Lvl) in
/-- From the arrays `σ` the program ends with a result and arrays that meet `Q`. -/
def Ok {defs : Defs nD τ sig (Elt F) Λ} (𝒱 : Variants) (c : Dev nD) (bd : Option 𝒱.V) (E : Set Name) (B : Bufs sig) {α : Type}
    (p : Pg nD τ sig F Λ α) (σ : State F) (Q : α → State F → Prop) : Prop :=
  (Own Ix Name U Lvl c B σ) ⊢ wp frame (wpE defs 𝒱 (c.tc : Thread nD τ) bd) E p fun r => iprop(∃ σ', ⌜Q r σ'⌝ ∗ Own Ix Name U Lvl c B σ')

/-- The buffers held, one of them apart. -/
theorem bigSep_split {M : Type} [URA M] (b : Cell) (Φ : Cell → sProp M) :
    bigSep Finset.univ Φ = iprop(Φ b ∗ bigSep (Finset.univ.erase b) Φ) := BI.bigSep_univ_split b

variable {defs : Defs nD τ sig (Elt F) Λ} {𝒱 : Variants} {c : Dev nD} {bd : Option 𝒱.V} {E : Set Name} {B : Bufs sig}
variable {α β : Type} {σ : State F}

/-- A finished program. -/
theorem Ok.pure {Q : α → State F → Prop} {r : α} (h : Q r σ) : Ok Ix Name U Lvl (defs := defs) 𝒱 c bd E B (pure r) σ Q := by
  unfold Ok
  show _ ⊢ wp _ _ _ (Prog.ret r) _
  rw [wp_ret]
  iintro H
  imodintro
  iexists σ
  isplitr; · ipureintro; exact h
  iexact H

/-- A weaker postcondition. -/
theorem Ok.mono {Q R : α → State F → Prop} {p : Pg nD τ sig F Λ α} (h : Ok Ix Name U Lvl (defs := defs) 𝒱 c bd E B p σ Q) (hQ : ∀ r σ', Q r σ' → R r σ') : Ok Ix Name U Lvl (defs := defs) 𝒱 c bd E B p σ R := by
  unfold Ok at *
  refine h.trans (wp_mono _ _ _ fun r => ?_)
  iintro ⟨%σ', %hq, H⟩
  iexists σ'
  isplitr; · ipureintro; exact hQ r σ' hq
  iexact H

/-- A sequence. -/
theorem Ok.bind {Q : α → State F → Prop} {R : β → State F → Prop} {p : Pg nD τ sig F Λ α} {k : α → Pg nD τ sig F Λ β} (h : Ok Ix Name U Lvl (defs := defs) 𝒱 c bd E B p σ Q)
    (hk : ∀ r σ', Q r σ' → Ok Ix Name U Lvl (defs := defs) 𝒱 c bd E B (k r) σ' R) : Ok Ix Name U Lvl (defs := defs) 𝒱 c bd E B (p >>= k) σ R := by
  unfold Ok at *
  rw [wp_bind]
  refine h.trans (wp_mono _ _ _ fun r => ?_)
  iintro ⟨%σ', %hq, H⟩
  iapply (hk r σ' hq)
  iexact H

/-- A load reads the window of the array held. -/
theorem Ok.ld (b : Cell) {off size : Fin b.shape.rank → ℕ} {inb : ∀ a, off a + size a ≤ b.shape.size a}
    {h : 0 < (Rect.unit (s := b.shape) off size inb).shape.numel} {Q : Vec F (Rect.unit (s := b.shape) off size inb).shape .f32 → State F → Prop}
    (hQ : Q (VecWindow.window (σ b) off size inb) σ) : Ok Ix Name U Lvl (defs := defs) 𝒱 c bd E B (ld (B.mem b) off size inb h) σ Q := by
  unfold Ok Own
  refine (Entails.of_eq (bigSep_split b _)).trans ?_
  unfold owns
  iintro ⟨⟨%f, %hf, Hb⟩, Hr⟩
  iapply (wp_load 𝒱 (c.tc : Thread nD τ) bd E (View.setOn_subset_set _ _)) $$ Hb
  iintro Hb
  rw [wp_ret, View.readAt_unit _ f inb rfl inb, hf]
  imodintro
  iexists σ
  isplitr; · ipureintro; exact hQ
  rw [bigSep_split b]
  isplitl [Hb]
  · iexists f; isplitr; · ipureintro; exact hf
    iexact Hb
  iexact Hr

omit [FloatOps F] [Preorder Lvl] in
/-- The other buffers do not change when one does. -/
theorem own_rest (b : Cell) (σ : State F) (v : Vec F b.shape .f32) :
    (bigSep (Finset.univ.erase b) fun i => owns (c.tc : Thread nD τ) (B.mem i) fullShare (σ i) : sProp (MT nD τ sig Ix (Elt F) Name U Lvl))
      = bigSep (Finset.univ.erase b) fun i => owns (c.tc : Thread nD τ) (B.mem i) fullShare (Function.update σ b v i) :=
  bigSep_congr fun i hi => by rw [Function.update_of_ne (Finset.ne_of_mem_erase hi)]

/-- A store puts its value over the window of the array held. -/
theorem Ok.st (b : Cell) {off size : Fin b.shape.rank → ℕ} {inb : ∀ a, off a + size a ≤ b.shape.size a}
    {h : 0 < (Rect.unit (s := b.shape) off size inb).shape.numel} {w : Vec F (Rect.unit (s := b.shape) off size inb).shape .f32}
    {Q : Unit → State F → Prop}
    (hQ : Q () (Function.update σ b (VecWindow.put (σ b) off size w))) : Ok Ix Name U Lvl (defs := defs) 𝒱 c bd E B (st (B.mem b) off size inb h w) σ Q := by
  unfold Ok Own
  refine (Entails.of_eq ((bigSep_split b _).trans (congrArg (fun X => iprop(owns (c.tc : Thread nD τ) (B.mem b) fullShare (σ b) ∗ X))
    (own_rest b σ (VecWindow.put (σ b) off size w))))).trans ?_
  unfold owns
  iintro ⟨⟨%f, %hf, Hb⟩, Hr⟩
  iapply (wp_store_writes₀ 𝒱 (c.tc : Thread nD τ) bd E (View.set_slice_subset _ _)) $$ Hb
  iintro Hb
  rw [wp_ret]
  imodintro
  iexists (Function.update σ b (VecWindow.put (σ b) off size w))
  isplitr; · ipureintro; exact hQ
  rw [bigSep_split b]
  isplitl [Hb]
  · iexists _; isplitr
    · ipureintro
      rw [Function.update_self]
      exact (View.read_writes_cons_put _ f inb w [] rfl).trans (by rw [show (B.mem b).view.writes (Elt F) f [] = f from rfl, hf])
    iexact Hb
  iexact Hr

/-- The trips of a loop over a list of them, by an invariant. -/
theorem Ok.forFrom {n : ℕ} {body : Fin n → α → Pg nD τ sig F Λ α} (I : ℕ → α → State F → Prop) {Q : α → State F → Prop} (k : ℕ) (hk : k ≤ n)
    {a : α} (h0 : I k a σ) (hbody : ∀ (j : Fin n) (a : α) (σ : State F), I j.val a σ → Ok Ix Name U Lvl (defs := defs) 𝒱 c bd E B (body j a) σ (I (j.val + 1)))
    (hQ : ∀ a σ, I n a σ → Q a σ) : Ok Ix Name U Lvl (defs := defs) 𝒱 c bd E B (Scf.forFrom body ((List.finRange n).drop k) a) σ Q := by
  unfold Ok at *
  have H := Scf.wp_forFrom (frame (Ix := Ix) (Val := Elt F) (Name := Name) (U := U) (Lvl := Lvl) (nD := nD) (τ := τ) (sig := sig)) (wpE defs 𝒱 (c.tc : Thread nD τ) bd) E body
    (fun k a => iprop(∃ σ', ⌜I k a σ'⌝ ∗ Own Ix Name U Lvl c B σ')) (fun j a => by
      iintro ⟨%σ', %hi, H⟩
      iapply (hbody j a σ' hi)
      iexact H) (Q := fun r => iprop(∃ σ', ⌜Q r σ'⌝ ∗ Own Ix Name U Lvl c B σ')) k hk a
  refine BI.BIBase.Entails.trans ?_ H
  iintro H
  isplitl [H]
  · iexists σ
    isplitr; · ipureintro; exact h0
    iexact H
  iintro %a' ⟨%σ', %hi, H⟩
  iexists σ'
  isplitr; · ipureintro; exact hQ a' σ' hi
  iexact H

/-- A loop, by an invariant. -/
theorem Ok.loop {l : Scf.Loop 32} {hok : l.OK} {body : Fin l.trips → α → Pg nD τ sig F Λ α} (I : ℕ → α → State F → Prop) {a : α} {n : ℕ}
    {Q : α → State F → Prop} (hn : l.trips = n)
    (h0 : I 0 a σ) (hbody : ∀ (j : Fin l.trips) (a : α) (σ : State F), I j.val a σ → Ok Ix Name U Lvl (defs := defs) 𝒱 c bd E B (body j a) σ (I (j.val + 1)))
    (hQ : ∀ a σ, I n a σ → Q a σ) : Ok Ix Name U Lvl (defs := defs) 𝒱 c bd E B (Scf.Loop.for l hok a body) σ Q := by
  subst hn
  show Ok Ix Name U Lvl (defs := defs) 𝒱 c bd E B (Scf.for l.lb l.ub l.st hok a body) σ Q
  rw [Scf.for_eq]
  exact Ok.forFrom I 0 (Nat.zero_le _) h0 hbody hQ

/-- A load: its value, and nothing changed. -/
theorem Ok.ld' (b : Cell) {off size : Fin b.shape.rank → ℕ} {inb : ∀ a, off a + size a ≤ b.shape.size a}
    {h : 0 < (Rect.unit (s := b.shape) off size inb).shape.numel} :
    Ok Ix Name U Lvl (defs := defs) 𝒱 c bd E B (Mamba.ld (B.mem b) off size inb h) σ fun v σ' => v = VecWindow.window (σ b) off size inb ∧ σ' = σ := Ok.ld b ⟨rfl, rfl⟩

/-- A store: the arrays after it. -/
theorem Ok.st' (b : Cell) {off size : Fin b.shape.rank → ℕ} {inb : ∀ a, off a + size a ≤ b.shape.size a}
    {h : 0 < (Rect.unit (s := b.shape) off size inb).shape.numel} {w : Vec F (Rect.unit (s := b.shape) off size inb).shape .f32} :
    Ok Ix Name U Lvl (defs := defs) 𝒱 c bd E B (Mamba.st (B.mem b) off size inb h w) σ fun _ σ' => σ' = Function.update σ b (VecWindow.put (σ b) off size w) := Ok.st b rfl

/-- A load that is not used, then a store. -/
theorem Ok.put (b : Cell) {off size : Fin b.shape.rank → ℕ} {inb : ∀ a, off a + size a ≤ b.shape.size a}
    {h : 0 < (Rect.unit (s := b.shape) off size inb).shape.numel} {w : Vec F (Rect.unit (s := b.shape) off size inb).shape .f32}
    {k : Unit → Pg nD τ sig F Λ β} {R : β → State F → Prop}
    (hk : Ok Ix Name U Lvl (defs := defs) 𝒱 c bd E B (k ()) (Function.update σ b (VecWindow.put (σ b) off size w)) R) :
    Ok Ix Name U Lvl (defs := defs) 𝒱 c bd E B (Mamba.ld (B.mem b) off size inb h >>= fun _ => Mamba.st (B.mem b) off size inb h w >>= k) σ R := by
  refine Ok.bind (Ok.ld' b) ?_
  rintro _ _ ⟨-, rfl⟩
  refine Ok.bind (Ok.st' b) ?_
  rintro _ _ rfl
  exact hk

end Rules

end Cert.Mamba
end
-- ==== Proof.Tiling.lean ====
/-
  An array filled tile by tile.

  A tiling of a shape names the windows of one size that are written in turn. `upto n T x` is the array `x` with the tiles before
  tile `n` holding `T`. The lemmas say how one more store continues it and what a load of a tile reads of it.
-/
module

public import proofs.«01_k».proof.Proof.Gen.KernelIdeal.Skeleton
public import Idealize.ShloMosaic.Lib.VecWindow

@[expose] public section

noncomputable section

namespace Cert.Mamba

open Idealize.ShloMosaic
open Cert.KernelIdeal Cert.KernelIdeal.Gen

/-- The windows of size `size` a buffer of shape `s` is written by, in order; each element is in at most one of them. -/
structure Tiling (s : Shape) (N : ℕ) (size : Fin s.rank → ℕ) where
  off : Fin N → Fin s.rank → ℕ
  cov : s.Idx → Fin N
  uniq : ∀ k (y : s.Idx), (∀ a, off k a ≤ (y a).val ∧ (y a).val < off k a + size a) → cov y = k

namespace Tiling

variable {s : Shape} {N : ℕ} {size : Fin s.rank → ℕ} (A : Tiling s N size) {α : Type}

/-- The element lies in the tile that may hold it. -/
def Has (y : s.Idx) : Prop := ∀ a, A.off (A.cov y) a ≤ (y a).val ∧ (y a).val < A.off (A.cov y) a + size a

instance (y : s.Idx) : Decidable (A.Has y) := by unfold Has; infer_instance

/-- The array with the tiles before tile `n` holding `T`. -/
def upto (n : ℕ) (T : Fin N → ((a : Fin s.rank) → Fin (size a)) → α) (x : s.Idx → α) : s.Idx → α := fun y =>
  if h : A.Has y ∧ (A.cov y).val < n then T (A.cov y) (Rect.unitLocal (s := s) (off := A.off (A.cov y)) (size := size) y h.1) else x y

variable (T : Fin N → ((a : Fin s.rank) → Fin (size a)) → α) (x : s.Idx → α)

theorem upto_zero : A.upto 0 T x = x := funext fun y => dif_neg fun h => absurd h.2 (Nat.not_lt_zero _)

/-- One more tile stored. -/
theorem put_upto (k : Fin N) {off : Fin s.rank → ℕ} (ho : off = A.off k) (w : ((a : Fin s.rank) → Fin (size a)) → α) (hw : w = T k) :
    VecWindow.put (A.upto k.val T x) off size w = A.upto (k.val + 1) T x := by
  subst ho hw
  funext y
  unfold VecWindow.put
  by_cases h : ∀ a, A.off k a ≤ (y a).val ∧ (y a).val < A.off k a + size a
  · rw [dif_pos h]
    obtain rfl := A.uniq k y h
    unfold upto
    rw [dif_pos (⟨h, Nat.lt_succ_self _⟩ : A.Has y ∧ (A.cov y).val < (A.cov y).val + 1)]
  · rw [dif_neg h]
    unfold upto
    by_cases h' : A.Has y ∧ (A.cov y).val < k.val
    · rw [dif_pos h', dif_pos ⟨h'.1, Nat.lt_succ_of_lt h'.2⟩]
    · rw [dif_neg h', dif_neg fun h'' => h' ⟨h''.1, ?_⟩]
      rcases Nat.lt_succ_iff_lt_or_eq.mp h''.2 with h3 | h3
      · exact h3
      · exact absurd (by rw [← Fin.ext h3]; exact h''.1) h

/-- The element of the array a tile's own index names. -/
theorem mem_emb (k : Fin N) (inb : ∀ a, A.off k a + size a ≤ s.size a) (y : (Rect.unit (A.off k) size inb).shape.Idx) (a : Fin s.rank) :
    A.off k a ≤ ((Rect.unit (A.off k) size inb).emb y a).val ∧ ((Rect.unit (A.off k) size inb).emb y a).val < A.off k a + size a := by
  have e : ((Rect.unit (A.off k) size inb).emb y a).val = A.off k a + 1 * (y a).val := rfl
  have := (y a).isLt
  have hs : (Rect.unit (A.off k) size inb).shape.size a = size a := rfl
  omega

/-- A tile already stored reads its value. -/
theorem window_upto {n : ℕ} (k : Fin N) (hk : k.val < n) {off : Fin s.rank → ℕ} (ho : off = A.off k) (inb : ∀ a, off a + size a ≤ s.size a) :
    VecWindow.window (A.upto n T x) off size inb = T k := by
  subst ho
  funext y
  have h := A.mem_emb k inb y
  have hc := A.uniq k _ h
  show A.upto n T x ((Rect.unit (A.off k) size inb).emb y) = T k y
  unfold upto
  have hH : A.Has ((Rect.unit (A.off k) size inb).emb y) ∧ (A.cov ((Rect.unit (A.off k) size inb).emb y)).val < n := by
    unfold Has; rw [hc]; exact ⟨h, hk⟩
  rw [dif_pos hH]
  have key : ∀ (j : Fin N) (hj : j = k) (hm : ∀ a, A.off j a ≤ ((Rect.unit (A.off k) size inb).emb y a).val
      ∧ ((Rect.unit (A.off k) size inb).emb y a).val < A.off j a + size a),
      T j (Rect.unitLocal (s := s) (off := A.off j) (size := size) ((Rect.unit (A.off k) size inb).emb y) hm) = T k y := by
    rintro j rfl hm
    exact congrArg (T j) (funext fun a => Fin.ext (by
      show ((Rect.unit (A.off j) size inb).emb y a).val - A.off j a = (y a).val
      have e : ((Rect.unit (A.off j) size inb).emb y a).val = A.off j a + 1 * (y a).val := rfl
      omega))
  exact key _ hc hH.1

/-- A tile not yet stored reads what was there before. -/
theorem window_upto_of_le {n : ℕ} (k : Fin N) (hk : n ≤ k.val) {off : Fin s.rank → ℕ} (ho : off = A.off k) (inb : ∀ a, off a + size a ≤ s.size a) :
    VecWindow.window (A.upto n T x) off size inb = VecWindow.window x off size inb := by
  subst ho
  funext y
  have hc := A.uniq k _ (A.mem_emb k inb y)
  exact dif_neg fun h => absurd h.2 (by show ¬ (A.cov ((Rect.unit (A.off k) size inb).emb y)).val < n; rw [hc]; omega)

/-- Arrays that agree where no tile lies become equal once every tile is stored. -/
theorem upto_congr {x x' : s.Idx → α} (h : ∀ y, ¬ A.Has y → x y = x' y) : A.upto N T x = A.upto N T x' := by
  funext y
  unfold upto
  by_cases hy : A.Has y
  · rw [dif_pos ⟨hy, (A.cov y).isLt⟩, dif_pos ⟨hy, (A.cov y).isLt⟩]
  · rw [dif_neg fun h => hy h.1, dif_neg fun h => hy h.1]; exact h y hy

/-- Where no tile lies the array keeps its value. -/
theorem upto_of_not {n : ℕ} (y : s.Idx) (hy : ¬ A.Has y) : A.upto n T x y = x y := dif_neg fun h => hy h.1

/-- An element once every tile is stored. -/
theorem upto_apply (y : s.Idx) (k : Fin N) (z : (a : Fin s.rank) → Fin (size a)) (hz : ∀ a, (y a).val = A.off k a + (z a).val) :
    A.upto N T x y = T k z := by
  have h : ∀ a, A.off k a ≤ (y a).val ∧ (y a).val < A.off k a + size a := fun a => by have := hz a; have := (z a).isLt; omega
  obtain rfl := A.uniq k y h
  unfold upto
  rw [dif_pos (⟨h, (A.cov y).isLt⟩ : A.Has y ∧ (A.cov y).val < N)]
  exact (congrArg (T _) (funext fun a => Fin.ext (by
    show (y a).val - A.off (A.cov y) a = (z a).val
    have := hz a
    omega)))

end Tiling

/-- A matrix cut into blocks of 128 rows, the first starting `p` rows down. -/
def rows (N C p : ℕ) (hN : 0 < N) : Tiling ⟨2, ![128 * N + p, C]⟩ N ![128, C] where
  off k := ![128 * k.val + p, 0]
  cov y := ⟨((y 0).val - p) / 128, by
    have := (y 0).isLt
    have h2 : (⟨2, ![128 * N + p, C]⟩ : Shape).size 0 = 128 * N + p := rfl
    rw [Nat.div_lt_iff_lt_mul (by omega)]; omega⟩
  uniq k y h := Fin.ext (by
    have h0 := h 0
    show ((y 0).val - p) / 128 = k.val
    change 128 * k.val + p ≤ (y 0).val ∧ (y 0).val < 128 * k.val + p + 128 at h0
    omega)

/-- The buffer of eight rows and 32 tiles. -/
def tPre : Tiling S4104x256 32 S128x256.size := rows 32 256 8 (by decide)
/-- A buffer of 32 tiles, 256 channels. -/
def tRow : Tiling S4096x256 32 S128x256.size := rows 32 256 0 (by decide)
/-- A buffer of 32 tiles, 40 projections. -/
def tPj : Tiling S4096x40 32 S128x40.size := rows 32 40 0 (by decide)
/-- A buffer of 32 tiles, 128 features. -/
def tXn : Tiling S4096x128 32 S128x128.size := rows 32 128 0 (by decide)

/-- The output block, 32 tiles. -/
def tO : Tiling S1x4096x128 32 S1x128x128.size where
  off k := ![0, 128 * k.val, 0]
  cov y := ⟨(y 1).val / 128, by
    have := (y 1).isLt
    have h2 : S1x4096x128.size 1 = 4096 := rfl
    omega⟩
  uniq k y h := Fin.ext (by
    have h0 := h 1
    show (y 1).val / 128 = k.val
    change 128 * k.val ≤ (y 1).val ∧ (y 1).val < 128 * k.val + 128 at h0
    omega)

/-- A tile of states, one row per state. -/
def tState : Tiling S128x16x256 16 S128x1x256.size where
  off n := ![0, n.val, 0]
  cov y := y 1
  uniq k y h := Fin.ext (by
    have h0 := h 1
    show (y 1).val = k.val
    change k.val ≤ (y 1).val ∧ (y 1).val < k.val + 1 at h0
    omega)

/-- A tile of states, one row per time step. -/
def tStep : Tiling S128x16x256 128 S1x16x256.size where
  off t := ![t.val, 0, 0]
  cov y := y 0
  uniq k y h := Fin.ext (by
    have h0 := h 0
    show (y 0).val = k.val
    change k.val ≤ (y 0).val ∧ (y 0).val < k.val + 1 at h0
    omega)

/-! ## The offsets of the program are those of the tilings -/

theorem t1_trips : k0_t1_loop.trips = 32 := by decide
theorem t2_trips : k0_t2_loop.trips = 32 := by decide
theorem t3_trips : k0_t3_loop.trips = 32 := by decide
theorem t4_trips : k0_t4_loop.trips = 128 := by decide

theorem off1_eq : ∀ k : Fin k0_t1_loop.trips, k0_off1 k = tO.off (k.cast t1_trips) := by decide
theorem off2_eq : ∀ k : Fin k0_t1_loop.trips, k0_off2 k = tPre.off (k.cast t1_trips) := by decide
theorem off3_eq : ∀ k : Fin k0_t1_loop.trips, k0_off3 k = tRow.off (k.cast t1_trips) := by decide
theorem off5_eq : ∀ k : Fin k0_t2_loop.trips, k0_off5 k = tRow.off (k.cast t2_trips) := by decide
theorem off6_eq : ∀ k : Fin k0_t2_loop.trips, k0_off6 k = tPj.off (k.cast t2_trips) := by decide
theorem off7_eq : ∀ k : Fin k0_t3_loop.trips, k0_off7 k = tRow.off (k.cast t3_trips) := by decide
theorem off8_eq : ∀ k : Fin k0_t3_loop.trips, k0_off8 k = tPj.off (k.cast t3_trips) := by decide
theorem off9_eq : ∀ t : Fin k0_t4_loop.trips, k0_off9 t = tStep.off (t.cast t4_trips) := by decide
theorem off10_eq : ∀ k : Fin k0_t1_loop.trips, k0_off10 k = tXn.off (k.cast t1_trips) := by decide
theorem off4_eq : ∀ k : Fin k0_t2_loop.trips, k0_off4 k = ![128 * k.val, 0] := by decide

end Cert.Mamba
end
-- ==== Proof.Spec.lean ====
/-
  What a layer computes, tile by tile, as plain functions of its weights and of the 32 tiles of its input.
-/
module

public import proofs.«01_k».proof.Proof.Tiles
public import proofs.«01_k».proof.Proof.Tiling
public import Idealize.ShloMosaic.Lib.Pointwise.Index

@[expose] public section

noncomputable section

namespace Cert.Mamba

open Idealize.ShloMosaic
open Cert.KernelIdeal Cert.KernelIdeal.Gen

variable {F : FTy → Type} [FloatOps F]

/-- Row `t` of every state of a tile. -/
def atStep {α : Type} (T : Fin 16 → S128x1x256.Idx → α) (t : Fin 128) : S1x16x256.Idx → α := fun y => T (y 1) (ix3 t 0 (y 2))

/-- State `n` at every row of a tile. -/
def atState {α : Type} (T : Fin 128 → S1x16x256.Idx → α) (n : Fin 16) : S128x1x256.Idx → α := fun y => T (y 0) (ix3 0 n (y 2))

namespace LayerW

variable (W : LayerW F) (X : Fin 32 → FVec F S128x128 .f32)

/-- The inputs of the convolution, eight rows of zeros before them. -/
def pre : S4104x256.Idx → F .f32 := tPre.upto 32 (fun k => k0_pay2 W.inw (X k)) fun _ => Scalar.ofBits .f32 0x00000000#32

/-- A tile of the convolution's inputs with the eight rows before it. -/
def win (k : Fin 32) : FVec F S136x256 .f32 :=
  VecWindow.window (W.pre X) (k0_off4 (k.cast t2_trips.symm)) S136x256.size (k0_off4_inb (k.cast t2_trips.symm))

/-- A tile of the convolved inputs. -/
def xa (k : Fin 32) : FVec F S128x256 .f32 := k0_pay10 W.cw W.cb (W.win X k)
/-- A tile of the gates. -/
def z (k : Fin 32) : FVec F S128x256 .f32 := k0_pay3 W.inw (X k)
/-- A tile of the projections. -/
def pj (k : Fin 32) : FVec F S128x40 .f32 := k0_pay12 W.cw W.cb W.xpw (W.win X k)
/-- A tile of the step sizes. -/
def dt (k : Fin 32) : FVec F S128x256 .f32 := dtTile W.cw W.cb W.xpw W.dtw W.dtb (W.win X k)
/-- A tile of the scaled inputs. -/
def w (k : Fin 32) : FVec F S128x256 .f32 := wTile W.cw W.cb W.xpw W.dtw W.dtb (W.win X k)
/-- The decays of a tile. -/
def g (k : Fin 32) (n : Fin 16) : FVec F S128x1x256 .f32 := gTile n W.a (W.dt X k)
/-- The inputs of the states of a tile. -/
def s (k : Fin 32) (n : Fin 16) : FVec F S128x1x256 .f32 := sTile n (W.w X k) (k0_pay39 (W.pj X k))

/-- The state before step `t` of a tile, from the state before the tile. -/
def hStep (k : Fin 32) (h : FVec F S16x256 .f32) : ℕ → FVec F S16x256 .f32
  | 0 => h
  | t + 1 => if ht : t < 128 then k0_pay57 (hStep k h t) (atStep (W.g X k) ⟨t, ht⟩) (atStep (W.s X k) ⟨t, ht⟩) else hStep k h t

/-- The state before a tile. -/
def hIn : ℕ → FVec F S16x256 .f32
  | 0 => k0_pay240
  | k + 1 => if hk : k < 32 then W.hStep X ⟨k, hk⟩ (hIn k) 128 else hIn k

/-- What step `t` of a tile leaves in the state buffer. -/
def hs (k : Fin 32) (t : Fin 128) : FVec F S1x16x256 .f32 :=
  k0_pay58 (W.hStep X k (W.hIn X k.val) t.val) (atStep (W.g X k) t) (atStep (W.s X k) t)

/-- The first states of a tile read out and added up. -/
def yAcc (k : Fin 32) : ℕ → FVec F S128x256 .f32
  | 0 => yTerm 0 (k0_pay40 (W.pj X k)) (atState (W.hs X k) 0)
  | n + 1 => if hn : n + 1 < 16 then addf (yAcc k n) (yTerm ⟨n + 1, hn⟩ (k0_pay40 (W.pj X k)) (atState (W.hs X k) ⟨n + 1, hn⟩)) else yAcc k n

theorem hStep_succ (k : Fin 32) (h : FVec F S16x256 .f32) {t : ℕ} (ht : t < 128) :
    W.hStep X k h (t + 1) = k0_pay57 (W.hStep X k h t) (atStep (W.g X k) ⟨t, ht⟩) (atStep (W.s X k) ⟨t, ht⟩) := dif_pos ht

theorem hIn_succ {k : ℕ} (hk : k < 32) : W.hIn X (k + 1) = W.hStep X ⟨k, hk⟩ (W.hIn X k) 128 := dif_pos hk

theorem yAcc_succ (k : Fin 32) {n : ℕ} (hn : n + 1 < 16) :
    W.yAcc X k (n + 1) = addf (W.yAcc X k n) (yTerm ⟨n + 1, hn⟩ (k0_pay40 (W.pj X k)) (atState (W.hs X k) ⟨n + 1, hn⟩)) := dif_pos hn

/-- A tile of the layer's output. -/
def out (k : Fin 32) : FVec F S128x128 .f32 := outTile W.d W.ow (W.yAcc X k 15) (W.z X k) (W.xa X k)

end LayerW

/-! ## Reading a tile of states the other way round -/

theorem read_step (T : Fin 16 → FVec F S128x1x256 .f32) (x : S128x16x256.Idx → F .f32) (t : Fin k0_t4_loop.trips) :
    VecWindow.window (tState.upto 16 T x) (k0_off9 t) S1x16x256.size (k0_off9_inb t) = atStep T (t.cast t4_trips) := by
  funext y
  refine tState.upto_apply T x _ (y 1) _ fun a => ?_
  have ho := congrFun (off9_eq t)
  show k0_off9 t a + 1 * (y a).val = _
  rw [ho a]
  match a with
  | 0 => show t.val + 1 * (y 0).val = 0 + t.val; have := (y 0).isLt; change _ < 1 at this; omega
  | 1 => show 0 + 1 * (y 1).val = (y 1).val + 0; omega
  | 2 => show 0 + 1 * (y 2).val = 0 + (y 2).val; omega

theorem read_state (T : Fin 128 → FVec F S1x16x256 .f32) (x : S128x16x256.Idx → F .f32) (n : Fin 16) :
    VecWindow.window (tStep.upto 128 T x) ![0, n.val, 0] S128x1x256.size (inb_state n) = atState T n := by
  funext y
  refine tStep.upto_apply T x _ (y 0) _ fun a => ?_
  match a with
  | 0 => show 0 + 1 * (y 0).val = (y 0).val + 0; omega
  | 1 => show n.val + 1 * (y 1).val = 0 + n.val; have := (y 1).isLt; change _ < 1 at this; omega
  | 2 => show 0 + 1 * (y 2).val = 0 + (y 2).val; omega

end Cert.Mamba
end
-- ==== Proof.Passes.lean ====
/-
  The three passes of a layer over the buffers, each by an invariant that says which tiles are done.
-/
module

public import proofs.«01_k».proof.Proof.Mem
public import proofs.«01_k».proof.Proof.Spec

@[expose] public section

noncomputable section

namespace Cert.Mamba

open Idealize.SL Idealize.SL.RA Idealize.SL.BI
open Idealize.SL.Sem
open Idealize.ShloMosaic
open Cert.KernelIdeal Cert.KernelIdeal.Gen

variable {F : FTy → Type} [FloatOps F] {nD : ℕ} {τ : Topo} {sig : RefSig} {Λ : Labels}
variable {Ix : Type} [DecidableEq Ix] {Name : Type} [DecidableEq Name] {U : Type} [URA U] {Lvl : Type} [Preorder Lvl]
variable {defs : Defs nD τ sig (Elt F) Λ} {𝒱 : Variants} {c : Dev nD} {bd : Option 𝒱.V} {E : Set Name} {B : Bufs sig} {σ : State F}

/-- The first pass: the convolution's inputs and the gates of every tile. -/
theorem pass1_ok {ldx : Fin k0_t1_loop.trips → Pg nD τ sig F Λ (FVec F S128x128 .f32)} {inw : FVec F S128x512 .f32}
    {X : Fin 32 → FVec F S128x128 .f32}
    (hx : ∀ (k : Fin k0_t1_loop.trips) (σ' : State F), (∀ b, b ≠ .pre → b ≠ .z → σ' b = σ b) →
      Ok Ix Name U Lvl (defs := defs) 𝒱 c bd E B (ldx k) σ' fun v σ'' => v = X (k.cast t1_trips) ∧ σ'' = σ') :
    Ok Ix Name U Lvl (defs := defs) 𝒱 c bd E B (pass1 B ldx inw) σ fun _ σ' => σ' .pre = tPre.upto 32 (fun k => k0_pay2 inw (X k)) (σ .pre)
      ∧ σ' .z = tRow.upto 32 (fun k => k0_pay3 inw (X k)) (σ .z) ∧ ∀ b, b ≠ .pre → b ≠ .z → σ' b = σ b := by
  refine Ok.loop (fun n _ σ' => σ' .pre = tPre.upto n (fun k => k0_pay2 inw (X k)) (σ .pre)
      ∧ σ' .z = tRow.upto n (fun k => k0_pay3 inw (X k)) (σ .z) ∧ ∀ b, b ≠ .pre → b ≠ .z → σ' b = σ b) t1_trips
    ⟨(tPre.upto_zero _ _).symm, (tRow.upto_zero _ _).symm, fun _ _ _ => rfl⟩ ?_ fun _ _ h => h
  rintro k _ σ' ⟨h1, h2, h3⟩
  refine Ok.bind (hx k σ' h3) ?_
  rintro _ _ ⟨rfl, rfl⟩
  refine Ok.put .pre (Ok.put .z (Ok.pure ⟨?_, ?_, fun b hp hz => ?_⟩))
  · rw [Function.update_of_ne (by decide), Function.update_self, h1]
    exact tPre.put_upto _ _ (k.cast t1_trips) (off2_eq k) _ rfl
  · rw [Function.update_self, Function.update_of_ne (by decide), h2]
    exact tRow.put_upto _ _ (k.cast t1_trips) (off3_eq k) _ rfl
  · rw [Function.update_of_ne hz, Function.update_of_ne hp, h3 b hp hz]

/-- The second pass: the convolved inputs, the projections, the step sizes and the scaled inputs of every tile. -/
theorem pass2_ok {cw : FVec F S4x256 .f32} {cb : FVec F S1x256 .f32} {xpw : FVec F S256x40 .f32} {dtw : FVec F S8x256 .f32}
    {dtb : FVec F S1x256 .f32} {p : Fin 32 → FVec F S136x256 .f32}
    (hp : ∀ k : Fin k0_t2_loop.trips, VecWindow.window (σ .pre) (k0_off4 k) S136x256.size (k0_off4_inb k) = p (k.cast t2_trips)) :
    Ok Ix Name U Lvl (defs := defs) 𝒱 c bd E B (pass2 B cw cb xpw dtw dtb) σ fun _ σ' => σ' .xa = tRow.upto 32 (fun k => k0_pay10 cw cb (p k)) (σ .xa)
      ∧ σ' .pj = tPj.upto 32 (fun k => k0_pay12 cw cb xpw (p k)) (σ .pj)
      ∧ σ' .dt = tRow.upto 32 (fun k => dtTile cw cb xpw dtw dtb (p k)) (σ .dt)
      ∧ σ' .w = tRow.upto 32 (fun k => wTile cw cb xpw dtw dtb (p k)) (σ .w)
      ∧ ∀ b, b ≠ .xa → b ≠ .pj → b ≠ .dt → b ≠ .w → σ' b = σ b := by
  refine Ok.loop (fun n _ σ' => σ' .xa = tRow.upto n (fun k => k0_pay10 cw cb (p k)) (σ .xa)
      ∧ σ' .pj = tPj.upto n (fun k => k0_pay12 cw cb xpw (p k)) (σ .pj)
      ∧ σ' .dt = tRow.upto n (fun k => dtTile cw cb xpw dtw dtb (p k)) (σ .dt)
      ∧ σ' .w = tRow.upto n (fun k => wTile cw cb xpw dtw dtb (p k)) (σ .w)
      ∧ ∀ b, b ≠ .xa → b ≠ .pj → b ≠ .dt → b ≠ .w → σ' b = σ b) t2_trips
    ⟨(tRow.upto_zero _ _).symm, (tPj.upto_zero _ _).symm, (tRow.upto_zero _ _).symm, (tRow.upto_zero _ _).symm, fun _ _ _ _ _ => rfl⟩
    ?_ fun _ _ h => h
  rintro k _ σ' ⟨h1, h2, h3, h4, h5⟩
  refine Ok.bind (Ok.ld' .pre) ?_
  rintro _ _ ⟨rfl, rfl⟩
  rw [h5 .pre (by decide) (by decide) (by decide) (by decide), hp k]
  refine Ok.put .xa (Ok.put .pj (Ok.put .dt (Ok.put .w (Ok.pure ⟨?_, ?_, ?_, ?_, fun b ha hb hc hd => ?_⟩))))
  · rw [Function.update_of_ne (by decide), Function.update_of_ne (by decide), Function.update_of_ne (by decide), Function.update_self, h1]
    exact tRow.put_upto _ _ (k.cast t2_trips) (off5_eq k) _ rfl
  · rw [Function.update_of_ne (by decide), Function.update_of_ne (by decide), Function.update_self, Function.update_of_ne (by decide), h2]
    exact tPj.put_upto _ _ (k.cast t2_trips) (off6_eq k) _ rfl
  · rw [Function.update_of_ne (by decide), Function.update_self, Function.update_of_ne (by decide), Function.update_of_ne (by decide), h3]
    exact tRow.put_upto _ _ (k.cast t2_trips) (off5_eq k) _ rfl
  · rw [Function.update_self, Function.update_of_ne (by decide), Function.update_of_ne (by decide), Function.update_of_ne (by decide), h4]
    exact tRow.put_upto _ _ (k.cast t2_trips) (off5_eq k) _ rfl
  · rw [Function.update_of_ne hd, Function.update_of_ne hc, Function.update_of_ne hb, Function.update_of_ne ha, h5 b ha hb hc hd]

/-- The buffer of decays filled. -/
theorem fill_g3 {v : Fin 16 → FVec F S128x1x256 .f32} :
    Ok Ix Name U Lvl (defs := defs) 𝒱 c bd E B (fill B.g3 v) σ fun _ σ' => σ' = Function.update σ .g3 (tState.upto 16 v (σ .g3)) := by
  unfold fill
  rw [states_eq]
  refine Ok.forFrom (fun n _ σ' => σ' = Function.update σ .g3 (tState.upto n v (σ .g3))) 0 (by decide)
    (by rw [tState.upto_zero, Function.update_eq_self]) ?_ fun _ _ h => h
  rintro n _ _ rfl
  refine Ok.bind (Ok.ld' .g3) ?_
  rintro _ _ ⟨-, rfl⟩
  refine Ok.st .g3 ?_
  rw [Function.update_idem, Function.update_self]
  exact congrArg _ (tState.put_upto _ _ n rfl _ rfl)

/-- The buffer of states filled. -/
theorem fill_w3 {v : Fin 16 → FVec F S128x1x256 .f32} :
    Ok Ix Name U Lvl (defs := defs) 𝒱 c bd E B (fill B.w3 v) σ fun _ σ' => σ' = Function.update σ .w3 (tState.upto 16 v (σ .w3)) := by
  unfold fill
  rw [states_eq]
  refine Ok.forFrom (fun n _ σ' => σ' = Function.update σ .w3 (tState.upto n v (σ .w3))) 0 (by decide)
    (by rw [tState.upto_zero, Function.update_eq_self]) ?_ fun _ _ h => h
  rintro n _ _ rfl
  refine Ok.bind (Ok.ld' .w3) ?_
  rintro _ _ ⟨-, rfl⟩
  refine Ok.st .w3 ?_
  rw [Function.update_idem, Function.update_self]
  exact congrArg _ (tState.put_upto _ _ n rfl _ rfl)

variable {W : LayerW F} {X : Fin 32 → FVec F S128x128 .f32}

/-- The recurrence over a tile. -/
theorem steps_ok {k : Fin 32} {h : FVec F S16x256 .f32} {xg xs : S128x16x256.Idx → F .f32} (hg : σ .g3 = tState.upto 16 (W.g X k) xg)
    (hs : σ .w3 = tState.upto 16 (W.s X k) xs) :
    Ok Ix Name U Lvl (defs := defs) 𝒱 c bd E B (steps B h) σ fun h' σ' => h' = W.hStep X k h 128 ∧ σ' = Function.update σ .w3 (tStep.upto 128
      (fun t => k0_pay58 (W.hStep X k h t.val) (atStep (W.g X k) t) (atStep (W.s X k) t)) (σ .w3)) := by
  refine Ok.loop (fun n h' σ' => h' = W.hStep X k h n ∧ σ' = Function.update σ .w3 (tStep.upto n
      (fun t => k0_pay58 (W.hStep X k h t.val) (atStep (W.g X k) t) (atStep (W.s X k) t)) (σ .w3))) t4_trips
    ⟨rfl, by rw [tStep.upto_zero, Function.update_eq_self]⟩ ?_ fun _ _ h => h
  rintro t _ _ ⟨rfl, rfl⟩
  have ht : t.val < 128 := lt_of_lt_of_eq t.isLt t4_trips
  refine Ok.bind (Ok.ld' .g3) ?_
  rintro _ _ ⟨rfl, rfl⟩
  refine Ok.bind (Ok.ld' .w3) ?_
  rintro _ _ ⟨rfl, rfl⟩
  rw [Function.update_of_ne (by decide), Function.update_self,
    tStep.window_upto_of_le _ _ (t.cast t4_trips) (le_refl t.val) (off9_eq t), hg, hs, read_step, read_step]
  refine Ok.put .w3 (Ok.pure ⟨?_, ?_⟩)
  · exact (W.hStep_succ X k h ht).symm
  · rw [Function.update_idem, Function.update_self]
    exact congrArg _ (tStep.put_upto _ _ (t.cast t4_trips) (off9_eq t) _ rfl)

/-- The states of a tile read out. -/
theorem readOut_ok {k : Fin 32} (hw : ∃ x, σ .w3 = tStep.upto 128 (W.hs X k) x) :
    Ok Ix Name U Lvl (defs := defs) 𝒱 c bd E B (readOut B (k0_pay40 (W.pj X k))) σ fun y σ' => y = W.yAcc X k 15 ∧ σ' = σ := by
  obtain ⟨x, hw⟩ := hw
  unfold readOut
  refine Ok.bind (Ok.ld' .w3) ?_
  rintro _ _ ⟨rfl, rfl⟩
  rw [hw, states_eq]
  rw [show VecWindow.window (tStep.upto 128 (W.hs X k) x) ![0, 0, 0] S128x1x256.size (inb_state 0) = atState (W.hs X k) 0 from read_state _ _ 0]
  refine Ok.forFrom (fun n y σ' => 1 ≤ n ∧ y = W.yAcc X k (n - 1) ∧ σ' = _) 1 (by decide) ⟨le_refl _, rfl, rfl⟩ ?_ fun _ _ h => h.2
  rintro n _ _ ⟨h1, rfl, rfl⟩
  refine Ok.bind (Ok.ld' .w3) ?_
  rintro _ _ ⟨rfl, rfl⟩
  rw [hw, read_state]
  refine Ok.pure ⟨by omega, ?_, rfl⟩
  obtain ⟨m, hm⟩ : ∃ m, n.val = m + 1 := ⟨n.val - 1, by omega⟩
  obtain ⟨n, hn⟩ := n
  obtain rfl : n = m + 1 := hm
  exact (W.yAcc_succ X k hn).symm

/-- The third pass: every tile of the layer's output, put down by `sto`. -/
theorem pass3_ok {sto : Fin k0_t3_loop.trips → FVec F S128x128 .f32 → Pg nD τ sig F Λ Unit} {tgt : Cell} {D : ℕ → Vec F tgt.shape .f32 → Prop}
    {xd xw xz xx : S4096x256.Idx → F .f32} {xp : S4096x40.Idx → F .f32} (hdt : σ .dt = tRow.upto 32 (W.dt X) xd)
    (hw : σ .w = tRow.upto 32 (W.w X) xw) (hpj : σ .pj = tPj.upto 32 (W.pj X) xp) (hz : σ .z = tRow.upto 32 (W.z X) xz)
    (hxa : σ .xa = tRow.upto 32 (W.xa X) xx)
    (ht : tgt ≠ .dt ∧ tgt ≠ .w ∧ tgt ≠ .pj ∧ tgt ≠ .z ∧ tgt ≠ .xa ∧ tgt ≠ .g3 ∧ tgt ≠ .w3) (h0 : D 0 (σ tgt))
    (hsto : ∀ (k : Fin k0_t3_loop.trips) (σ' : State F), D k.val (σ' tgt) → Ok Ix Name U Lvl (defs := defs) 𝒱 c bd E B (sto k (W.out X (k.cast t3_trips))) σ' fun _ σ'' =>
      D (k.val + 1) (σ'' tgt) ∧ ∀ b, b ≠ tgt → σ'' b = σ' b) :
    Ok Ix Name U Lvl (defs := defs) 𝒱 c bd E B (pass3 B sto W.a W.d W.ow) σ fun _ σ' => D 32 (σ' tgt) ∧ ∀ b, b ≠ tgt → b ≠ .g3 → b ≠ .w3 → σ' b = σ b := by
  obtain ⟨t1, t2, t3, t4, t5, t6, t7⟩ := ht
  refine Ok.loop (fun n h σ' => h = W.hIn X n ∧ D n (σ' tgt) ∧ ∀ b, b ≠ tgt → b ≠ .g3 → b ≠ .w3 → σ' b = σ b) t3_trips
    ⟨rfl, h0, fun _ _ _ _ => rfl⟩ ?_ fun _ _ h => h.2
  rintro k _ σ' ⟨rfl, hD, hr⟩
  have hk : k.val < 32 := lt_of_lt_of_eq k.isLt t3_trips
  refine Ok.bind (Ok.ld' .dt) ?_
  rintro _ _ ⟨rfl, rfl⟩
  rw [hr .dt t1.symm (by decide) (by decide), hdt, tRow.window_upto _ _ (k.cast t3_trips) hk (off7_eq k)]
  refine Ok.bind fill_g3 ?_
  rintro _ _ rfl
  refine Ok.bind (Ok.ld' .w) ?_
  rintro _ _ ⟨rfl, rfl⟩
  rw [Function.update_of_ne (by decide), hr .w t2.symm (by decide) (by decide), hw, tRow.window_upto _ _ (k.cast t3_trips) hk (off7_eq k)]
  refine Ok.bind (Ok.ld' .pj) ?_
  rintro _ _ ⟨rfl, rfl⟩
  rw [Function.update_of_ne (by decide), hr .pj t3.symm (by decide) (by decide), hpj, tPj.window_upto _ _ (k.cast t3_trips) hk (off8_eq k)]
  refine Ok.bind fill_w3 ?_
  rintro _ _ rfl
  rename_i σ1 _ _
  refine Ok.bind (Ok.bind (steps_ok (W := W) (X := X) (k := k.cast t3_trips) (xg := σ1 .g3) (xs := σ1 .w3) ?_ ?_) fun _ _ h => Ok.pure h) ?_
  · rw [Function.update_of_ne (by decide), Function.update_self]; rfl
  · rw [Function.update_self, Function.update_of_ne (by decide)]; rfl
  rintro _ _ ⟨rfl, rfl⟩
  rw [Function.update_idem, Function.update_self]
  refine Ok.bind (readOut_ok (W := W) (X := X) (k := k.cast t3_trips) ⟨_, Function.update_self _ _ _⟩) ?_
  rintro _ _ ⟨rfl, rfl⟩
  refine Ok.bind (Ok.ld' .z) ?_
  rintro _ _ ⟨rfl, rfl⟩
  rw [Function.update_of_ne (by decide), Function.update_of_ne (by decide), hr .z t4.symm (by decide) (by decide), hz,
    tRow.window_upto _ _ (k.cast t3_trips) hk (off7_eq k)]
  refine Ok.bind (Ok.ld' .xa) ?_
  rintro _ _ ⟨rfl, rfl⟩
  rw [Function.update_of_ne (by decide), Function.update_of_ne (by decide), hr .xa t5.symm (by decide) (by decide), hxa,
    tRow.window_upto _ _ (k.cast t3_trips) hk (off7_eq k)]
  refine Ok.bind (hsto k _ ?_) ?_
  · rw [Function.update_of_ne t7, Function.update_of_ne t6]; exact hD
  rintro _ σ'' ⟨h1, h2⟩
  refine Ok.pure ⟨(W.hIn_succ X hk).symm, h1, fun b b1 b2 b3 => ?_⟩
  rw [h2 b b1, Function.update_of_ne b3, Function.update_of_ne b2, hr b b1 b2 b3]

/-- The buffers a layer may leave at anything. -/
def Cell.scratch : Cell → Bool
  | .pre | .xa | .z | .dt | .w | .pj | .g3 | .w3 => true
  | _ => false

/-- One layer, from the tiles `X` of its input to the tiles of its output. -/
theorem layer_ok {ldx : Fin k0_t1_loop.trips → Pg nD τ sig F Λ (FVec F S128x128 .f32)}
    {sto : Fin k0_t3_loop.trips → FVec F S128x128 .f32 → Pg nD τ sig F Λ Unit} {tgt : Cell} {D : ℕ → Vec F tgt.shape .f32 → Prop}
    (hpre : ∀ y, ¬ tPre.Has y → σ .pre y = Scalar.ofBits .f32 0x00000000#32)
    (hx : ∀ (k : Fin k0_t1_loop.trips) (σ' : State F), (∀ b, b ≠ .pre → b ≠ .z → σ' b = σ b) →
      Ok Ix Name U Lvl (defs := defs) 𝒱 c bd E B (ldx k) σ' fun v σ'' => v = X (k.cast t1_trips) ∧ σ'' = σ')
    (ht : tgt.scratch = false) (h0 : D 0 (σ tgt))
    (hsto : ∀ (k : Fin k0_t3_loop.trips) (σ' : State F), D k.val (σ' tgt) → Ok Ix Name U Lvl (defs := defs) 𝒱 c bd E B (sto k (W.out X (k.cast t3_trips))) σ' fun _ σ'' =>
      D (k.val + 1) (σ'' tgt) ∧ ∀ b, b ≠ tgt → σ'' b = σ' b) :
    Ok Ix Name U Lvl (defs := defs) 𝒱 c bd E B (layerProg B ldx sto W) σ fun _ σ' => (∀ y, ¬ tPre.Has y → σ' .pre y = Scalar.ofBits .f32 0x00000000#32) ∧ D 32 (σ' tgt)
      ∧ ∀ b, b.scratch = false → b ≠ tgt → σ' b = σ b := by
  have ne : ∀ {b : Cell} (b' : Cell), b.scratch = false → b'.scratch = true → b ≠ b' := fun b' h h' e => by
    rw [e, h'] at h; cases h
  refine Ok.bind (pass1_ok hx) ?_
  rintro _ σ1 ⟨p1, p2, p3⟩
  have hP : σ1 .pre = W.pre X := p1.trans (tPre.upto_congr _ hpre)
  refine Ok.bind (pass2_ok (p := W.win X) fun k => by rw [hP]; rfl) ?_
  rintro _ σ2 ⟨q1, q2, q3, q4, q5⟩
  refine Ok.bind (pass3_ok (tgt := tgt) (D := D) (W := W) (X := X) q3 q4 q2
    ((q5 .z (by decide) (by decide) (by decide) (by decide)).trans p2) q1
    ⟨ne _ ht rfl, ne _ ht rfl, ne _ ht rfl, ne _ ht rfl, ne _ ht rfl, ne _ ht rfl, ne _ ht rfl⟩ ?_ hsto) ?_
  · rw [q5 tgt (ne _ ht rfl) (ne _ ht rfl) (ne _ ht rfl) (ne _ ht rfl), p3 tgt (ne _ ht rfl) (ne _ ht rfl)]; exact h0
  rintro _ σ3 ⟨r1, r2⟩
  refine Ok.pure ⟨fun y hy => ?_, r1, fun b hb hbt => ?_⟩
  · rw [r2 .pre (fun e => ne .pre ht rfl e.symm) (by decide) (by decide), q5 .pre (by decide) (by decide) (by decide) (by decide), p1,
      tPre.upto_of_not _ _ y hy]
    exact hpre y hy
  · rw [r2 b hbt (ne _ hb rfl) (ne _ hb rfl), q5 b (ne _ hb rfl) (ne _ hb rfl) (ne _ hb rfl) (ne _ hb rfl), p3 b (ne _ hb rfl) (ne _ hb rfl)]

end Cert.Mamba
end
-- ==== Proof.Layers.lean ====
/-
  The four layers of one grid point: from the input block and the nine weight arrays to the output block.
-/
module

public import proofs.«01_k».proof.Proof.Passes

@[expose] public section

noncomputable section

namespace Cert.Mamba

open Idealize.SL Idealize.SL.RA Idealize.SL.BI
open Idealize.SL.Sem
open Idealize.ShloMosaic
open Cert.KernelIdeal Cert.KernelIdeal.Gen

variable {F : FTy → Type} [FloatOps F]

/-! ## The layers as functions -/

theorem inb_inw : ∀ l : Fin 4, ∀ a, (![l.val, 0, 0] : Fin 3 → ℕ) a + S1x128x512.size a ≤ S4x128x512.size a := by decide
theorem inb_cw : ∀ l : Fin 4, ∀ a, (![l.val, 0, 0] : Fin 3 → ℕ) a + S1x4x256.size a ≤ S4x4x256.size a := by decide
theorem inb_cb : ∀ l : Fin 4, ∀ a, (![l.val, 0, 0] : Fin 3 → ℕ) a + S1x1x256.size a ≤ S4x1x256.size a := by decide
theorem inb_xpw : ∀ l : Fin 4, ∀ a, (![l.val, 0, 0] : Fin 3 → ℕ) a + S1x256x40.size a ≤ S4x256x40.size a := by decide
theorem inb_dtw : ∀ l : Fin 4, ∀ a, (![l.val, 0, 0] : Fin 3 → ℕ) a + S1x8x256.size a ≤ S4x8x256.size a := by decide
theorem inb_a : ∀ l : Fin 4, ∀ a, (![l.val, 0, 0] : Fin 3 → ℕ) a + S1x16x256.size a ≤ S4x16x256.size a := by decide
theorem inb_ow : ∀ l : Fin 4, ∀ a, (![l.val, 0, 0] : Fin 3 → ℕ) a + S1x256x128.size a ≤ S4x256x128.size a := by decide

/-- The arrays one grid point reads: the input block and the nine weight arrays. -/
structure Ins (F : FTy → Type) where
  x : Vec F S1x4096x128 .f32
  inw : Vec F S4x128x512 .f32
  cw : Vec F S4x4x256 .f32
  cb : Vec F S4x1x256 .f32
  xpw : Vec F S4x256x40 .f32
  dtw : Vec F S4x8x256 .f32
  dtb : Vec F S4x1x256 .f32
  a : Vec F S4x16x256 .f32
  d : Vec F S4x1x256 .f32
  ow : Vec F S4x256x128 .f32

/-- The arrays read, among those held. -/
def State.ins (σ : State F) : Ins F := ⟨σ .x, σ .inw, σ .cw, σ .cb, σ .xpw, σ .dtw, σ .dtb, σ .a, σ .d, σ .ow⟩

namespace Ins

variable (I : Ins F)

/-- The weights of layer `l`. -/
def layer (l : Fin 4) : LayerW F :=
  ⟨shapeCast S128x512 (VecWindow.window (s := S4x128x512) I.inw ![l.val, 0, 0] S1x128x512.size (inb_inw l)) shapeCasts_S1x128x512_S128x512,
    shapeCast S4x256 (VecWindow.window (s := S4x4x256) I.cw ![l.val, 0, 0] S1x4x256.size (inb_cw l)) shapeCasts_S1x4x256_S4x256,
    shapeCast S1x256 (VecWindow.window (s := S4x1x256) I.cb ![l.val, 0, 0] S1x1x256.size (inb_cb l)) shapeCasts_S1x1x256_S1x256,
    shapeCast S256x40 (VecWindow.window (s := S4x256x40) I.xpw ![l.val, 0, 0] S1x256x40.size (inb_xpw l)) shapeCasts_S1x256x40_S256x40,
    shapeCast S8x256 (VecWindow.window (s := S4x8x256) I.dtw ![l.val, 0, 0] S1x8x256.size (inb_dtw l)) shapeCasts_S1x8x256_S8x256,
    shapeCast S1x256 (VecWindow.window (s := S4x1x256) I.dtb ![l.val, 0, 0] S1x1x256.size (inb_cb l)) shapeCasts_S1x1x256_S1x256,
    shapeCast S16x256 (VecWindow.window (s := S4x16x256) I.a ![l.val, 0, 0] S1x16x256.size (inb_a l)) shapeCasts_S1x16x256_S16x256,
    shapeCast S1x256 (VecWindow.window (s := S4x1x256) I.d ![l.val, 0, 0] S1x1x256.size (inb_cb l)) shapeCasts_S1x1x256_S1x256,
    shapeCast S256x128 (VecWindow.window (s := S4x256x128) I.ow ![l.val, 0, 0] S1x256x128.size (inb_ow l)) shapeCasts_S1x256x128_S256x128⟩

/-- A tile of the input block. -/
def tile (k : Fin 32) : FVec F S128x128 .f32 :=
  shapeCast S128x128 (VecWindow.window (s := S1x4096x128) I.x (k0_off1 (k.cast t1_trips.symm)) S1x128x128.size (k0_off1_inb (k.cast t1_trips.symm)))
    shapeCasts_S1x128x128_S128x128

/-- A layer's output as it is put down for the next layer. -/
def next (X : Fin 32 → FVec F S128x128 .f32) (k : Fin 32) : FVec F S128x128 .f32 := shapeCast S128x128 (X k) shapeCasts_S128x128_S128x128

/-- The tiles of the input of layer `l`. -/
def feed : ℕ → Fin 32 → FVec F S128x128 .f32
  | 0 => I.tile
  | l + 1 => next ((I.layer (Fin.ofNat 4 l)).out (feed l))

/-- A tile of the output block. -/
def result (k : Fin 32) : FVec F S1x128x128 .f32 := shapeCast S1x128x128 ((I.layer 3).out (I.feed 3) k) shapeCasts_S128x128_S1x128x128

/-- The output block. -/
def outBlk : S1x4096x128.Idx → F .f32 := tO.upto 32 I.result fun _ => Scalar.ofBits .f32 0x00000000#32

end Ins

/-! ## The program -/

variable {nD : ℕ} {τ : Topo} {sig : RefSig} {Λ : Labels}
variable {Ix : Type} [DecidableEq Ix] {Name : Type} [DecidableEq Name] {U : Type} [URA U] {Lvl : Type} [Preorder Lvl]
variable {defs : Defs nD τ sig (Elt F) Λ} {𝒱 : Variants} {c : Dev nD} {bd : Option 𝒱.V} {E : Set Name} {B : Bufs sig} {σ : State F}

/-- The weights of a layer loaded. -/
theorem loadW_ok (l : Fin 4) {h1 h2 h3 h4 h5 h6 h7} :
    Ok Ix Name U Lvl (defs := defs) 𝒱 c bd E B (loadW B l.val h1 h2 h3 h4 h5 h6 h7) σ fun W σ' => W = (State.ins σ).layer l ∧ σ = σ' := by
  unfold loadW
  refine Ok.bind (Ok.ld' .inw) ?_; rintro _ _ ⟨rfl, rfl⟩
  refine Ok.bind (Ok.ld' .cw) ?_; rintro _ _ ⟨rfl, rfl⟩
  refine Ok.bind (Ok.ld' .cb) ?_; rintro _ _ ⟨rfl, rfl⟩
  refine Ok.bind (Ok.ld' .xpw) ?_; rintro _ _ ⟨rfl, rfl⟩
  refine Ok.bind (Ok.ld' .dtw) ?_; rintro _ _ ⟨rfl, rfl⟩
  refine Ok.bind (Ok.ld' .dtb) ?_; rintro _ _ ⟨rfl, rfl⟩
  refine Ok.bind (Ok.ld' .a) ?_; rintro _ _ ⟨rfl, rfl⟩
  refine Ok.bind (Ok.ld' .d) ?_; rintro _ _ ⟨rfl, rfl⟩
  refine Ok.bind (Ok.ld' .ow) ?_; rintro _ _ ⟨rfl, rfl⟩
  exact Ok.pure ⟨rfl, rfl⟩

/-- Tiles read from the input block. -/
theorem ldX_ok {σ0 : State F} (hx : σ .x = σ0 .x) (k : Fin k0_t1_loop.trips) :
    Ok Ix Name U Lvl (defs := defs) 𝒱 c bd E B (ldX B k) σ fun v σ' => v = (State.ins σ0).tile (k.cast t1_trips) ∧ σ' = σ := by
  unfold ldX
  refine Ok.bind (Ok.ld' .x) ?_; rintro _ _ ⟨rfl, rfl⟩
  rw [hx]
  exact Ok.pure ⟨rfl, rfl⟩

/-- Tiles read from the layer before. -/
theorem ldN_ok {X : Fin 32 → FVec F S128x128 .f32} {x : S4096x128.Idx → F .f32} (hx : σ .xn = tXn.upto 32 X x) (k : Fin k0_t1_loop.trips) :
    Ok Ix Name U Lvl (defs := defs) 𝒱 c bd E B (ldN B k) σ fun v σ' => v = X (k.cast t1_trips) ∧ σ' = σ := by
  unfold ldN
  refine Ok.mono (Ok.ld' .xn) ?_
  rintro _ _ ⟨rfl, rfl⟩
  rw [hx]
  exact ⟨tXn.window_upto _ _ (k.cast t1_trips) (lt_of_lt_of_eq k.isLt t1_trips) (off10_eq k) _, rfl⟩

/-- Tiles put down for the next layer. -/
theorem stN_ok {X : Fin 32 → FVec F S128x128 .f32} {x : S4096x128.Idx → F .f32} (k : Fin k0_t3_loop.trips)
    (h : σ .xn = tXn.upto k.val (Ins.next X) x) :
    Ok Ix Name U Lvl (defs := defs) 𝒱 c bd E B (stN B k (X (k.cast t3_trips))) σ fun _ σ' => σ' .xn = tXn.upto (k.val + 1) (Ins.next X) x ∧ ∀ b, b ≠ .xn → σ' b = σ b := by
  unfold stN
  refine Ok.bind (Ok.ld' .xn) ?_
  rintro _ _ ⟨-, rfl⟩
  refine Ok.st .xn ⟨?_, fun b hb => Function.update_of_ne hb _ _⟩
  rw [Function.update_self, h]
  exact tXn.put_upto _ _ (k.cast t3_trips) (off10_eq k) _ rfl

/-- Tiles put down in the output block. -/
theorem stO_ok {X : Fin 32 → FVec F S128x128 .f32} {x : S1x4096x128.Idx → F .f32} (k : Fin k0_t3_loop.trips)
    (h : σ .o = tO.upto k.val (fun k => shapeCast S1x128x128 (X k) shapeCasts_S128x128_S1x128x128) x) :
    Ok Ix Name U Lvl (defs := defs) 𝒱 c bd E B (stO B k (X (k.cast t3_trips))) σ fun _ σ' => σ' .o = tO.upto (k.val + 1) (fun k => shapeCast S1x128x128 (X k) shapeCasts_S128x128_S1x128x128) x
      ∧ ∀ b, b ≠ .o → σ' b = σ b := by
  unfold stO
  refine Ok.bind (Ok.ld' .o) ?_
  rintro _ _ ⟨-, rfl⟩
  refine Ok.st .o ⟨?_, fun b hb => Function.update_of_ne hb _ _⟩
  rw [Function.update_self, h]
  exact tO.put_upto _ _ (k.cast t3_trips) (off1_eq k) _ rfl

/-- A buffer the program only reads. -/
def Cell.kept (b : Cell) : Bool := !b.scratch && b != .xn && b != .o

theorem Cell.kept_spec {b : Cell} (h : b.kept = true) : b.scratch = false ∧ b ≠ .xn ∧ b ≠ .o := by
  cases b <;> first | exact absurd h (by decide) | exact ⟨rfl, by decide, by decide⟩

theorem State.ins_eq {σ σ' : State F} (h : ∀ b : Cell, b.kept = true → σ' b = σ b) : State.ins σ' = State.ins σ := by
  unfold State.ins
  rw [h .x rfl, h .inw rfl, h .cw rfl, h .cb rfl, h .xpw rfl, h .dtw rfl, h .dtb rfl, h .a rfl, h .d rfl, h .ow rfl]

/-- Every element of the output block lies in a tile. -/
theorem tO_has (y : S1x4096x128.Idx) : tO.Has y := fun a => by
  match a with
  | 0 => show 0 ≤ (y 0).val ∧ (y 0).val < 0 + 1; have := (y 0).isLt; change _ < 1 at this; omega
  | 1 => show 128 * ((y 1).val / 128) ≤ (y 1).val ∧ (y 1).val < 128 * ((y 1).val / 128) + 128; omega
  | 2 => show 0 ≤ (y 2).val ∧ (y 2).val < 0 + 128; have := (y 2).isLt; change _ < 128 at this; omega

/-- Outside the tiles are the first eight rows. -/
theorem tPre_not {y : S4104x256.Idx} (h : ¬ tPre.Has y) : (y 0).val < 8 := by
  by_contra h8
  refine h fun a => ?_
  match a with
  | 0 =>
    show 128 * (((y 0).val - 8) / 128) + 8 ≤ (y 0).val ∧ (y 0).val < 128 * (((y 0).val - 8) / 128) + 8 + 128
    omega
  | 1 => show 0 ≤ (y 1).val ∧ (y 1).val < 0 + 256; have := (y 1).isLt; change _ < 256 at this; omega

/-- The program of one grid point leaves the arrays it reads unchanged and the output block at the four layers' result. -/
theorem prog_ok : Ok Ix Name U Lvl (defs := defs) 𝒱 c bd E B (prog B) σ fun _ σ' => σ' .o = (State.ins σ).outBlk ∧ ∀ b : Cell, b.kept = true → σ' b = σ b := by
  unfold prog
  refine Ok.put .pre ?_
  set σ0 : State F := Function.update σ .pre (VecWindow.put (σ .pre) ![0, 0] S8x256.size (k0_pay225 (F := F))) with hσ0
  have k0 : ∀ b : Cell, b.kept = true → σ0 b = σ b := fun b hb =>
    Function.update_of_ne (fun e => by rw [e] at hb; cases hb) _ _
  have z0 : ∀ y, ¬ tPre.Has y → σ0 .pre y = Scalar.ofBits .f32 0x00000000#32 := fun y hy => by
    have h8 := tPre_not hy
    rw [hσ0, Function.update_self]
    exact (dif_pos fun a => by
      match a with
      | 0 => exact ⟨Nat.zero_le _, by show (y 0).val < 0 + 8; omega⟩
      | 1 => exact ⟨Nat.zero_le _, by have := (y 1).isLt; change _ < 256 at this; show (y 1).val < 0 + 256; omega⟩).trans rfl
  -- layer 0
  refine Ok.bind (loadW_ok 0) ?_
  rintro _ _ ⟨rfl, rfl⟩
  rw [State.ins_eq k0]
  refine Ok.bind (layer_ok (X := (State.ins σ).feed 0) (tgt := .xn)
    (D := fun n u => u = tXn.upto n (Ins.next (((State.ins σ).layer 0).out ((State.ins σ).feed 0))) (σ0 .xn)) z0
    (fun k σ' h => ldX_ok ((h .x (by decide) (by decide)).trans (k0 .x rfl)) k) rfl (tXn.upto_zero _ _).symm
    (fun k σ' h => stN_ok k h)) ?_
  rintro _ σ1 ⟨z1, d1, s1⟩
  have k1 : ∀ b : Cell, b.kept = true → σ1 b = σ b := fun b hb =>
    (s1 b (Cell.kept_spec hb).1 (Cell.kept_spec hb).2.1).trans (k0 b hb)
  -- layer 1
  refine Ok.bind (loadW_ok 1) ?_
  rintro _ _ ⟨rfl, rfl⟩
  rw [State.ins_eq k1]
  refine Ok.bind (layer_ok (X := (State.ins σ).feed 1) (tgt := .xn)
    (D := fun n u => u = tXn.upto n (Ins.next (((State.ins σ).layer 1).out ((State.ins σ).feed 1))) (σ1 .xn)) z1
    (fun k σ' h => ldN_ok ((h .xn (by decide) (by decide)).trans d1) k) rfl (tXn.upto_zero _ _).symm
    (fun k σ' h => stN_ok k h)) ?_
  rintro _ σ2 ⟨z2, d2, s2⟩
  have k2 : ∀ b : Cell, b.kept = true → σ2 b = σ b := fun b hb =>
    (s2 b (Cell.kept_spec hb).1 (Cell.kept_spec hb).2.1).trans (k1 b hb)
  -- layer 2
  refine Ok.bind (loadW_ok 2) ?_
  rintro _ _ ⟨rfl, rfl⟩
  rw [State.ins_eq k2]
  refine Ok.bind (layer_ok (X := (State.ins σ).feed 2) (tgt := .xn)
    (D := fun n u => u = tXn.upto n (Ins.next (((State.ins σ).layer 2).out ((State.ins σ).feed 2))) (σ2 .xn)) z2
    (fun k σ' h => ldN_ok ((h .xn (by decide) (by decide)).trans d2) k) rfl (tXn.upto_zero _ _).symm
    (fun k σ' h => stN_ok k h)) ?_
  rintro _ σ3 ⟨z3, d3, s3⟩
  have k3 : ∀ b : Cell, b.kept = true → σ3 b = σ b := fun b hb =>
    (s3 b (Cell.kept_spec hb).1 (Cell.kept_spec hb).2.1).trans (k2 b hb)
  -- layer 3
  refine Ok.bind (loadW_ok 3) ?_
  rintro _ _ ⟨rfl, rfl⟩
  rw [State.ins_eq k3]
  refine Ok.mono (layer_ok (X := (State.ins σ).feed 3) (tgt := .o)
    (D := fun n u => u = tO.upto n (State.ins σ).result (σ3 .o)) z3
    (fun k σ' h => ldN_ok ((h .xn (by decide) (by decide)).trans d3) k) rfl (tO.upto_zero _ _).symm
    (fun k σ' h => stO_ok k h)) ?_
  rintro _ σ4 ⟨-, d4, s4⟩
  exact ⟨d4.trans (tO.upto_congr _ fun y hy => absurd (tO_has y) hy), fun b hb =>
    (s4 b (Cell.kept_spec hb).1 (Cell.kept_spec hb).2.2).trans (k3 b hb)⟩

/-! ## One grid point, buffer by buffer -/

open Idealize.SL.BI.BIBase Idealize.SL.BI.Laws Idealize.SL.ProofMode
open scoped Idealize.SL.BI

/-- A statement for every buffer, written out. -/
theorem bigSep_cells {M : Type} [URA M] (Φ : Cell → sProp M) : bigSep Finset.univ Φ = iprop(Φ .x ∗ Φ .inw ∗ Φ .cw ∗ Φ .cb ∗ Φ .xpw ∗ Φ .dtw
    ∗ Φ .dtb ∗ Φ .a ∗ Φ .d ∗ Φ .ow ∗ Φ .o ∗ Φ .pre ∗ Φ .xa ∗ Φ .z ∗ Φ .dt ∗ Φ .w ∗ Φ .pj ∗ Φ .g3 ∗ Φ .w3 ∗ Φ .xn) :=
  bigSep_univ_eq_bigSepL Cell.all (by decide) (by decide) Φ

/-- The buffers read, held at the arrays `I`. -/
def HeldIns (Ix Name U Lvl : Type) [DecidableEq Ix] [DecidableEq Name] [URA U] (c : Dev nD) (B : Bufs sig) (I : Ins F) :
    sProp (MT nD τ sig Ix (Elt F) Name U Lvl) :=
  iprop(owns (c.tc : Thread nD τ) B.x fullShare I.x ∗ owns (c.tc : Thread nD τ) B.inw fullShare I.inw ∗ owns (c.tc : Thread nD τ) B.cw fullShare I.cw
    ∗ owns (c.tc : Thread nD τ) B.cb fullShare I.cb ∗ owns (c.tc : Thread nD τ) B.xpw fullShare I.xpw ∗ owns (c.tc : Thread nD τ) B.dtw fullShare I.dtw
    ∗ owns (c.tc : Thread nD τ) B.dtb fullShare I.dtb ∗ owns (c.tc : Thread nD τ) B.a fullShare I.a ∗ owns (c.tc : Thread nD τ) B.d fullShare I.d
    ∗ owns (c.tc : Thread nD τ) B.ow fullShare I.ow)

/-- The scratch buffers, held at anything. -/
def HeldScratch (F : FTy → Type) [FloatOps F] (Ix Name U Lvl : Type) [DecidableEq Ix] [DecidableEq Name] [URA U] (c : Dev nD) (B : Bufs sig) :
    sProp (MT nD τ sig Ix (Elt F) Name U Lvl) :=
  iprop((∃ v, owns (c.tc : Thread nD τ) B.pre fullShare v) ∗ (∃ v, owns (c.tc : Thread nD τ) B.xa fullShare v) ∗ (∃ v, owns (c.tc : Thread nD τ) B.z fullShare v)
    ∗ (∃ v, owns (c.tc : Thread nD τ) B.dt fullShare v) ∗ (∃ v, owns (c.tc : Thread nD τ) B.w fullShare v) ∗ (∃ v, owns (c.tc : Thread nD τ) B.pj fullShare v)
    ∗ (∃ v, owns (c.tc : Thread nD τ) B.g3 fullShare v) ∗ (∃ v, owns (c.tc : Thread nD τ) B.w3 fullShare v) ∗ (∃ v, owns (c.tc : Thread nD τ) B.xn fullShare v))

/-- The arrays of every buffer, from those read and anything in the others. -/
def Ins.state (I : Ins F) (v : Vec F (Cell.shape .o) .f32) (v0 : Vec F (Cell.shape .pre) .f32) (v1 : Vec F (Cell.shape .xa) .f32)
    (v2 : Vec F (Cell.shape .z) .f32) (v3 : Vec F (Cell.shape .dt) .f32) (v4 : Vec F (Cell.shape .w) .f32) (v5 : Vec F (Cell.shape .pj) .f32)
    (v6 : Vec F (Cell.shape .g3) .f32) (v7 : Vec F (Cell.shape .w3) .f32) (v8 : Vec F (Cell.shape .xn) .f32) : State F
  | .x => I.x | .inw => I.inw | .cw => I.cw | .cb => I.cb | .xpw => I.xpw | .dtw => I.dtw | .dtb => I.dtb | .a => I.a | .d => I.d
  | .ow => I.ow | .o => v | .pre => v0 | .xa => v1 | .z => v2 | .dt => v3 | .w => v4 | .pj => v5 | .g3 => v6 | .w3 => v7 | .xn => v8

/-- All buffers held give those read, the output block and the scratch buffers. -/
theorem own_out (σ : State F) : Own Ix Name U Lvl c B σ
    ⊢ iprop(HeldIns Ix Name U Lvl c B (State.ins σ) ∗ owns (c.tc : Thread nD τ) B.o fullShare (σ .o) ∗ HeldScratch F Ix Name U Lvl c B) := by
  unfold Own HeldIns HeldScratch
  rw [bigSep_cells]
  iintro ⟨H0, H1, H2, H3, H4, H5, H6, H7, H8, H9, H10, S0, S1, S2, S3, S4, S5, S6, S7, S8⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]; · iexact H10
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iexists _; iexact S8

/-- From the arrays `I`, the program of one grid point leaves them and puts the four layers' result in the output block. -/
theorem point_ok (I : Ins F) :
    iprop(HeldIns Ix Name U Lvl c B I ∗ (∃ v, owns (c.tc : Thread nD τ) B.o fullShare v) ∗ HeldScratch F Ix Name U Lvl c B)
      ⊢ wp frame (wpE defs 𝒱 (c.tc : Thread nD τ) bd) E (prog B) fun _ =>
        iprop(HeldIns Ix Name U Lvl c B I ∗ owns (c.tc : Thread nD τ) B.o fullShare I.outBlk ∗ HeldScratch F Ix Name U Lvl c B) := by
  have key : ∀ v v0 v1 v2 v3 v4 v5 v6 v7 v8, (Own Ix Name U Lvl c B (I.state v v0 v1 v2 v3 v4 v5 v6 v7 v8)) ⊢
      wp frame (wpE defs 𝒱 (c.tc : Thread nD τ) bd) E (prog B) fun _ =>
        iprop(HeldIns Ix Name U Lvl c B I ∗ owns (c.tc : Thread nD τ) B.o fullShare I.outBlk ∗ HeldScratch F Ix Name U Lvl c B) := by
    intro v v0 v1 v2 v3 v4 v5 v6 v7 v8
    have h := prog_ok (Ix := Ix) (Name := Name) (U := U) (Lvl := Lvl) (defs := defs) (𝒱 := 𝒱) (c := c) (bd := bd) (E := E) (B := B)
      (σ := I.state v v0 v1 v2 v3 v4 v5 v6 v7 v8)
    unfold Ok at h
    refine h.trans (wp_mono _ _ _ fun _ => ?_)
    iintro ⟨%σ', %h, H⟩
    have e : State.ins σ' = I := State.ins_eq h.2
    have eo : σ' .o = I.outBlk := h.1
    ihave H := (own_out σ') $$ H
    rw [e, eo]
    iexact H
  unfold HeldIns HeldScratch
  iintro ⟨⟨H0, H1, H2, H3, H4, H5, H6, H7, H8, H9⟩, ⟨%v, H10⟩, ⟨%v0, S0⟩, ⟨%v1, S1⟩, ⟨%v2, S2⟩, ⟨%v3, S3⟩, ⟨%v4, S4⟩, ⟨%v5, S5⟩, ⟨%v6, S6⟩, ⟨%v7, S7⟩, ⟨%v8, S8⟩⟩
  iapply (key v v0 v1 v2 v3 v4 v5 v6 v7 v8)
  unfold Own
  rw [bigSep_cells]
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  iexact S8

end Cert.Mamba
end
-- ==== Proof.BodyIdeal.lean ====
/-
  The body of the idealised kernel is the program of one grid point, `Cert.Mamba.prog`: each of its loops is one of the three passes.
-/
module

public import proofs.«01_k».proof.Proof.Gen.KernelIdeal.Skeleton
public import proofs.«01_k».proof.Proof.Tiles

@[expose] public section

noncomputable section

namespace Cert.KernelIdeal.Body

open Idealize.ShloMosaic Idealize.SL.Sem
open Cert.KernelIdeal Cert.KernelIdeal.Gen

variable {F : FTy → Type} [FloatOps F]

set_option maxRecDepth 65536
set_option maxHeartbeats 4000000

variable (i : grid0.Coords) (arg1 : Memref sig .tc .vmem S1x4096x128 .f32) (harg1 : arg1.IsWhole) (arg2 : Memref sig .tc .vmem S4x128x512 .f32) (harg2 : arg2.IsWhole) (arg3 : Memref sig .tc .vmem S4x4x256 .f32) (harg3 : arg3.IsWhole) (arg4 : Memref sig .tc .vmem S4x1x256 .f32) (harg4 : arg4.IsWhole) (arg5 : Memref sig .tc .vmem S4x256x40 .f32) (harg5 : arg5.IsWhole) (arg6 : Memref sig .tc .vmem S4x8x256 .f32) (harg6 : arg6.IsWhole) (arg7 : Memref sig .tc .vmem S4x1x256 .f32) (harg7 : arg7.IsWhole) (arg8 : Memref sig .tc .vmem S4x16x256 .f32) (harg8 : arg8.IsWhole) (arg9 : Memref sig .tc .vmem S4x1x256 .f32) (harg9 : arg9.IsWhole) (arg10 : Memref sig .tc .vmem S4x256x128 .f32) (harg10 : arg10.IsWhole) (arg11 : Memref sig .tc .vmem S1x4096x128 .f32) (harg11 : arg11.IsWhole) (arg12 : Memref sig .tc .vmem S4104x256 .f32) (harg12 : arg12.IsWhole) (arg13 : Memref sig .tc .vmem S4096x256 .f32) (harg13 : arg13.IsWhole) (arg14 : Memref sig .tc .vmem S4096x256 .f32) (harg14 : arg14.IsWhole) (arg15 : Memref sig .tc .vmem S4096x256 .f32) (harg15 : arg15.IsWhole) (arg16 : Memref sig .tc .vmem S4096x256 .f32) (harg16 : arg16.IsWhole) (arg17 : Memref sig .tc .vmem S4096x40 .f32) (harg17 : arg17.IsWhole) (arg18 : Memref sig .tc .vmem S128x16x256 .f32) (harg18 : arg18.IsWhole) (arg19 : Memref sig .tc .vmem S128x16x256 .f32) (harg19 : arg19.IsWhole) (arg20 : Memref sig .tc .vmem S4096x128 .f32) (harg20 : arg20.IsWhole)

/-! ## Each loop is a pass

Four layers: loops 1–4, 5–8, 9–12 and 13–16. The first loads its tiles from the input block, the last puts its tiles down in the output block. -/

theorem loop1 (inw : Vec F S1x128x512 .f32) :
    Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 inw) = Mamba.pass1 ⟨arg1, arg2, arg3, arg4, arg5, arg6, arg7, arg8, arg9, arg10, arg11, arg12, arg13, arg14, arg15, arg16, arg17, arg18, arg19, arg20⟩ (Mamba.ldX ⟨arg1, arg2, arg3, arg4, arg5, arg6, arg7, arg8, arg9, arg10, arg11, arg12, arg13, arg14, arg15, arg16, arg17, arg18, arg19, arg20⟩) (shapeCast S128x512 inw shapeCasts_S1x128x512_S128x512) := rfl

theorem loop2 (cw : FVec F S4x256 .f32) (cb : FVec F S1x256 .f32) (xpw : FVec F S256x40 .f32) (dtw : FVec F S8x256 .f32) (dtb : FVec F S1x256 .f32) (a : FVec F S16x256 .f32) (d : FVec F S1x256 .f32) (ow : FVec F S256x128 .f32) :
    Scf.Loop.for k0_t2_loop k0_t2_ok ⟨⟩ (k0_t2_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cw cb xpw dtw dtb a d ow) = Mamba.pass2 ⟨arg1, arg2, arg3, arg4, arg5, arg6, arg7, arg8, arg9, arg10, arg11, arg12, arg13, arg14, arg15, arg16, arg17, arg18, arg19, arg20⟩ cw cb xpw dtw dtb := rfl

theorem loop3 (cw : FVec F S4x256 .f32) (cb : FVec F S1x256 .f32) (xpw : FVec F S256x40 .f32) (dtw : FVec F S8x256 .f32) (dtb : FVec F S1x256 .f32) (a : FVec F S16x256 .f32) (d : FVec F S1x256 .f32) (ow : FVec F S256x128 .f32) :
    Scf.Loop.for k0_t3_loop k0_t3_ok (k0_pay240 (F := F)) (k0_t3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cw cb xpw dtw dtb a d ow) = Mamba.pass3 ⟨arg1, arg2, arg3, arg4, arg5, arg6, arg7, arg8, arg9, arg10, arg11, arg12, arg13, arg14, arg15, arg16, arg17, arg18, arg19, arg20⟩ (Mamba.stN ⟨arg1, arg2, arg3, arg4, arg5, arg6, arg7, arg8, arg9, arg10, arg11, arg12, arg13, arg14, arg15, arg16, arg17, arg18, arg19, arg20⟩) a d ow := rfl

theorem loop5 (inw : FVec F S128x512 .f32) (cw : FVec F S4x256 .f32) (cb : FVec F S1x256 .f32) (xpw : FVec F S256x40 .f32) (dtw : FVec F S8x256 .f32) (dtb : FVec F S1x256 .f32) (a : FVec F S16x256 .f32) (d : FVec F S1x256 .f32) (ow : FVec F S256x128 .f32) (c : BitVec 32) :
    Scf.Loop.for k0_t5_loop k0_t5_ok ⟨⟩ (k0_t5_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 inw cw cb xpw dtw dtb a d ow c) = Mamba.pass1 ⟨arg1, arg2, arg3, arg4, arg5, arg6, arg7, arg8, arg9, arg10, arg11, arg12, arg13, arg14, arg15, arg16, arg17, arg18, arg19, arg20⟩ (Mamba.ldN ⟨arg1, arg2, arg3, arg4, arg5, arg6, arg7, arg8, arg9, arg10, arg11, arg12, arg13, arg14, arg15, arg16, arg17, arg18, arg19, arg20⟩) inw := rfl

theorem loop6 (inw : FVec F S128x512 .f32) (cw : FVec F S4x256 .f32) (cb : FVec F S1x256 .f32) (xpw : FVec F S256x40 .f32) (dtw : FVec F S8x256 .f32) (dtb : FVec F S1x256 .f32) (a : FVec F S16x256 .f32) (d : FVec F S1x256 .f32) (ow : FVec F S256x128 .f32) (c : BitVec 32) :
    Scf.Loop.for k0_t6_loop k0_t6_ok ⟨⟩ (k0_t6_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 inw cw cb xpw dtw dtb a d ow c) = Mamba.pass2 ⟨arg1, arg2, arg3, arg4, arg5, arg6, arg7, arg8, arg9, arg10, arg11, arg12, arg13, arg14, arg15, arg16, arg17, arg18, arg19, arg20⟩ cw cb xpw dtw dtb := rfl

theorem loop7 (inw : FVec F S128x512 .f32) (cw : FVec F S4x256 .f32) (cb : FVec F S1x256 .f32) (xpw : FVec F S256x40 .f32) (dtw : FVec F S8x256 .f32) (dtb : FVec F S1x256 .f32) (a : FVec F S16x256 .f32) (d : FVec F S1x256 .f32) (ow : FVec F S256x128 .f32) (c : BitVec 32) :
    Scf.Loop.for k0_t7_loop k0_t7_ok (k0_pay257 (F := F)) (k0_t7_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 inw cw cb xpw dtw dtb a d ow c) = Mamba.pass3 ⟨arg1, arg2, arg3, arg4, arg5, arg6, arg7, arg8, arg9, arg10, arg11, arg12, arg13, arg14, arg15, arg16, arg17, arg18, arg19, arg20⟩ (Mamba.stN ⟨arg1, arg2, arg3, arg4, arg5, arg6, arg7, arg8, arg9, arg10, arg11, arg12, arg13, arg14, arg15, arg16, arg17, arg18, arg19, arg20⟩) a d ow := rfl

theorem loop9 (inw : FVec F S128x512 .f32) (cw : FVec F S4x256 .f32) (cb : FVec F S1x256 .f32) (xpw : FVec F S256x40 .f32) (dtw : FVec F S8x256 .f32) (dtb : FVec F S1x256 .f32) (a : FVec F S16x256 .f32) (d : FVec F S1x256 .f32) :
    Scf.Loop.for k0_t9_loop k0_t9_ok ⟨⟩ (k0_t9_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 inw cw cb xpw dtw dtb a d) = Mamba.pass1 ⟨arg1, arg2, arg3, arg4, arg5, arg6, arg7, arg8, arg9, arg10, arg11, arg12, arg13, arg14, arg15, arg16, arg17, arg18, arg19, arg20⟩ (Mamba.ldN ⟨arg1, arg2, arg3, arg4, arg5, arg6, arg7, arg8, arg9, arg10, arg11, arg12, arg13, arg14, arg15, arg16, arg17, arg18, arg19, arg20⟩) inw := rfl

theorem loop10 (inw : FVec F S128x512 .f32) (cw : FVec F S4x256 .f32) (cb : FVec F S1x256 .f32) (xpw : FVec F S256x40 .f32) (dtw : FVec F S8x256 .f32) (dtb : FVec F S1x256 .f32) (a : FVec F S16x256 .f32) (d : FVec F S1x256 .f32) :
    Scf.Loop.for k0_t10_loop k0_t10_ok ⟨⟩ (k0_t10_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 inw cw cb xpw dtw dtb a d) = Mamba.pass2 ⟨arg1, arg2, arg3, arg4, arg5, arg6, arg7, arg8, arg9, arg10, arg11, arg12, arg13, arg14, arg15, arg16, arg17, arg18, arg19, arg20⟩ cw cb xpw dtw dtb := rfl

theorem loop11 (inw : FVec F S128x512 .f32) (cw : FVec F S4x256 .f32) (cb : FVec F S1x256 .f32) (xpw : FVec F S256x40 .f32) (dtw : FVec F S8x256 .f32) (dtb : FVec F S1x256 .f32) (a : FVec F S16x256 .f32) (d : FVec F S1x256 .f32) (ow : Vec F S1x256x128 .f32) :
    Scf.Loop.for k0_t11_loop k0_t11_ok (k0_pay273 (F := F)) (k0_t11_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 inw cw cb xpw dtw dtb a d ow) = Mamba.pass3 ⟨arg1, arg2, arg3, arg4, arg5, arg6, arg7, arg8, arg9, arg10, arg11, arg12, arg13, arg14, arg15, arg16, arg17, arg18, arg19, arg20⟩ (Mamba.stN ⟨arg1, arg2, arg3, arg4, arg5, arg6, arg7, arg8, arg9, arg10, arg11, arg12, arg13, arg14, arg15, arg16, arg17, arg18, arg19, arg20⟩) a d (shapeCast S256x128 ow shapeCasts_S1x256x128_S256x128) := rfl

theorem loop13 (inw : FVec F S128x512 .f32) :
    Scf.Loop.for k0_t13_loop k0_t13_ok ⟨⟩ (k0_t13_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 inw) = Mamba.pass1 ⟨arg1, arg2, arg3, arg4, arg5, arg6, arg7, arg8, arg9, arg10, arg11, arg12, arg13, arg14, arg15, arg16, arg17, arg18, arg19, arg20⟩ (Mamba.ldN ⟨arg1, arg2, arg3, arg4, arg5, arg6, arg7, arg8, arg9, arg10, arg11, arg12, arg13, arg14, arg15, arg16, arg17, arg18, arg19, arg20⟩) inw := rfl

theorem loop14 (cw : FVec F S4x256 .f32) (cb : FVec F S1x256 .f32) (xpw : FVec F S256x40 .f32) (dtw : FVec F S8x256 .f32) (dtb : FVec F S1x256 .f32) :
    Scf.Loop.for k0_t14_loop k0_t14_ok ⟨⟩ (k0_t14_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 cw cb xpw dtw dtb) = Mamba.pass2 ⟨arg1, arg2, arg3, arg4, arg5, arg6, arg7, arg8, arg9, arg10, arg11, arg12, arg13, arg14, arg15, arg16, arg17, arg18, arg19, arg20⟩ cw cb xpw dtw dtb := rfl

theorem loop15 (a : FVec F S16x256 .f32) (d : Vec F S1x1x256 .f32) (ow : Vec F S1x256x128 .f32) :
    Scf.Loop.for k0_t15_loop k0_t15_ok (k0_pay7 (F := F)) (k0_t15_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 a d ow) = Mamba.pass3 ⟨arg1, arg2, arg3, arg4, arg5, arg6, arg7, arg8, arg9, arg10, arg11, arg12, arg13, arg14, arg15, arg16, arg17, arg18, arg19, arg20⟩ (Mamba.stO ⟨arg1, arg2, arg3, arg4, arg5, arg6, arg7, arg8, arg9, arg10, arg11, arg12, arg13, arg14, arg15, arg16, arg17, arg18, arg19, arg20⟩) a (shapeCast S1x256 d shapeCasts_S1x1x256_S1x256) (shapeCast S256x128 ow shapeCasts_S1x256x128_S256x128) := rfl

/-- The body is the program of one grid point. -/
theorem body_eq : cc0__mamba_kernel (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 = Mamba.prog ⟨arg1, arg2, arg3, arg4, arg5, arg6, arg7, arg8, arg9, arg10, arg11, arg12, arg13, arg14, arg15, arg16, arg17, arg18, arg19, arg20⟩ := by
  rw [cc0__mamba_kernel_eq_skeleton]
  unfold cc0__mamba_kernel_skel
  rw [k0_part37_eq_skeleton, k0_part38_eq_skeleton, k0_part39_eq_skeleton, k0_part40_eq_skeleton]
  unfold k0_part37_skel k0_part38_skel k0_part39_skel k0_part40_skel Mamba.prog Mamba.layerProg Mamba.loadW
  simp only [bind_assoc, pure_bind, loop1, loop2, loop3, loop5, loop6, loop7, loop9, loop10, loop11, loop13, loop14, loop15]
  rfl

end Cert.KernelIdeal.Body
end
-- ==== Proof.FrameIdeal.lean ====
/-
  The run of the idealised kernel: from any memory every execution ends with the arguments unchanged and the output array made of the
  blocks the eight grid points write.
-/
module

public import proofs.«01_k».proof.Proof.BodyIdeal
public import proofs.«01_k».proof.Proof.Layers
public import proofs.«01_k».proof.Proof.Gen.KernelIdeal.Frame
public import Idealize.ShloMosaic.Lib.Claim

@[expose] public section

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays grid point `t` of core `c` reads. -/
def ins (c : Dev nD) (t : Fin cfg0.N) : Mamba.Ins F :=
  ⟨iblk m c 0 t, iblk m c 1 t, iblk m c 2 t, iblk m c 3 t, iblk m c 4 t, iblk m c 5 t, iblk m c 6 t, iblk m c 7 t, iblk m c 8 t, iblk m c 9 t⟩

/-- The buffers of grid point `t`. -/
def bufs (t : Fin cfg0.N) : Mamba.Bufs sig :=
  ⟨st0_0 t, st0_1 t, st0_2 t, st0_3 t, st0_4 t, st0_5 t, st0_6 t, st0_7 t, st0_8 t, st0_9 t, st0_10 t,
    Memref.whole cc0_scratch0, Memref.whole cc0_scratch1, Memref.whole cc0_scratch2, Memref.whole cc0_scratch3, Memref.whole cc0_scratch4,
    Memref.whole cc0_scratch5, Memref.whole cc0_scratch6, Memref.whole cc0_scratch7, Memref.whole cc0_scratch8⟩

/-- The proof data: the inputs stay, the output block is the four layers' result. -/
def dats (p : Fin 1) (c : Dev nD) : Dat τ (Elt F) Unit ℕ (UR sig nD τ) ℕ (cfgs p) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (ins m c t).outBlk
  Φ _ := Pipeline.ΦA spec0 c
  q _ := fullShare
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (ins m c t).outBlk := by dsimp only [dats]

/-- What the body is called with, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

/-- The scratch buffers of a grid point are those the launch lends it. -/
theorem scratch_eq (c : Dev nD) (t : Fin cfg0.N) :
    Mamba.HeldScratch (τ := τ) F Unit ℕ (UR sig nD τ) ℕ c (bufs t) = Pipeline.scopedRest (τ := τ) (Ix := Unit) (Name := ℕ) (U := UR sig nD τ) (Lvl := ℕ) (Val := Elt F) spec0 c := by
  rw [scopedRest0_eq]
  unfold Mamba.HeldScratch bufs
  dsimp only
  rw [(Memref.isWhole_whole cc0_scratch0).exists_owns_eq, (Memref.isWhole_whole cc0_scratch1).exists_owns_eq,
    (Memref.isWhole_whole cc0_scratch2).exists_owns_eq, (Memref.isWhole_whole cc0_scratch3).exists_owns_eq,
    (Memref.isWhole_whole cc0_scratch4).exists_owns_eq, (Memref.isWhole_whole cc0_scratch5).exists_owns_eq,
    (Memref.isWhole_whole cc0_scratch6).exists_owns_eq, (Memref.isWhole_whole cc0_scratch7).exists_owns_eq,
    (Memref.isWhole_whole cc0_scratch8).exists_owns_eq]

/-- The arrays read at a grid point, window by window. -/
theorem held_eq (c : Dev nD) (t : Fin cfg0.N) : Mamba.HeldIns (τ := τ) Unit ℕ (UR sig nD τ) ℕ c (bufs t) (ins m c t) =
    iprop(owns (c : Thread nD τ) (st0_0 t) fullShare (iblk m c 0 t) ∗ owns (c : Thread nD τ) (st0_1 t) fullShare (iblk m c 1 t) ∗ owns (c : Thread nD τ) (st0_2 t) fullShare (iblk m c 2 t)
      ∗ owns (c : Thread nD τ) (st0_3 t) fullShare (iblk m c 3 t) ∗ owns (c : Thread nD τ) (st0_4 t) fullShare (iblk m c 4 t)
      ∗ owns (c : Thread nD τ) (st0_5 t) fullShare (iblk m c 5 t) ∗ owns (c : Thread nD τ) (st0_6 t) fullShare (iblk m c 6 t) ∗ owns (c : Thread nD τ) (st0_7 t) fullShare (iblk m c 7 t)
      ∗ owns (c : Thread nD τ) (st0_8 t) fullShare (iblk m c 8 t) ∗ owns (c : Thread nD τ) (st0_9 t) fullShare (iblk m c 9 t)) := rfl

/-- The body at any grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Body.body_eq]
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c), before0_5_of m (dats m 0 c) (A_eq m c 5) (after_5 m c),
    before0_6_of m (dats m 0 c) (A_eq m c 6) (after_6 m c), before0_7_of m (dats m 0 c) (A_eq m c 7) (after_7 m c),
    before0_8_of m (dats m 0 c) (A_eq m c 8) (after_8 m c), before0_9_of m (dats m 0 c) (A_eq m c 9) (after_9 m c)]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after_0, after_1, after_2, after_3, after_4, after_5, after_6, after_7, after_8, after_9, after_10]
  unfold Pipeline.ΦA
  have key := Mamba.point_ok (Ix := Unit) (Name := ℕ) (U := UR sig nD τ) (Lvl := ℕ) (defs := defs₀ (F := F)) (𝒱 := Variants.none) (c := c)
    (bd := none) (E := Set.univ) (B := bufs t) (ins m c t)
  rw [scratch_eq c t, held_eq m c t, show (bufs t).o = st0_10 t from rfl] at key
  unfold bufs at key
  iintro ⟨⟨HS, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (wp_wand_r frame (wpE (defs₀ (F := F)) Variants.none c none) Set.univ)
  isplitl [HS H0 H1 H2 H3 H4 H5 H6 H7 H8 H9 H10]
  · iapply key
    isplitl [H0 H1 H2 H3 H4 H5 H6 H7 H8 H9]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexists _; iexact H10
    iexact HS
  iintro %_ ⟨⟨H0, H1, H2, H3, H4, H5, H6, H7, H8, H9⟩, H10, HS⟩
  isplitl [HS Hp]
  · isplitl [HS]; · iexact HS
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem defs₀_row (t : Fin cfg0.N) : defs₀ (F := F) .tc cfg0.body (cfg0.bodyArgs t (cfg0.slots t)) = bodyAt0 t := by
  unfold defs₀; rw [Defs.onTc_tc]

/-- The body's obligation at every grid point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every execution ends, with every array at what the proof data say and every semaphore counter at zero. -/
theorem run_quiescent : θ_run defs (onTc (τ := τ) (main (F := F))) (s₀ m ρ)
    (fun fin => Pipeline.FramePost cfgs (dats m) 0 (V m) fin ∧ fin.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end unchanged and every semaphore counter at zero. -/
theorem frame : θ_run defs (onTc (τ := τ) (main (F := F))) ⟨m, fun _ => 0, ρ⟩ (fun fin => (∀ c : Dev nD,
      fin.2.mem ((c.tc : Thread nD τ).loc main_arg0) = m ((c.tc : Thread nD τ).loc main_arg0)
      ∧ fin.2.mem ((c.tc : Thread nD τ).loc main_arg1) = m ((c.tc : Thread nD τ).loc main_arg1)
      ∧ fin.2.mem ((c.tc : Thread nD τ).loc main_arg2) = m ((c.tc : Thread nD τ).loc main_arg2)
      ∧ fin.2.mem ((c.tc : Thread nD τ).loc main_arg3) = m ((c.tc : Thread nD τ).loc main_arg3)
      ∧ fin.2.mem ((c.tc : Thread nD τ).loc main_arg4) = m ((c.tc : Thread nD τ).loc main_arg4)
      ∧ fin.2.mem ((c.tc : Thread nD τ).loc main_arg5) = m ((c.tc : Thread nD τ).loc main_arg5)
      ∧ fin.2.mem ((c.tc : Thread nD τ).loc main_arg6) = m ((c.tc : Thread nD τ).loc main_arg6)
      ∧ fin.2.mem ((c.tc : Thread nD τ).loc main_arg7) = m ((c.tc : Thread nD τ).loc main_arg7)
      ∧ fin.2.mem ((c.tc : Thread nD τ).loc main_arg8) = m ((c.tc : Thread nD τ).loc main_arg8)
      ∧ fin.2.mem ((c.tc : Thread nD τ).loc main_arg9) = m ((c.tc : Thread nD τ).loc main_arg9))
      ∧ fin.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.KernelIdeal.Run
end
-- ==== Proof.Ssa.lean ====
/-
  Reading a straight line of host operations in which the i-th operation writes the i-th buffer of a numbering and no
  operation writes a buffer twice: in the valuation after the whole line EVERY operation's equation holds at once, so a
  value is read by following equations and never by replaying the line.
-/
module

public import Idealize.ShloMosaic.Lib.StableHlo.RunLoop
public import Idealize.ShloMosaic.Lib.StableHlo.RunRead

@[expose] public section

noncomputable section

namespace Cert.Ssa

open Idealize.ShloMosaic Idealize.ShloMosaic.TcCoe Idealize.ShloMosaic.StableHlo

variable {τ : Topo} {sig : RefSig} {F : FTy → Type} [FloatOps F]

/-- The contents of a typed reference in a valuation. -/
def rd {T : BufTy} (V : Valuation τ sig (Elt F)) (t : TRef sig T) : T.Contents (Elt F) := t.ofBuf (V (Proc.devRef .tc t.ref))

/-- A typed reference's position in the table of its memory space: the number the lines below are ordered by. -/
def key (d : DevRef τ sig) : ℕ := d.idx.val

/-- The operations write the buffers numbered `n`, `n + 1`, … in order, allocate nothing and touch TensorCore
    references only. -/
def Line : ℕ → List (HloOp τ sig (Elt F)) → Prop
  | _, [] => True
  | n, op :: ops => (op.bufs ⊆ tcRefs τ sig ∧ op.fresh = ∅ ∧ ∀ d ∈ op.writes, key d = n) ∧ Line (n + 1) ops

theorem Line.mem {n : ℕ} {ops : List (HloOp τ sig (Elt F))} (h : Line n ops) :
    ∀ op ∈ ops, (op.bufs ⊆ tcRefs τ sig ∧ op.fresh = ∅) ∧ ∀ d ∈ op.writes, n ≤ key d ∧ key d < n + ops.length := by
  induction ops generalizing n with
  | nil => intro _ h; exact nomatch h
  | cons o ops ih =>
    intro op hop
    rcases List.mem_cons.mp hop with rfl | hop
    · exact ⟨⟨h.1.1, h.1.2.1⟩, fun d hd => by have := h.1.2.2 d hd; simp; omega⟩
    · obtain ⟨h1, h2⟩ := ih h.2 op hop
      exact ⟨h1, fun d hd => by have := h2 d hd; simp; omega⟩

/-- Any piece of a line is a plain stretch. -/
theorem Line.plain {n : ℕ} {ops : List (HloOp τ sig (Elt F))} (h : Line n ops) {items : List (List (HloOp τ sig (Elt F)))}
    (hi : ∀ o ∈ items, ∀ op ∈ o, op ∈ ops) : Plain items :=
  fun o ho => ⟨fun op hop => (h.mem op (hi o ho op hop)).1.1, fun op hop => (h.mem op (hi o ho op hop)).1.2⟩

/-- A line leaves every buffer outside its numbers alone. -/
theorem Line.keep {n : ℕ} {ops : List (HloOp τ sig (Elt F))} (h : Line n ops) (V : Valuation τ sig (Elt F)) {T : BufTy} (t : TRef sig T)
    (ht : key (Proc.devRef (τ := τ) .tc t.ref) < n ∨ n + ops.length ≤ key (Proc.devRef (τ := τ) .tc t.ref)) : rd (after ops V) t = rd V t := by
  unfold rd
  rw [after_of_forall_not_mem ops V fun op hop hd => by have := (h.mem op hop).2 _ hd; omega]

theorem Line.split {n : ℕ} {ops : List (HloOp τ sig (Elt F))} (h : Line n ops) {i : ℕ} {op : HloOp τ sig (Elt F)} (hi : ops[i]? = some op)
    (V : Valuation τ sig (Elt F)) : ∃ V' : Valuation τ sig (Elt F), (∀ {T : BufTy} (t : TRef sig T), key (Proc.devRef (τ := τ) .tc t.ref) < n + i → rd V' t = rd (after ops V) t)
      ∧ (∀ {T : BufTy} (t : TRef sig T), key (Proc.devRef (τ := τ) .tc t.ref) < n + i + 1 → rd (after ops V) t = rd (op.result V') t) := by
  induction ops generalizing n i V with
  | nil => simp at hi
  | cons o ops ih =>
    cases i with
    | zero =>
      obtain rfl : o = op := by simpa using hi
      refine ⟨V, fun t ht => ?_, fun t ht => ?_⟩
      · have h1 : rd (after ops (o.result V)) t = rd (o.result V) t := h.2.keep _ t (Or.inl (by omega))
        have h2 : rd (after [o] V) t = rd V t := Line.keep (n := n) (ops := [o]) ⟨h.1, trivial⟩ V t (Or.inl (by omega))
        rw [after_cons, h1]; exact h2.symm
      · rw [after_cons]; exact h.2.keep _ t (Or.inl (by omega))
    | succ i =>
      obtain ⟨V', h1, h2⟩ := ih h.2 (i := i) (by simpa using hi) (o.result V)
      exact ⟨V', fun t ht => h1 t (by omega), fun t ht => h2 t (by omega)⟩

/-- A typed reference's number. -/
abbrev num (τ : Topo) {T : BufTy} (t : TRef sig T) : ℕ := key (Proc.devRef (τ := τ) .tc t.ref)

/-- A reshape between buffers whose types are given by equations, in the types the equations name. -/
theorem reshape_cast {S S' : Shape} {e : EltTy} {A B : BufTy} (hA : A = ⟨S, e⟩) (hB : B = ⟨S', e⟩) (he : A.elt = B.elt)
    (hn' : A.shape.ShapeCasts B.shape) (hn : S.ShapeCasts S') (w : A.Contents (Elt F)) :
    cast (congrArg (fun U : BufTy => U.Contents (Elt F)) hB) (fun i => he ▸ shapeCast B.shape w hn' i : B.Contents (Elt F))
      = shapeCast S' (cast (congrArg (fun U : BufTy => U.Contents (Elt F)) hA) w : (⟨S, e⟩ : BufTy).Contents (Elt F)) hn := by
  subst hA; subst hB; rfl

section Build

variable {n : ℕ} {ops : List (HloOp τ sig (Elt F))} {T Tx Ta Tb Tc Ty : BufTy}

theorem Line.consN {y : TRef sig Ty} {v : Ty.Contents (Elt F)} (hy : num τ y = n) (h : Line (n + 1) ops) : Line n (TRef.nullary y v :: ops) :=
  ⟨⟨nullary_bufs_sub .., rfl, fun _ hd => (Finset.mem_singleton.mp hd).symm ▸ hy⟩, h⟩

theorem Line.consU {x : TRef sig Tx} {y : TRef sig Ty} {f : Tx.Contents (Elt F) → Ty.Contents (Elt F)} (hy : num τ y = n)
    (h : Line (n + 1) ops) : Line n (TRef.unary x y f :: ops) :=
  ⟨⟨unary_bufs_sub .., rfl, fun _ hd => (Finset.mem_singleton.mp hd).symm ▸ hy⟩, h⟩

theorem Line.consB {a : TRef sig Ta} {b : TRef sig Tb} {y : TRef sig Ty} {f : Ta.Contents (Elt F) → Tb.Contents (Elt F) → Ty.Contents (Elt F)}
    (hy : num τ y = n) (h : Line (n + 1) ops) : Line n (TRef.binary a b y f :: ops) :=
  ⟨⟨binary_bufs_sub .., rfl, fun _ hd => (Finset.mem_singleton.mp hd).symm ▸ hy⟩, h⟩

theorem Line.consT {c : TRef sig Tc} {a : TRef sig Ta} {b : TRef sig Tb} {y : TRef sig Ty}
    {f : Tc.Contents (Elt F) → Ta.Contents (Elt F) → Tb.Contents (Elt F) → Ty.Contents (Elt F)}
    (hy : num τ y = n) (h : Line (n + 1) ops) : Line n (TRef.ternary c a b y f :: ops) :=
  ⟨⟨ternary_bufs_sub .., rfl, fun _ hd => (Finset.mem_singleton.mp hd).symm ▸ hy⟩, h⟩

theorem Line.consR {x : TRef sig Tx} {y : TRef sig Ty} {he : Tx.elt = Ty.elt} {hn : Tx.shape.ShapeCasts Ty.shape} (hy : num τ y = n)
    (h : Line (n + 1) ops) : Line n (TRef.reshape x y he hn :: ops) :=
  ⟨⟨reshape_bufs_sub .., rfl, fun _ hd => (Finset.mem_singleton.mp hd).symm ▸ hy⟩, h⟩

theorem Line.consUI {a : TRef sig Ta} {k : ℕ} {ix : Fin k → TRef sig T} {y : TRef sig Ty}
    {f : Ta.Contents (Elt F) → (Fin k → T.Contents (Elt F)) → Ty.Contents (Elt F)} (hy : num τ y = n)
    (h : Line (n + 1) ops) : Line n (TRef.unaryIndexed a ix y f :: ops) :=
  ⟨⟨unaryIndexed_bufs_sub .., rfl, fun _ hd => (Finset.mem_singleton.mp hd).symm ▸ hy⟩, h⟩

theorem Line.consBI {a : TRef sig Ta} {b : TRef sig Tb} {k : ℕ} {ix : Fin k → TRef sig T} {y : TRef sig Ty}
    {f : Ta.Contents (Elt F) → Tb.Contents (Elt F) → (Fin k → T.Contents (Elt F)) → Ty.Contents (Elt F)} (hy : num τ y = n)
    (h : Line (n + 1) ops) : Line n (TRef.binaryIndexed a b ix y f :: ops) :=
  ⟨⟨binaryIndexed_bufs_sub .., rfl, fun _ hd => (Finset.mem_singleton.mp hd).symm ▸ hy⟩, h⟩

end Build

section Equations

variable {n i : ℕ} {ops : List (HloOp τ sig (Elt F))} {T Tx Ta Tb Tc Ty : BufTy}

/-- A constant's equation. -/
theorem Line.nullary (h : Line n ops) (i : ℕ) {y : TRef sig Ty} {v : Ty.Contents (Elt F)} (hi : ops[i]? = some (TRef.nullary y v))
    (V : Valuation τ sig (Elt F)) (hy : num τ y = n + i) : rd (after ops V) y = v := by
  obtain ⟨V', -, h2⟩ := h.split hi V
  rw [h2 y (by unfold num at hy; omega)]
  unfold rd
  rw [nullary_result']
  exact TRef.ofBuf_toBuf y v

/-- A one-operand operation's equation. -/
theorem Line.unary (h : Line n ops) (i : ℕ) {x : TRef sig Tx} {y : TRef sig Ty} {f : Tx.Contents (Elt F) → Ty.Contents (Elt F)}
    (hi : ops[i]? = some (TRef.unary x y f)) (V : Valuation τ sig (Elt F)) (hy : num τ y = n + i) (hx : num τ x < n + i) :
    rd (after ops V) y = f (rd (after ops V) x) := by
  obtain ⟨V', h1, h2⟩ := h.split hi V
  rw [h2 y (by unfold num at hy; omega), ← h1 x hx]
  unfold rd
  rw [unary_result']
  exact TRef.ofBuf_toBuf y _

/-- A two-operand operation's equation. -/
theorem Line.binary (h : Line n ops) (i : ℕ) {a : TRef sig Ta} {b : TRef sig Tb} {y : TRef sig Ty}
    {f : Ta.Contents (Elt F) → Tb.Contents (Elt F) → Ty.Contents (Elt F)}
    (hi : ops[i]? = some (TRef.binary a b y f)) (V : Valuation τ sig (Elt F)) (hy : num τ y = n + i) (ha : num τ a < n + i) (hb : num τ b < n + i) :
    rd (after ops V) y = f (rd (after ops V) a) (rd (after ops V) b) := by
  obtain ⟨V', h1, h2⟩ := h.split hi V
  rw [h2 y (by unfold num at hy; omega), ← h1 a ha, ← h1 b hb]
  unfold rd
  rw [binary_result']
  exact TRef.ofBuf_toBuf y _

/-- A three-operand operation's equation. -/
theorem Line.ternary (h : Line n ops) (i : ℕ) {c : TRef sig Tc} {a : TRef sig Ta} {b : TRef sig Tb} {y : TRef sig Ty}
    {f : Tc.Contents (Elt F) → Ta.Contents (Elt F) → Tb.Contents (Elt F) → Ty.Contents (Elt F)}
    (hi : ops[i]? = some (TRef.ternary c a b y f)) (V : Valuation τ sig (Elt F)) (hy : num τ y = n + i) (hc : num τ c < n + i) (ha : num τ a < n + i) (hb : num τ b < n + i) :
    rd (after ops V) y = f (rd (after ops V) c) (rd (after ops V) a) (rd (after ops V) b) := by
  obtain ⟨V', h1, h2⟩ := h.split hi V
  rw [h2 y (by unfold num at hy; omega), ← h1 c hc, ← h1 a ha, ← h1 b hb]
  unfold rd
  rw [ternary_result']
  exact TRef.ofBuf_toBuf y _

/-- A reshape's equation. -/
theorem Line.reshape (h : Line n ops) (i : ℕ) {S S' : Shape} {e : EltTy} {x : TRef sig ⟨S, e⟩} {y : TRef sig ⟨S', e⟩} {hn : S.ShapeCasts S'}
    (hi : ops[i]? = some (TRef.reshape x y rfl hn)) (V : Valuation τ sig (Elt F)) (hy : num τ y = n + i) (hx : num τ x < n + i) :
    rd (after ops V) y = shapeCast S' (rd (after ops V) x) hn := by
  obtain ⟨V', h1, h2⟩ := h.split hi V
  rw [h2 y (by unfold num at hy; omega), ← h1 x hx]
  unfold rd
  rw [reshape_result']
  exact reshape_cast x.ty_eq y.ty_eq _ _ hn _

/-- The equation of an operation of one operand and three index words. -/
theorem Line.unaryIndexed (h : Line n ops) (i : ℕ) {a : TRef sig Ta} {u v w : TRef sig T} {y : TRef sig Ty}
    {f : Ta.Contents (Elt F) → (Fin 3 → T.Contents (Elt F)) → Ty.Contents (Elt F)}
    (hi : ops[i]? = some (TRef.unaryIndexed a ![u, v, w] y f)) (V : Valuation τ sig (Elt F)) (hy : num τ y = n + i) (ha : num τ a < n + i)
    (hu : num τ u < n + i) (hv : num τ v < n + i) (hw : num τ w < n + i) :
    rd (after ops V) y = f (rd (after ops V) a) ![rd (after ops V) u, rd (after ops V) v, rd (after ops V) w] := by
  obtain ⟨V', h1, h2⟩ := h.split hi V
  rw [h2 y (by unfold num at hy; omega), ← h1 a ha, ← h1 u hu, ← h1 v hv, ← h1 w hw]
  unfold rd
  rw [unaryIndexed_result']
  refine (TRef.ofBuf_toBuf y _).trans (congrArg _ ?_)
  funext k
  fin_cases k <;> rfl

/-- The equation of an operation of two operands and three index words. -/
theorem Line.binaryIndexed (h : Line n ops) (i : ℕ) {a : TRef sig Ta} {b : TRef sig Tb} {u v w : TRef sig T} {y : TRef sig Ty}
    {f : Ta.Contents (Elt F) → Tb.Contents (Elt F) → (Fin 3 → T.Contents (Elt F)) → Ty.Contents (Elt F)}
    (hi : ops[i]? = some (TRef.binaryIndexed a b ![u, v, w] y f)) (V : Valuation τ sig (Elt F)) (hy : num τ y = n + i) (ha : num τ a < n + i) (hb : num τ b < n + i)
    (hu : num τ u < n + i) (hv : num τ v < n + i) (hw : num τ w < n + i) :
    rd (after ops V) y = f (rd (after ops V) a) (rd (after ops V) b) ![rd (after ops V) u, rd (after ops V) v, rd (after ops V) w] := by
  obtain ⟨V', h1, h2⟩ := h.split hi V
  rw [h2 y (by unfold num at hy; omega), ← h1 a ha, ← h1 b hb, ← h1 u hu, ← h1 v hv, ← h1 w hw]
  unfold rd
  rw [binaryIndexed_result']
  refine (TRef.ofBuf_toBuf y _).trans (congrArg _ ?_)
  funext k
  fin_cases k <;> rfl

end Equations

end Cert.Ssa
-- ==== Proof.RefOps.lean ====
/-
  The reference's @main is four copies of one layer, each over its own 163 buffers: here one copy's operations are listed
  once, at a layer number `l`. Operation `j` of a layer writes buffer `10 + 163 l + j`.
-/
module

public import proofs.«01_k».proof.Proof.Gen.ReferenceIdeal
public import proofs.«01_k».proof.Proof.Ssa
public import Idealize.ShloMosaic.Lib.Pipeline.Regions

@[expose] public section

set_option maxRecDepth 100000

noncomputable section

namespace Cert.ReferenceIdeal.Layer

open Cert.ReferenceIdeal Cert.ReferenceIdeal.Gen Cert.Ssa
open Idealize.ShloMosaic Idealize.ShloMosaic.TcCoe Idealize.ShloMosaic.StableHlo

variable {F : FTy → Type} [FloatOps F]

/-- Buffer `j` of layer `l`. -/
def buf (l : Fin 4) (j : Fin 163) : Ref sig .tc := ⟨.hbm, ⟨10 + 163 * l + j, by have := l.2; have := j.2; show 10 + 163 * (l : ℕ) + j < 662; omega⟩, rfl⟩

/-- The layers' buffers have the same types. -/
theorem buf_ty : ∀ (l : Fin 4) (j : Fin 163), (buf l j).ty = hbmTy (10 + j) := by decide +kernel

theorem buf_unscoped : ∀ (l : Fin 4) (j : Fin 163), (buf l j).isScoped = false := by decide +kernel

/-- Buffer `j` of layer `l` as a reference to a value of type `T`. -/
abbrev r (l : Fin 4) (j : ℕ) (T : BufTy) (h : j < 163 := by decide) (hT : hbmTy (10 + j) = T := by rfl) : TRef sig T :=
  ⟨buf l ⟨j, h⟩, (buf_ty l ⟨j, h⟩).trans hT, (show Space.hbm ≠ Space.host by decide), buf_unscoped l ⟨j, h⟩⟩

theorem num_r (l : Fin 4) (j : ℕ) (T : BufTy) (h : j < 163) (hT : hbmTy (10 + j) = T) : num τ (r l j T h hT) = 10 + 163 * l + j := rfl

abbrev a0 : TRef sig ⟨S8x4096x128, .f32⟩ := .of main_arg0
abbrev a1 : TRef sig ⟨S4x512x128, .f32⟩ := .of main_arg1
abbrev a2 : TRef sig ⟨S4x256x4, .f32⟩ := .of main_arg2
abbrev a3 : TRef sig ⟨S4x256, .f32⟩ := .of main_arg3
abbrev a4 : TRef sig ⟨S4x40x256, .f32⟩ := .of main_arg4
abbrev a5 : TRef sig ⟨S4x256x8, .f32⟩ := .of main_arg5
abbrev a6 : TRef sig ⟨S4x256, .f32⟩ := .of main_arg6
abbrev a7 : TRef sig ⟨S4x256x16, .f32⟩ := .of main_arg7
abbrev a8 : TRef sig ⟨S4x256, .f32⟩ := .of main_arg8
abbrev a9 : TRef sig ⟨S4x128x256, .f32⟩ := .of main_arg9

/-- Layer `l`'s input: the program's first argument, or the previous layer's output. -/
def xin : Fin 4 → TRef sig ⟨S8x4096x128, .f32⟩
  | 0 => a0
  | 1 => r 0 162 ⟨S8x4096x128, .f32⟩
  | 2 => r 1 162 ⟨S8x4096x128, .f32⟩
  | 3 => r 2 162 ⟨S8x4096x128, .f32⟩

theorem num_xin : ∀ l : Fin 4, num τ (xin l) < 10 + 163 * l
  | 0 => by decide
  | 1 => by decide
  | 2 => by decide
  | 3 => by decide

theorem cut_S4x128x256 (l : Fin 4) : S4x128x256.Slices ![(l : ℕ), 0, 0] S1x128x256 := by revert l; decide
theorem cut_S4x256 (l : Fin 4) : S4x256.Slices ![(l : ℕ), 0] S1x256 := by revert l; decide
theorem cut_S4x256x16 (l : Fin 4) : S4x256x16.Slices ![(l : ℕ), 0, 0] S1x256x16 := by revert l; decide
theorem cut_S4x256x4 (l : Fin 4) : S4x256x4.Slices ![(l : ℕ), 0, 0] S1x256x4 := by revert l; decide
theorem cut_S4x256x8 (l : Fin 4) : S4x256x8.Slices ![(l : ℕ), 0, 0] S1x256x8 := by revert l; decide
theorem cut_S4x40x256 (l : Fin 4) : S4x40x256.Slices ![(l : ℕ), 0, 0] S1x40x256 := by revert l; decide
theorem cut_S4x512x128 (l : Fin 4) : S4x512x128.Slices ![(l : ℕ), 0, 0] S1x512x128 := by revert l; decide

/-- What a layer runs before its recurrence, ending with the eight values the loop carries. -/
def pre (l : Fin 4) : List (HloOp τ sig (Elt F)) :=
  [ TRef.unary (a1) (r l 0 ⟨S1x512x128, .f32⟩) ((extractStridedSlice S1x512x128 ![(l : ℕ), 0, 0] · (cut_S4x512x128 l))),
    TRef.reshape (r l 0 ⟨S1x512x128, .f32⟩) (r l 1 ⟨S512x128, .f32⟩) (rfl : (.f32 : EltTy) = .f32) shapeCasts_S1x512x128_S512x128,
    TRef.unary (a2) (r l 2 ⟨S1x256x4, .f32⟩) ((extractStridedSlice S1x256x4 ![(l : ℕ), 0, 0] · (cut_S4x256x4 l))),
    TRef.reshape (r l 2 ⟨S1x256x4, .f32⟩) (r l 3 ⟨S256x4, .f32⟩) (rfl : (.f32 : EltTy) = .f32) shapeCasts_S1x256x4_S256x4,
    TRef.unary (a3) (r l 4 ⟨S1x256, .f32⟩) ((extractStridedSlice S1x256 ![(l : ℕ), 0] · (cut_S4x256 l))),
    TRef.reshape (r l 4 ⟨S1x256, .f32⟩) (r l 5 ⟨S256, .f32⟩) (rfl : (.f32 : EltTy) = .f32) shapeCasts_S1x256_S256,
    TRef.unary (a4) (r l 6 ⟨S1x40x256, .f32⟩) ((extractStridedSlice S1x40x256 ![(l : ℕ), 0, 0] · (cut_S4x40x256 l))),
    TRef.reshape (r l 6 ⟨S1x40x256, .f32⟩) (r l 7 ⟨S40x256, .f32⟩) (rfl : (.f32 : EltTy) = .f32) shapeCasts_S1x40x256_S40x256,
    TRef.unary (a5) (r l 8 ⟨S1x256x8, .f32⟩) ((extractStridedSlice S1x256x8 ![(l : ℕ), 0, 0] · (cut_S4x256x8 l))),
    TRef.reshape (r l 8 ⟨S1x256x8, .f32⟩) (r l 9 ⟨S256x8, .f32⟩) (rfl : (.f32 : EltTy) = .f32) shapeCasts_S1x256x8_S256x8,
    TRef.unary (a6) (r l 10 ⟨S1x256, .f32⟩) ((extractStridedSlice S1x256 ![(l : ℕ), 0] · (cut_S4x256 l))),
    TRef.reshape (r l 10 ⟨S1x256, .f32⟩) (r l 11 ⟨S256, .f32⟩) (rfl : (.f32 : EltTy) = .f32) shapeCasts_S1x256_S256,
    TRef.unary (a7) (r l 12 ⟨S1x256x16, .f32⟩) ((extractStridedSlice S1x256x16 ![(l : ℕ), 0, 0] · (cut_S4x256x16 l))),
    TRef.reshape (r l 12 ⟨S1x256x16, .f32⟩) (r l 13 ⟨S256x16, .f32⟩) (rfl : (.f32 : EltTy) = .f32) shapeCasts_S1x256x16_S256x16,
    TRef.unary (a8) (r l 14 ⟨S1x256, .f32⟩) ((extractStridedSlice S1x256 ![(l : ℕ), 0] · (cut_S4x256 l))),
    TRef.reshape (r l 14 ⟨S1x256, .f32⟩) (r l 15 ⟨S256, .f32⟩) (rfl : (.f32 : EltTy) = .f32) shapeCasts_S1x256_S256,
    TRef.unary (a9) (r l 16 ⟨S1x128x256, .f32⟩) ((extractStridedSlice S1x128x256 ![(l : ℕ), 0, 0] · (cut_S4x128x256 l))),
    TRef.reshape (r l 16 ⟨S1x128x256, .f32⟩) (r l 17 ⟨S128x256, .f32⟩) (rfl : (.f32 : EltTy) = .f32) shapeCasts_S1x128x256_S128x256,
    TRef.unary (r l 1 ⟨S512x128, .f32⟩) (r l 18 ⟨S128x512, .f32⟩) ((transpose S128x512 [1, 0] · transposes_S512x128_S128x512_1_0)),
    TRef.binary (xin l) (r l 18 ⟨S128x512, .f32⟩) (r l 19 ⟨S8x4096x512, .f32⟩) ((fun l r => Host.dotGeneral dot_S8x4096x128_S128x512_S8x4096x512_2_0_01_1_n_n none l r)),
    TRef.unary (r l 19 ⟨S8x4096x512, .f32⟩) (r l 20 ⟨S8x4096x256, .f32⟩) ((extractStridedSlice S8x4096x256 ![0, 0, 0] · slices_S8x4096x512_S8x4096x256_0_0_0)),
    TRef.unary (r l 19 ⟨S8x4096x512, .f32⟩) (r l 21 ⟨S8x4096x256, .f32⟩) ((extractStridedSlice S8x4096x256 ![0, 0, 256] · slices_S8x4096x512_S8x4096x256_0_0_256)),
    TRef.nullary (r l 22 ⟨S_, .i32⟩) (constantI S_ 32 0#32),
    TRef.unary (r l 22 ⟨S_, .i32⟩) (r l 23 ⟨S_, .f32⟩) (sitofp .f32),
    TRef.binary (r l 20 ⟨S8x4096x256, .f32⟩) (r l 23 ⟨S_, .f32⟩) (r l 24 ⟨S8x4099x256, .f32⟩) (fun x v => pad S8x4099x256 ![0, 3, 0] ![0, 0, 0] ![0, 0, 0] x v pads_S8x4096x256_S8x4099x256_000_300_000 h_S_),
    TRef.unary (r l 24 ⟨S8x4099x256, .f32⟩) (r l 25 ⟨S8x4096x256, .f32⟩) ((extractStridedSlice S8x4096x256 ![0, 0, 0] · slices_S8x4099x256_S8x4096x256_0_0_0)),
    TRef.unary (r l 3 ⟨S256x4, .f32⟩) (r l 26 ⟨S256x1, .f32⟩) ((extractStridedSlice S256x1 ![0, 0] · slices_S256x4_S256x1_0_0)),
    TRef.reshape (r l 26 ⟨S256x1, .f32⟩) (r l 27 ⟨S256, .f32⟩) (rfl : (.f32 : EltTy) = .f32) shapeCasts_S256x1_S256,
    TRef.unary (r l 27 ⟨S256, .f32⟩) (r l 28 ⟨S1x1x256, .f32⟩) (broadcastInDim S1x1x256 ![2] bcast_S256_S1x1x256_2),
    TRef.unary (r l 28 ⟨S1x1x256, .f32⟩) (r l 29 ⟨S8x4096x256, .f32⟩) (broadcastInDim S8x4096x256 ![0, 1, 2] bcast_S1x1x256_S8x4096x256_0_1_2),
    TRef.binary (r l 25 ⟨S8x4096x256, .f32⟩) (r l 29 ⟨S8x4096x256, .f32⟩) (r l 30 ⟨S8x4096x256, .f32⟩) (mulf),
    TRef.unary (r l 5 ⟨S256, .f32⟩) (r l 31 ⟨S1x1x256, .f32⟩) (broadcastInDim S1x1x256 ![2] bcast_S256_S1x1x256_2),
    TRef.unary (r l 31 ⟨S1x1x256, .f32⟩) (r l 32 ⟨S8x4096x256, .f32⟩) (broadcastInDim S8x4096x256 ![0, 1, 2] bcast_S1x1x256_S8x4096x256_0_1_2),
    TRef.binary (r l 32 ⟨S8x4096x256, .f32⟩) (r l 30 ⟨S8x4096x256, .f32⟩) (r l 33 ⟨S8x4096x256, .f32⟩) (addf),
    TRef.unary (r l 24 ⟨S8x4099x256, .f32⟩) (r l 34 ⟨S8x4096x256, .f32⟩) ((extractStridedSlice S8x4096x256 ![0, 1, 0] · slices_S8x4099x256_S8x4096x256_0_1_0)),
    TRef.unary (r l 3 ⟨S256x4, .f32⟩) (r l 35 ⟨S256x1, .f32⟩) ((extractStridedSlice S256x1 ![0, 1] · slices_S256x4_S256x1_0_1)),
    TRef.reshape (r l 35 ⟨S256x1, .f32⟩) (r l 36 ⟨S256, .f32⟩) (rfl : (.f32 : EltTy) = .f32) shapeCasts_S256x1_S256,
    TRef.unary (r l 36 ⟨S256, .f32⟩) (r l 37 ⟨S1x1x256, .f32⟩) (broadcastInDim S1x1x256 ![2] bcast_S256_S1x1x256_2),
    TRef.unary (r l 37 ⟨S1x1x256, .f32⟩) (r l 38 ⟨S8x4096x256, .f32⟩) (broadcastInDim S8x4096x256 ![0, 1, 2] bcast_S1x1x256_S8x4096x256_0_1_2),
    TRef.binary (r l 34 ⟨S8x4096x256, .f32⟩) (r l 38 ⟨S8x4096x256, .f32⟩) (r l 39 ⟨S8x4096x256, .f32⟩) (mulf),
    TRef.binary (r l 33 ⟨S8x4096x256, .f32⟩) (r l 39 ⟨S8x4096x256, .f32⟩) (r l 40 ⟨S8x4096x256, .f32⟩) (addf),
    TRef.unary (r l 24 ⟨S8x4099x256, .f32⟩) (r l 41 ⟨S8x4096x256, .f32⟩) ((extractStridedSlice S8x4096x256 ![0, 2, 0] · slices_S8x4099x256_S8x4096x256_0_2_0)),
    TRef.unary (r l 3 ⟨S256x4, .f32⟩) (r l 42 ⟨S256x1, .f32⟩) ((extractStridedSlice S256x1 ![0, 2] · slices_S256x4_S256x1_0_2)),
    TRef.reshape (r l 42 ⟨S256x1, .f32⟩) (r l 43 ⟨S256, .f32⟩) (rfl : (.f32 : EltTy) = .f32) shapeCasts_S256x1_S256,
    TRef.unary (r l 43 ⟨S256, .f32⟩) (r l 44 ⟨S1x1x256, .f32⟩) (broadcastInDim S1x1x256 ![2] bcast_S256_S1x1x256_2),
    TRef.unary (r l 44 ⟨S1x1x256, .f32⟩) (r l 45 ⟨S8x4096x256, .f32⟩) (broadcastInDim S8x4096x256 ![0, 1, 2] bcast_S1x1x256_S8x4096x256_0_1_2),
    TRef.binary (r l 41 ⟨S8x4096x256, .f32⟩) (r l 45 ⟨S8x4096x256, .f32⟩) (r l 46 ⟨S8x4096x256, .f32⟩) (mulf),
    TRef.binary (r l 40 ⟨S8x4096x256, .f32⟩) (r l 46 ⟨S8x4096x256, .f32⟩) (r l 47 ⟨S8x4096x256, .f32⟩) (addf),
    TRef.unary (r l 24 ⟨S8x4099x256, .f32⟩) (r l 48 ⟨S8x4096x256, .f32⟩) ((extractStridedSlice S8x4096x256 ![0, 3, 0] · slices_S8x4099x256_S8x4096x256_0_3_0)),
    TRef.unary (r l 3 ⟨S256x4, .f32⟩) (r l 49 ⟨S256x1, .f32⟩) ((extractStridedSlice S256x1 ![0, 3] · slices_S256x4_S256x1_0_3)),
    TRef.reshape (r l 49 ⟨S256x1, .f32⟩) (r l 50 ⟨S256, .f32⟩) (rfl : (.f32 : EltTy) = .f32) shapeCasts_S256x1_S256,
    TRef.unary (r l 50 ⟨S256, .f32⟩) (r l 51 ⟨S1x1x256, .f32⟩) (broadcastInDim S1x1x256 ![2] bcast_S256_S1x1x256_2),
    TRef.unary (r l 51 ⟨S1x1x256, .f32⟩) (r l 52 ⟨S8x4096x256, .f32⟩) (broadcastInDim S8x4096x256 ![0, 1, 2] bcast_S1x1x256_S8x4096x256_0_1_2),
    TRef.binary (r l 48 ⟨S8x4096x256, .f32⟩) (r l 52 ⟨S8x4096x256, .f32⟩) (r l 53 ⟨S8x4096x256, .f32⟩) (mulf),
    TRef.binary (r l 47 ⟨S8x4096x256, .f32⟩) (r l 53 ⟨S8x4096x256, .f32⟩) (r l 54 ⟨S8x4096x256, .f32⟩) (addf),
    TRef.unary (r l 54 ⟨S8x4096x256, .f32⟩) (r l 55 ⟨S8x4096x256, .f32⟩) Host.negf,
    TRef.unary (r l 55 ⟨S8x4096x256, .f32⟩) (r l 56 ⟨S8x4096x256, .f32⟩) Host.exp,
    TRef.nullary (r l 57 ⟨S_, .f32⟩) (constant S_ .f32 0x3F800000#32),
    TRef.unary (r l 57 ⟨S_, .f32⟩) (r l 58 ⟨S8x4096x256, .f32⟩) (broadcastInDim S8x4096x256 ![] bcast_S_S8x4096x256),
    TRef.binary (r l 58 ⟨S8x4096x256, .f32⟩) (r l 56 ⟨S8x4096x256, .f32⟩) (r l 59 ⟨S8x4096x256, .f32⟩) addf,
    TRef.nullary (r l 60 ⟨S_, .f32⟩) (constant S_ .f32 0x3F800000#32),
    TRef.unary (r l 60 ⟨S_, .f32⟩) (r l 61 ⟨S8x4096x256, .f32⟩) (broadcastInDim S8x4096x256 ![] bcast_S_S8x4096x256),
    TRef.binary (r l 61 ⟨S8x4096x256, .f32⟩) (r l 59 ⟨S8x4096x256, .f32⟩) (r l 62 ⟨S8x4096x256, .f32⟩) Host.divf,
    TRef.binary (r l 54 ⟨S8x4096x256, .f32⟩) (r l 62 ⟨S8x4096x256, .f32⟩) (r l 63 ⟨S8x4096x256, .f32⟩) mulf,
    TRef.unary (r l 7 ⟨S40x256, .f32⟩) (r l 64 ⟨S256x40, .f32⟩) ((transpose S256x40 [1, 0] · transposes_S40x256_S256x40_1_0)),
    TRef.binary (r l 63 ⟨S8x4096x256, .f32⟩) (r l 64 ⟨S256x40, .f32⟩) (r l 65 ⟨S8x4096x40, .f32⟩) ((fun l r => Host.dotGeneral dot_S8x4096x256_S256x40_S8x4096x40_2_0_01_1_n_n none l r)),
    TRef.unary (r l 65 ⟨S8x4096x40, .f32⟩) (r l 66 ⟨S8x4096x8, .f32⟩) ((extractStridedSlice S8x4096x8 ![0, 0, 0] · slices_S8x4096x40_S8x4096x8_0_0_0)),
    TRef.unary (r l 65 ⟨S8x4096x40, .f32⟩) (r l 67 ⟨S8x4096x16, .f32⟩) ((extractStridedSlice S8x4096x16 ![0, 0, 8] · slices_S8x4096x40_S8x4096x16_0_0_8)),
    TRef.unary (r l 65 ⟨S8x4096x40, .f32⟩) (r l 68 ⟨S8x4096x16, .f32⟩) ((extractStridedSlice S8x4096x16 ![0, 0, 24] · slices_S8x4096x40_S8x4096x16_0_0_24)),
    TRef.unary (r l 9 ⟨S256x8, .f32⟩) (r l 69 ⟨S8x256, .f32⟩) ((transpose S8x256 [1, 0] · transposes_S256x8_S8x256_1_0)),
    TRef.binary (r l 66 ⟨S8x4096x8, .f32⟩) (r l 69 ⟨S8x256, .f32⟩) (r l 70 ⟨S8x4096x256, .f32⟩) ((fun l r => Host.dotGeneral dot_S8x4096x8_S8x256_S8x4096x256_2_0_01_1_n_n none l r)),
    TRef.unary (r l 11 ⟨S256, .f32⟩) (r l 71 ⟨S1x1x256, .f32⟩) (broadcastInDim S1x1x256 ![2] bcast_S256_S1x1x256_2),
    TRef.unary (r l 71 ⟨S1x1x256, .f32⟩) (r l 72 ⟨S8x4096x256, .f32⟩) (broadcastInDim S8x4096x256 ![0, 1, 2] bcast_S1x1x256_S8x4096x256_0_1_2),
    TRef.binary (r l 70 ⟨S8x4096x256, .f32⟩) (r l 72 ⟨S8x4096x256, .f32⟩) (r l 73 ⟨S8x4096x256, .f32⟩) (addf),
    TRef.nullary (r l 74 ⟨S_, .f32⟩) (constant S_ .f32 0x00000000#32),
    TRef.unary (r l 74 ⟨S_, .f32⟩) (r l 75 ⟨S8x4096x256, .f32⟩) (broadcastInDim S8x4096x256 ![] bcast_S_S8x4096x256),
    TRef.binary (r l 73 ⟨S8x4096x256, .f32⟩) (r l 75 ⟨S8x4096x256, .f32⟩) (r l 76 ⟨S8x4096x256, .f32⟩) maximumf,
    TRef.unary (r l 74 ⟨S_, .f32⟩) (r l 77 ⟨S8x4096x256, .f32⟩) (broadcastInDim S8x4096x256 ![] bcast_S_S8x4096x256),
    TRef.binary (r l 73 ⟨S8x4096x256, .f32⟩) (r l 77 ⟨S8x4096x256, .f32⟩) (r l 78 ⟨S8x4096x256, .f32⟩) subf,
    TRef.binary (r l 78 ⟨S8x4096x256, .f32⟩) (r l 78 ⟨S8x4096x256, .f32⟩) (r l 79 ⟨S8x4096x256, .i1⟩) (cmpf .une),
    TRef.unary (r l 74 ⟨S_, .f32⟩) (r l 80 ⟨S8x4096x256, .f32⟩) (broadcastInDim S8x4096x256 ![] bcast_S_S8x4096x256),
    TRef.binary (r l 73 ⟨S8x4096x256, .f32⟩) (r l 80 ⟨S8x4096x256, .f32⟩) (r l 81 ⟨S8x4096x256, .f32⟩) addf,
    TRef.unary (r l 78 ⟨S8x4096x256, .f32⟩) (r l 82 ⟨S8x4096x256, .f32⟩) Host.absf,
    TRef.unary (r l 82 ⟨S8x4096x256, .f32⟩) (r l 83 ⟨S8x4096x256, .f32⟩) Host.negf,
    TRef.unary (r l 83 ⟨S8x4096x256, .f32⟩) (r l 84 ⟨S8x4096x256, .f32⟩) Host.exp,
    TRef.unary (r l 84 ⟨S8x4096x256, .f32⟩) (r l 85 ⟨S8x4096x256, .f32⟩) Host.log1p,
    TRef.binary (r l 76 ⟨S8x4096x256, .f32⟩) (r l 85 ⟨S8x4096x256, .f32⟩) (r l 86 ⟨S8x4096x256, .f32⟩) addf,
    TRef.ternary (r l 79 ⟨S8x4096x256, .i1⟩) (r l 81 ⟨S8x4096x256, .f32⟩) (r l 86 ⟨S8x4096x256, .f32⟩) (r l 87 ⟨S8x4096x256, .f32⟩) select,
    TRef.unary (r l 13 ⟨S256x16, .f32⟩) (r l 88 ⟨S256x16, .f32⟩) (Host.exp),
    TRef.unary (r l 88 ⟨S256x16, .f32⟩) (r l 89 ⟨S256x16, .f32⟩) (Host.negf),
    TRef.nullary (r l 90 ⟨S_, .f32⟩) (constant S_ .f32 0x00000000#32),
    TRef.unary (r l 90 ⟨S_, .f32⟩) (r l 91 ⟨S8x256x16, .f32⟩) (broadcastInDim S8x256x16 ![] bcast_S_S8x256x16),
    TRef.unary (r l 87 ⟨S8x4096x256, .f32⟩) (r l 92 ⟨S4096x8x256, .f32⟩) ((transpose S4096x8x256 [1, 0, 2] · transposes_S8x4096x256_S4096x8x256_1_0_2)),
    TRef.unary (r l 67 ⟨S8x4096x16, .f32⟩) (r l 93 ⟨S4096x8x16, .f32⟩) ((transpose S4096x8x16 [1, 0, 2] · transposes_S8x4096x16_S4096x8x16_1_0_2)),
    TRef.unary (r l 68 ⟨S8x4096x16, .f32⟩) (r l 94 ⟨S4096x8x16, .f32⟩) ((transpose S4096x8x16 [1, 0, 2] · transposes_S8x4096x16_S4096x8x16_1_0_2)),
    TRef.unary (r l 63 ⟨S8x4096x256, .f32⟩) (r l 95 ⟨S4096x8x256, .f32⟩) ((transpose S4096x8x256 [1, 0, 2] · transposes_S8x4096x256_S4096x8x256_1_0_2)),
    TRef.nullary (r l 96 ⟨S_, .f32⟩) (constant S_ .f32 0x00000000#32),
    TRef.unary (r l 96 ⟨S_, .f32⟩) (r l 97 ⟨S4096x8x256, .f32⟩) (broadcastInDim S4096x8x256 ![] bcast_S_S4096x8x256),
    TRef.nullary (r l 98 ⟨S_, .i32⟩) (constantI S_ 32 0#32),
    TRef.unary (r l 92 ⟨S4096x8x256, .f32⟩) (r l 99 ⟨S4096x8x256, .f32⟩) id,
    TRef.unary (r l 93 ⟨S4096x8x16, .f32⟩) (r l 100 ⟨S4096x8x16, .f32⟩) id,
    TRef.unary (r l 94 ⟨S4096x8x16, .f32⟩) (r l 101 ⟨S4096x8x16, .f32⟩) id,
    TRef.unary (r l 95 ⟨S4096x8x256, .f32⟩) (r l 102 ⟨S4096x8x256, .f32⟩) id,
    TRef.unary (r l 89 ⟨S256x16, .f32⟩) (r l 103 ⟨S256x16, .f32⟩) id,
    TRef.unary (r l 98 ⟨S_, .i32⟩) (r l 104 ⟨S_, .i32⟩) id,
    TRef.unary (r l 91 ⟨S8x256x16, .f32⟩) (r l 105 ⟨S8x256x16, .f32⟩) id,
    TRef.unary (r l 97 ⟨S4096x8x256, .f32⟩) (r l 106 ⟨S4096x8x256, .f32⟩) id ]

/-- The loop condition: the counter against the bound. -/
def cond (l : Fin 4) : List (HloOp τ sig (Elt F)) :=
  [ TRef.nullary (r l 107 ⟨S_, .i32⟩) (constantI S_ 32 4096#32),
    TRef.binary (r l 104 ⟨S_, .i32⟩) (r l 107 ⟨S_, .i32⟩) (r l 108 ⟨S_, .i1⟩) (cmpi .slt) ]

/-- One trip, up to the new values of the counter, the state and the output rows. -/
def body (l : Fin 4) : List (HloOp τ sig (Elt F)) :=
  [ TRef.nullary (r l 109 ⟨S_, .i32⟩) (constantI S_ 32 0#32),
    TRef.nullary (r l 110 ⟨S_, .i32⟩) (constantI S_ 32 0#32),
    TRef.unaryIndexed (r l 99 ⟨S4096x8x256, .f32⟩) ![(r l 104 ⟨S_, .i32⟩), (r l 109 ⟨S_, .i32⟩), (r l 110 ⟨S_, .i32⟩)] (r l 111 ⟨S1x8x256, .f32⟩) (fun x i => Host.dynamicSlice S1x8x256 x (fun k => (i k (Shape.Idx.first h_S_)).toInt) sliceFits_S4096x8x256_S1x8x256),
    TRef.reshape (r l 111 ⟨S1x8x256, .f32⟩) (r l 112 ⟨S8x256, .f32⟩) (rfl : (.f32 : EltTy) = .f32) shapeCasts_S1x8x256_S8x256,
    TRef.nullary (r l 113 ⟨S_, .i32⟩) (constantI S_ 32 0#32),
    TRef.nullary (r l 114 ⟨S_, .i32⟩) (constantI S_ 32 0#32),
    TRef.unaryIndexed (r l 100 ⟨S4096x8x16, .f32⟩) ![(r l 104 ⟨S_, .i32⟩), (r l 113 ⟨S_, .i32⟩), (r l 114 ⟨S_, .i32⟩)] (r l 115 ⟨S1x8x16, .f32⟩) (fun x i => Host.dynamicSlice S1x8x16 x (fun k => (i k (Shape.Idx.first h_S_)).toInt) sliceFits_S4096x8x16_S1x8x16),
    TRef.reshape (r l 115 ⟨S1x8x16, .f32⟩) (r l 116 ⟨S8x16, .f32⟩) (rfl : (.f32 : EltTy) = .f32) shapeCasts_S1x8x16_S8x16,
    TRef.nullary (r l 117 ⟨S_, .i32⟩) (constantI S_ 32 0#32),
    TRef.nullary (r l 118 ⟨S_, .i32⟩) (constantI S_ 32 0#32),
    TRef.unaryIndexed (r l 101 ⟨S4096x8x16, .f32⟩) ![(r l 104 ⟨S_, .i32⟩), (r l 117 ⟨S_, .i32⟩), (r l 118 ⟨S_, .i32⟩)] (r l 119 ⟨S1x8x16, .f32⟩) (fun x i => Host.dynamicSlice S1x8x16 x (fun k => (i k (Shape.Idx.first h_S_)).toInt) sliceFits_S4096x8x16_S1x8x16),
    TRef.reshape (r l 119 ⟨S1x8x16, .f32⟩) (r l 120 ⟨S8x16, .f32⟩) (rfl : (.f32 : EltTy) = .f32) shapeCasts_S1x8x16_S8x16,
    TRef.nullary (r l 121 ⟨S_, .i32⟩) (constantI S_ 32 0#32),
    TRef.nullary (r l 122 ⟨S_, .i32⟩) (constantI S_ 32 0#32),
    TRef.unaryIndexed (r l 102 ⟨S4096x8x256, .f32⟩) ![(r l 104 ⟨S_, .i32⟩), (r l 121 ⟨S_, .i32⟩), (r l 122 ⟨S_, .i32⟩)] (r l 123 ⟨S1x8x256, .f32⟩) (fun x i => Host.dynamicSlice S1x8x256 x (fun k => (i k (Shape.Idx.first h_S_)).toInt) sliceFits_S4096x8x256_S1x8x256),
    TRef.reshape (r l 123 ⟨S1x8x256, .f32⟩) (r l 124 ⟨S8x256, .f32⟩) (rfl : (.f32 : EltTy) = .f32) shapeCasts_S1x8x256_S8x256,
    TRef.unary (r l 112 ⟨S8x256, .f32⟩) (r l 125 ⟨S8x256x1, .f32⟩) (broadcastInDim S8x256x1 ![0, 1] bcast_S8x256_S8x256x1_0_1),
    TRef.unary (r l 103 ⟨S256x16, .f32⟩) (r l 126 ⟨S1x256x16, .f32⟩) (broadcastInDim S1x256x16 ![1, 2] bcast_S256x16_S1x256x16_1_2),
    TRef.unary (r l 125 ⟨S8x256x1, .f32⟩) (r l 127 ⟨S8x256x16, .f32⟩) (broadcastInDim S8x256x16 ![0, 1, 2] bcast_S8x256x1_S8x256x16_0_1_2),
    TRef.unary (r l 126 ⟨S1x256x16, .f32⟩) (r l 128 ⟨S8x256x16, .f32⟩) (broadcastInDim S8x256x16 ![0, 1, 2] bcast_S1x256x16_S8x256x16_0_1_2),
    TRef.binary (r l 127 ⟨S8x256x16, .f32⟩) (r l 128 ⟨S8x256x16, .f32⟩) (r l 129 ⟨S8x256x16, .f32⟩) (mulf),
    TRef.unary (r l 129 ⟨S8x256x16, .f32⟩) (r l 130 ⟨S8x256x16, .f32⟩) (Host.exp),
    TRef.binary (r l 130 ⟨S8x256x16, .f32⟩) (r l 105 ⟨S8x256x16, .f32⟩) (r l 131 ⟨S8x256x16, .f32⟩) (mulf),
    TRef.binary (r l 112 ⟨S8x256, .f32⟩) (r l 124 ⟨S8x256, .f32⟩) (r l 132 ⟨S8x256, .f32⟩) (mulf),
    TRef.unary (r l 132 ⟨S8x256, .f32⟩) (r l 133 ⟨S8x256x1, .f32⟩) (broadcastInDim S8x256x1 ![0, 1] bcast_S8x256_S8x256x1_0_1),
    TRef.unary (r l 116 ⟨S8x16, .f32⟩) (r l 134 ⟨S8x1x16, .f32⟩) (broadcastInDim S8x1x16 ![0, 2] bcast_S8x16_S8x1x16_0_2),
    TRef.unary (r l 133 ⟨S8x256x1, .f32⟩) (r l 135 ⟨S8x256x16, .f32⟩) (broadcastInDim S8x256x16 ![0, 1, 2] bcast_S8x256x1_S8x256x16_0_1_2),
    TRef.unary (r l 134 ⟨S8x1x16, .f32⟩) (r l 136 ⟨S8x256x16, .f32⟩) (broadcastInDim S8x256x16 ![0, 1, 2] bcast_S8x1x16_S8x256x16_0_1_2),
    TRef.binary (r l 135 ⟨S8x256x16, .f32⟩) (r l 136 ⟨S8x256x16, .f32⟩) (r l 137 ⟨S8x256x16, .f32⟩) (mulf),
    TRef.binary (r l 131 ⟨S8x256x16, .f32⟩) (r l 137 ⟨S8x256x16, .f32⟩) (r l 138 ⟨S8x256x16, .f32⟩) (addf),
    TRef.binary (r l 138 ⟨S8x256x16, .f32⟩) (r l 120 ⟨S8x16, .f32⟩) (r l 139 ⟨S8x256, .f32⟩) ((fun l r => Host.dotGeneral dot_S8x256x16_S8x16_S8x256_2_1_1_n_0_0 none l r)),
    TRef.unary (r l 139 ⟨S8x256, .f32⟩) (r l 140 ⟨S1x8x256, .f32⟩) (broadcastInDim S1x8x256 ![1, 2] bcast_S8x256_S1x8x256_1_2),
    TRef.nullary (r l 141 ⟨S_, .i32⟩) (constantI S_ 32 0#32),
    TRef.nullary (r l 142 ⟨S_, .i32⟩) (constantI S_ 32 0#32),
    TRef.binaryIndexed (r l 106 ⟨S4096x8x256, .f32⟩) (r l 140 ⟨S1x8x256, .f32⟩) ![(r l 104 ⟨S_, .i32⟩), (r l 141 ⟨S_, .i32⟩), (r l 142 ⟨S_, .i32⟩)] (r l 143 ⟨S4096x8x256, .f32⟩) (fun x u i => Host.dynamicUpdateSlice x u (fun k => (i k (Shape.Idx.first h_S_)).toInt) updateFits_S4096x8x256_S1x8x256),
    TRef.nullary (r l 144 ⟨S_, .i32⟩) (constantI S_ 32 1#32),
    TRef.binary (r l 104 ⟨S_, .i32⟩) (r l 144 ⟨S_, .i32⟩) (r l 145 ⟨S_, .i32⟩) (addi) ]

/-- The end of a trip: the new values become the carried ones. -/
def carry (l : Fin 4) : List (HloOp τ sig (Elt F)) :=
  [ TRef.unary (r l 145 ⟨S_, .i32⟩) (r l 104 ⟨S_, .i32⟩) id,
    TRef.unary (r l 138 ⟨S8x256x16, .f32⟩) (r l 105 ⟨S8x256x16, .f32⟩) id,
    TRef.unary (r l 143 ⟨S4096x8x256, .f32⟩) (r l 106 ⟨S4096x8x256, .f32⟩) id ]

/-- What a layer runs after its recurrence. -/
def post (l : Fin 4) : List (HloOp τ sig (Elt F)) :=
  [ TRef.unary (r l 106 ⟨S4096x8x256, .f32⟩) (r l 146 ⟨S8x4096x256, .f32⟩) ((transpose S8x4096x256 [1, 0, 2] · transposes_S4096x8x256_S8x4096x256_1_0_2)),
    TRef.unary (r l 15 ⟨S256, .f32⟩) (r l 147 ⟨S1x1x256, .f32⟩) (broadcastInDim S1x1x256 ![2] bcast_S256_S1x1x256_2),
    TRef.unary (r l 147 ⟨S1x1x256, .f32⟩) (r l 148 ⟨S8x4096x256, .f32⟩) (broadcastInDim S8x4096x256 ![0, 1, 2] bcast_S1x1x256_S8x4096x256_0_1_2),
    TRef.binary (r l 63 ⟨S8x4096x256, .f32⟩) (r l 148 ⟨S8x4096x256, .f32⟩) (r l 149 ⟨S8x4096x256, .f32⟩) (mulf),
    TRef.binary (r l 146 ⟨S8x4096x256, .f32⟩) (r l 149 ⟨S8x4096x256, .f32⟩) (r l 150 ⟨S8x4096x256, .f32⟩) (addf),
    TRef.unary (r l 21 ⟨S8x4096x256, .f32⟩) (r l 151 ⟨S8x4096x256, .f32⟩) Host.negf,
    TRef.unary (r l 151 ⟨S8x4096x256, .f32⟩) (r l 152 ⟨S8x4096x256, .f32⟩) Host.exp,
    TRef.nullary (r l 153 ⟨S_, .f32⟩) (constant S_ .f32 0x3F800000#32),
    TRef.unary (r l 153 ⟨S_, .f32⟩) (r l 154 ⟨S8x4096x256, .f32⟩) (broadcastInDim S8x4096x256 ![] bcast_S_S8x4096x256),
    TRef.binary (r l 154 ⟨S8x4096x256, .f32⟩) (r l 152 ⟨S8x4096x256, .f32⟩) (r l 155 ⟨S8x4096x256, .f32⟩) addf,
    TRef.nullary (r l 156 ⟨S_, .f32⟩) (constant S_ .f32 0x3F800000#32),
    TRef.unary (r l 156 ⟨S_, .f32⟩) (r l 157 ⟨S8x4096x256, .f32⟩) (broadcastInDim S8x4096x256 ![] bcast_S_S8x4096x256),
    TRef.binary (r l 157 ⟨S8x4096x256, .f32⟩) (r l 155 ⟨S8x4096x256, .f32⟩) (r l 158 ⟨S8x4096x256, .f32⟩) Host.divf,
    TRef.binary (r l 21 ⟨S8x4096x256, .f32⟩) (r l 158 ⟨S8x4096x256, .f32⟩) (r l 159 ⟨S8x4096x256, .f32⟩) mulf,
    TRef.binary (r l 150 ⟨S8x4096x256, .f32⟩) (r l 159 ⟨S8x4096x256, .f32⟩) (r l 160 ⟨S8x4096x256, .f32⟩) (mulf),
    TRef.unary (r l 17 ⟨S128x256, .f32⟩) (r l 161 ⟨S256x128, .f32⟩) ((transpose S256x128 [1, 0] · transposes_S128x256_S256x128_1_0)),
    TRef.binary (r l 160 ⟨S8x4096x256, .f32⟩) (r l 161 ⟨S256x128, .f32⟩) (r l 162 ⟨S8x4096x128, .f32⟩) ((fun l r => Host.dotGeneral dot_S8x4096x256_S256x128_S8x4096x128_2_0_01_1_n_n none l r)) ]

end Cert.ReferenceIdeal.Layer
-- ==== Proof.RefChain.lean ====
/-
  @main is the chain of its four layers' operations, with a host loop inside each: the seven pieces the program is printed
  in, each as the pieces of the layers' lists it holds, and then all of them in order.
-/
module

public import proofs.«01_k».proof.Proof.RefOps

@[expose] public section

set_option maxRecDepth 100000

noncomputable section

namespace Cert.ReferenceIdeal.Layer

open Cert.ReferenceIdeal Cert.ReferenceIdeal.Gen Cert.Ssa
open Idealize.SL.Sem
open Idealize.ShloMosaic Idealize.ShloMosaic.TcCoe Idealize.ShloMosaic.StableHlo

variable {F : FTy → Type} [FloatOps F]

/-- Operations `a` to `b` of a list. -/
abbrev piece (ops : List (HloOp τ sig (Elt F))) (a b : ℕ) : List (HloOp τ sig (Elt F)) := (ops.take b).drop a

/-- A program of this kind. -/
abbrev Pr (F : FTy → Type) [FloatOps F] : Type 1 := Prog (TpuEff nD τ sig (Elt F) (HostLoop.Sig (Pipeline.Sig Λ₀ (Fin 0) fun p => (pcfgs (F := F) p).Adm) 4) .tc) PUnit

theorem part0 (c : Dev nD) : main_part0 (F := F) c = (Pipeline.chainK
  [ seq (piece (pre 0) 0 23),
    seq (piece (pre 0) 23 25),
    seq (piece (pre 0) 25 55),
    seq (piece (pre 0) 55 64) ]
  (seq (piece (pre 0) 64 69)) : Pr F) := by
  rewrite [chainK_seq_cons, Pipeline.chainK_cons, chainK_seq_cons, Pipeline.chainK_cons]
  chain_rfl

theorem part1 (c : Dev nD) : main_part1 (F := F) c = (Pipeline.chainK
  [ seq (piece (pre 0) 69 74),
    seq (piece (pre 0) 74 88),
    seq (piece (pre 0) 88 107),
    HostLoop.enter 0,
    seq (piece (post 0) 0 5),
    seq (piece (post 0) 5 14),
    seq (piece (post 0) 14 17),
    seq (piece (pre 1) 0 23),
    seq (piece (pre 1) 23 25) ]
  (seq (piece (pre 1) 25 26)) : Pr F) := by
  rewrite [chainK_seq_cons, Pipeline.chainK_cons, chainK_seq_cons, Pipeline.chainK_cons, chainK_seq_cons, Pipeline.chainK_cons, chainK_seq_cons, chainK_seq_cons, Pipeline.chainK_cons]
  chain_rfl

theorem part2 (c : Dev nD) : main_part2 (F := F) c = (Pipeline.chainK
  [ seq (piece (pre 1) 26 55),
    seq (piece (pre 1) 55 64),
    seq (piece (pre 1) 64 74),
    seq (piece (pre 1) 74 88) ]
  (seq (piece (pre 1) 88 107)) : Pr F) := by
  rewrite [chainK_seq_cons, Pipeline.chainK_cons, chainK_seq_cons, Pipeline.chainK_cons]
  chain_rfl

theorem part3 (c : Dev nD) : main_part3 (F := F) c = (Pipeline.chainK
  [ HostLoop.enter 1,
    seq (piece (post 1) 0 5),
    seq (piece (post 1) 5 14),
    seq (piece (post 1) 14 17),
    seq (piece (pre 2) 0 23),
    seq (piece (pre 2) 23 25) ]
  (seq (piece (pre 2) 25 51)) : Pr F) := by
  rewrite [Pipeline.chainK_cons, chainK_seq_cons, Pipeline.chainK_cons, chainK_seq_cons, chainK_seq_cons, Pipeline.chainK_cons]
  chain_rfl

theorem part4 (c : Dev nD) : main_part4 (F := F) c = (Pipeline.chainK
  [ seq (piece (pre 2) 51 55),
    seq (piece (pre 2) 55 64),
    seq (piece (pre 2) 64 74),
    seq (piece (pre 2) 74 88),
    seq (piece (pre 2) 88 107),
    HostLoop.enter 2,
    seq (piece (post 2) 0 5),
    seq (piece (post 2) 5 14),
    seq (piece (post 2) 14 17) ]
  (seq (piece (pre 3) 0 15)) : Pr F) := by
  rewrite [chainK_seq_cons, Pipeline.chainK_cons, chainK_seq_cons, Pipeline.chainK_cons, chainK_seq_cons, Pipeline.chainK_cons, chainK_seq_cons, Pipeline.chainK_cons, chainK_seq_cons]
  chain_rfl

theorem part5 (c : Dev nD) : main_part5 (F := F) c = (Pipeline.chainK
  [ seq (piece (pre 3) 15 23),
    seq (piece (pre 3) 23 25),
    seq (piece (pre 3) 25 55),
    seq (piece (pre 3) 55 64),
    seq (piece (pre 3) 64 74),
    seq (piece (pre 3) 74 88) ]
  (seq (piece (pre 3) 88 97)) : Pr F) := by
  rewrite [chainK_seq_cons, Pipeline.chainK_cons, chainK_seq_cons, Pipeline.chainK_cons, chainK_seq_cons, Pipeline.chainK_cons]
  chain_rfl

theorem part6 (c : Dev nD) : main_part6 (F := F) c = (Pipeline.chain
  [ seq (piece (pre 3) 97 107),
    HostLoop.enter 3,
    seq (piece (post 3) 0 5),
    seq (piece (post 3) 5 14),
    seq (piece (post 3) 14 17) ] : Pr F) := by
  rewrite [chain_seq_cons, Pipeline.chain_cons, chain_seq_cons, Pipeline.chain_cons, chain_seq_cons]
  chain_rfl

/-- Everything @main runs, in order. -/
abbrev items (F : FTy → Type) [FloatOps F] : List (Pr F) :=
  [ seq (piece (pre 0) 0 23),
    seq (piece (pre 0) 23 25),
    seq (piece (pre 0) 25 55),
    seq (piece (pre 0) 55 64),
    seq (piece (pre 0) 64 69),
    seq (piece (pre 0) 69 74),
    seq (piece (pre 0) 74 88),
    seq (piece (pre 0) 88 107),
    HostLoop.enter 0,
    seq (piece (post 0) 0 5),
    seq (piece (post 0) 5 14),
    seq (piece (post 0) 14 17),
    seq (piece (pre 1) 0 23),
    seq (piece (pre 1) 23 25),
    seq (piece (pre 1) 25 26),
    seq (piece (pre 1) 26 55),
    seq (piece (pre 1) 55 64),
    seq (piece (pre 1) 64 74),
    seq (piece (pre 1) 74 88),
    seq (piece (pre 1) 88 107),
    HostLoop.enter 1,
    seq (piece (post 1) 0 5),
    seq (piece (post 1) 5 14),
    seq (piece (post 1) 14 17),
    seq (piece (pre 2) 0 23),
    seq (piece (pre 2) 23 25),
    seq (piece (pre 2) 25 51),
    seq (piece (pre 2) 51 55),
    seq (piece (pre 2) 55 64),
    seq (piece (pre 2) 64 74),
    seq (piece (pre 2) 74 88),
    seq (piece (pre 2) 88 107),
    HostLoop.enter 2,
    seq (piece (post 2) 0 5),
    seq (piece (post 2) 5 14),
    seq (piece (post 2) 14 17),
    seq (piece (pre 3) 0 15),
    seq (piece (pre 3) 15 23),
    seq (piece (pre 3) 23 25),
    seq (piece (pre 3) 25 55),
    seq (piece (pre 3) 55 64),
    seq (piece (pre 3) 64 74),
    seq (piece (pre 3) 74 88),
    seq (piece (pre 3) 88 97),
    seq (piece (pre 3) 97 107),
    HostLoop.enter 3,
    seq (piece (post 3) 0 5),
    seq (piece (post 3) 5 14),
    seq (piece (post 3) 14 17) ]

theorem main_chain (c : Dev nD) : main (F := F) c = Pipeline.chain (items F) := by
  show (main_part0 (F := F) c >>= fun _ => main_part1 (F := F) c >>= fun _ => main_part2 (F := F) c >>= fun _ => main_part3 (F := F) c >>= fun _ =>
    main_part4 (F := F) c >>= fun _ => main_part5 (F := F) c >>= fun _ => main_part6 (F := F) c) = _
  rewrite [part6, part5, Pipeline.chainK_bind_chain, part4, Pipeline.chainK_bind_chain, part3, Pipeline.chainK_bind_chain,
    part2, Pipeline.chainK_bind_chain, part1, Pipeline.chainK_bind_chain, part0, Pipeline.chainK_bind_chain]
  chain_rfl

end Cert.ReferenceIdeal.Layer
-- ==== Proof.RefLine.lean ====
/-
  Each list of operations of a layer of the reference writes consecutive buffers (`Line`), and a trip of each of the four
  host loops is the chain of the pieces of `body l` followed by `carry l`.
-/
module

public import proofs.«01_k».proof.Proof.RefChain

@[expose] public section

set_option maxRecDepth 100000

noncomputable section

namespace Cert.ReferenceIdeal.Layer

open Cert.ReferenceIdeal Cert.ReferenceIdeal.Gen Cert.Ssa
open Idealize.ShloMosaic Idealize.ShloMosaic.TcCoe Idealize.ShloMosaic.StableHlo
open Idealize.SL.Sem

variable {F : FTy → Type} [FloatOps F]

/-- Operation `j` before the loop writes buffer `j` of its layer. -/
theorem pre_line (l : Fin 4) : Line (10 + 163 * l) (pre (F := F) l) := by
  unfold pre
  repeat
    first
      | with_reducible refine Line.consN ?_ ?_
      | with_reducible refine Line.consU ?_ ?_
      | with_reducible refine Line.consB ?_ ?_
      | with_reducible refine Line.consT ?_ ?_
      | with_reducible refine Line.consR ?_ ?_
    · rfl
  exact trivial

/-- The two operations of the loop's condition. -/
theorem cond_line (l : Fin 4) : Line (10 + 163 * l + 107) (cond (F := F) l) := by
  unfold cond
  repeat
    first
      | with_reducible refine Line.consN ?_ ?_
      | with_reducible refine Line.consB ?_ ?_
    · rfl
  exact trivial

/-- The operations of a trip. -/
theorem body_line (l : Fin 4) : Line (10 + 163 * l + 109) (body (F := F) l) := by
  unfold body
  repeat
    first
      | with_reducible refine Line.consN ?_ ?_
      | with_reducible refine Line.consU ?_ ?_
      | with_reducible refine Line.consB ?_ ?_
      | with_reducible refine Line.consR ?_ ?_
      | with_reducible refine Line.consUI ?_ ?_
      | with_reducible refine Line.consBI ?_ ?_
    · rfl
  exact trivial

/-- The operations after the loop. -/
theorem post_line (l : Fin 4) : Line (10 + 163 * l + 146) (post (F := F) l) := by
  unfold post
  repeat
    first
      | with_reducible refine Line.consN ?_ ?_
      | with_reducible refine Line.consU ?_ ?_
      | with_reducible refine Line.consB ?_ ?_
      | with_reducible refine Line.consT ?_ ?_
      | with_reducible refine Line.consR ?_ ?_
    · rfl
  exact trivial

/-- The three copies at the end of a trip, each onto a carried buffer. -/
theorem carry_plain (l : Fin 4) : ∀ op ∈ carry (F := F) l, op.bufs ⊆ tcRefs τ sig ∧ op.fresh = ∅ := by
  intro op h
  simp only [carry, List.mem_cons, List.not_mem_nil, or_false] at h
  rcases h with rfl | rfl | rfl <;> exact ⟨unary_bufs_sub .., rfl⟩

/-- The pieces a trip runs in order. -/
abbrev bodyP (l : Fin 4) : List (List (HloOp τ sig (Elt F))) :=
  [ piece (body l) 0 4, piece (body l) 4 8, piece (body l) 8 12, piece (body l) 12 16, piece (body l) 16 31, piece (body l) 31 35,
    piece (body l) 35 37, carry l ]

/-- The loop of a layer: its condition region. -/
def condR : Fin 4 → Prog (TpuEff nD τ sig (Elt F) (HostLoop.Sig (Pipeline.Sig Λ₀ (Fin 0) fun p => (pcfgs (F := F) p).Adm) 4) .tc) (Elt F .i1)
  | 0 => main_while0_cond | 1 => main_while1_cond | 2 => main_while2_cond | 3 => main_while3_cond

/-- The loop of a layer: its body region. -/
def bodyR : Fin 4 → Pr F
  | 0 => main_while0_body | 1 => main_while1_body | 2 => main_while2_body | 3 => main_while3_body

theorem loops_eq : ∀ l : Fin 4, loops (F := F) l = HostLoop.step l (condR l) (bodyR l)
  | 0 => rfl | 1 => rfl | 2 => rfl | 3 => rfl

theorem body0 : main_while0_body (F := F) = Pipeline.chain ((bodyP 0).map fun ops => (seq ops : Pr F)) := by
  rewrite [List.map_cons, Pipeline.chain_cons, List.map_cons, Pipeline.chain_cons, List.map_cons, Pipeline.chain_cons, List.map_cons, Pipeline.chain_cons,
    List.map_cons, StableHlo.chain_seq_cons, List.map_cons, Pipeline.chain_cons, List.map_cons, StableHlo.chain_seq_cons, List.map_cons, StableHlo.chain_seq_cons]
  chain_rfl

theorem body1 : main_while1_body (F := F) = Pipeline.chain ((bodyP 1).map fun ops => (seq ops : Pr F)) := by
  rewrite [List.map_cons, Pipeline.chain_cons, List.map_cons, Pipeline.chain_cons, List.map_cons, Pipeline.chain_cons, List.map_cons, Pipeline.chain_cons,
    List.map_cons, StableHlo.chain_seq_cons, List.map_cons, Pipeline.chain_cons, List.map_cons, StableHlo.chain_seq_cons, List.map_cons, StableHlo.chain_seq_cons]
  chain_rfl

theorem body2 : main_while2_body (F := F) = Pipeline.chain ((bodyP 2).map fun ops => (seq ops : Pr F)) := by
  rewrite [List.map_cons, Pipeline.chain_cons, List.map_cons, Pipeline.chain_cons, List.map_cons, Pipeline.chain_cons, List.map_cons, Pipeline.chain_cons,
    List.map_cons, StableHlo.chain_seq_cons, List.map_cons, Pipeline.chain_cons, List.map_cons, StableHlo.chain_seq_cons, List.map_cons, StableHlo.chain_seq_cons]
  chain_rfl

theorem body3 : main_while3_body (F := F) = Pipeline.chain ((bodyP 3).map fun ops => (seq ops : Pr F)) := by
  rewrite [List.map_cons, Pipeline.chain_cons, List.map_cons, Pipeline.chain_cons, List.map_cons, Pipeline.chain_cons, List.map_cons, Pipeline.chain_cons,
    List.map_cons, StableHlo.chain_seq_cons, List.map_cons, Pipeline.chain_cons, List.map_cons, StableHlo.chain_seq_cons, List.map_cons, StableHlo.chain_seq_cons]
  chain_rfl

/-- A trip of each loop is the chain of its pieces. -/
theorem body_chain : ∀ l : Fin 4, bodyR (F := F) l = Pipeline.chain ((bodyP l).map fun ops => (seq ops : Pr F))
  | 0 => body0 | 1 => body1 | 2 => body2 | 3 => body3

end Cert.ReferenceIdeal.Layer
-- ==== Proof.RefRun.lean ====
/-
  The run of the reference: four layers, each the operations before its host loop, 4096 trips of the loop, and the
  operations after it. Every execution terminates with every counter at zero and the buffers at `layers m c 4`.
-/
module

public import proofs.«01_k».proof.Proof.RefLine
public import Idealize.ShloMosaic.Lib.Pipeline.RegionsLoop
public import Idealize.ShloMosaic.Lib.StableHlo.RunRead
public import Idealize.ShloMosaic.Lib.Scf.ExitTest
public import Idealize.ShloMosaic.Lib.Scf.Counter

@[expose] public section

set_option maxRecDepth 100000

noncomputable section

namespace Cert.Ssa

open Idealize.ShloMosaic Idealize.ShloMosaic.TcCoe Idealize.ShloMosaic.StableHlo

variable {τ : Topo} {sig : RefSig} {F : FTy → Type} [FloatOps F]

/-- A one-operand operation's equation when the operand is none of the buffers the line writes. -/
theorem Line.unaryOut {Tx Ty : BufTy} {n : ℕ} {ops : List (HloOp τ sig (Elt F))} (h : Line n ops) (i : ℕ) {x : TRef sig Tx} {y : TRef sig Ty}
    {f : Tx.Contents (Elt F) → Ty.Contents (Elt F)} (hi : ops[i]? = some (TRef.unary x y f)) (V : Valuation τ sig (Elt F)) (hy : num τ y = n + i)
    (hx : n + ops.length ≤ num τ x) : rd (after ops V) y = f (rd V x) := by
  induction ops generalizing n i V with
  | nil => simp at hi
  | cons o ops ih =>
    have hl : (o :: ops).length = ops.length + 1 := rfl
    cases i with
    | zero =>
      obtain rfl : o = TRef.unary x y f := by simpa using hi
      rw [after_cons, h.2.keep _ y (Or.inl (by unfold num at hy; omega))]
      unfold rd
      rw [unary_result']
      exact TRef.ofBuf_toBuf y _
    | succ i =>
      rw [after_cons, ih h.2 i (by simpa using hi) (o.result V) (by omega) (by omega)]
      exact congrArg f (Line.keep (n := n) (ops := [o]) ⟨h.1, trivial⟩ V x (Or.inr (by unfold num at hx; simp; omega)))

end Cert.Ssa

namespace Cert.ReferenceIdeal.Layer

open Cert.ReferenceIdeal Cert.ReferenceIdeal.Gen Cert.Ssa
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (ucRefs sub_ucRefs CSeg)

section Generic

variable {F : FTy → Type} [FloatOps F]

theorem carry_line (l : Fin 4) : Line (10 + 163 * l + 104) (carry (F := F) l) := by
  unfold carry
  repeat
    first
      | with_reducible refine Line.consU ?_ ?_
    · rfl
  exact trivial

/-- The buffers after one trip of a layer's loop, the condition included. -/
def trip (l : Fin 4) (V : Valuation τ sig (Elt F)) : Valuation τ sig (Elt F) := after (carry l) (after (body l) (after (cond l) V))

/-- The buffers after `k` trips. -/
def trips (l : Fin 4) (V : Valuation τ sig (Elt F)) : ℕ → Valuation τ sig (Elt F)
  | 0 => V
  | k + 1 => trip l (trips l V k)

theorem bodyP_after (l : Fin 4) (V : Valuation τ sig (Elt F)) : afterL (bodyP l) V = after (carry l) (after (body l) V) := by
  rw [afterL_eq_after_flatten, ← after_append]
  rfl

theorem atTrip_eq (l : Fin 4) (W : Dev nD → Valuation τ sig (Elt F)) (k : ℕ) (c : Dev nD) :
    atTrip (cond l) (bodyP l) W k c = trips l (W c) k := by
  induction k with
  | zero => rfl
  | succ k ih => rw [atTrip_succ, ih, bodyP_after]; rfl

/-- The counter after `k` trips. -/
theorem trips_counter (l : Fin 4) (V : Valuation τ sig (Elt F)) (h : rd V (r l 104 ⟨S_, .i32⟩) = constantI S_ 32 0#32) (k : ℕ) :
    rd (trips l V k) (r l 104 ⟨S_, .i32⟩) = fun _ => Scf.iv 0#32 1#32 k := by
  induction k with
  | zero => rw [Scf.iv_zero]; exact h
  | succ k ih =>
    show rd (after (carry l) (after (body l) (after (cond l) (trips l V k)))) _ = _
    have e0 : num τ (r l 104 ⟨S_, .i32⟩) = 10 + 163 * (l : ℕ) + 104 := rfl
    have e1 : num τ (r l 144 ⟨S_, .i32⟩) = 10 + 163 * (l : ℕ) + 144 := rfl
    have e2 : num τ (r l 145 ⟨S_, .i32⟩) = 10 + 163 * (l : ℕ) + 145 := rfl
    rw [(carry_line l).unaryOut (x := r l 145 ⟨S_, .i32⟩) 0 rfl _ rfl (by show _ + 3 ≤ _; omega)]
    rw [(body_line l).binary (a := r l 104 ⟨S_, .i32⟩) (b := r l 144 ⟨S_, .i32⟩) (y := r l 145 ⟨S_, .i32⟩) 36 rfl _ rfl (by omega) (by omega)]
    rw [(body_line l).nullary (y := r l 144 ⟨S_, .i32⟩) 35 rfl _ rfl, (body_line l).keep _ (r l 104 ⟨S_, .i32⟩) (Or.inl (by unfold num at e0; omega)),
      (cond_line l).keep _ (r l 104 ⟨S_, .i32⟩) (Or.inl (by unfold num at e0; omega)), ih, Scf.iv_succ]
    rfl

/-- A layer's condition region over its own buffers. -/
def condP (l : Fin 4) : Prog (TpuEff nD τ sig (Elt F) (HostLoop.Sig (Pipeline.Sig Λ₀ (Fin 0) fun p => (pcfgs (F := F) p).Adm) 4) .tc) (Elt F .i1) := do
  hlo rfl (TRef.nullary (r l 107 ⟨S_, .i32⟩) (constantI S_ 32 4096#32)) (fun _ => .ret ⟨⟩)
  let x ← hlo rfl (TRef.binary (r l 104 ⟨S_, .i32⟩) (r l 107 ⟨S_, .i32⟩) (r l 108 ⟨S_, .i1⟩) (cmpi .slt)) (HostLoop.elt (r l 108 ⟨S_, .i1⟩).ref (r l 108 ⟨S_, .i1⟩).ty_eq)
  pure x

theorem condR_eq : ∀ l : Fin 4, condR (F := F) l = condP l
  | 0 => rfl | 1 => rfl | 2 => rfl | 3 => rfl

set_option backward.isDefEq.respectTransparency.types false in
/-- The condition, run for the `k`-th time with the counter at zero before the first trip: it holds exactly while `k < 4096`. -/
theorem cond_spec (l : Fin 4) (W : Dev nD → Valuation τ sig (Elt F)) (hW : ∀ c, rd (W c) (r l 104 ⟨S_, .i32⟩) = constantI S_ 32 0#32)
    (Rc : Dev nD → sProp (MT nD τ sig Unit (Elt F) ℕ (Option PUnit) ℕ)) :
    LoopCond pcfgs defs₀ Variants.none (loops (F := F)) Rc (condR l) (cond l) (bodyP l) W 4096 := by
  intro k hk c bd
  rw [condR_eq, atTrip_eq]
  have hctr := trips_counter l (W c) (hW c) k
  generalize trips l (W c) k = V at hctr ⊢
  unfold condP
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [wp_ret]; imodintro
  isplitr
  · ipureintro
    have e : rd (after (cond l) V) (r l 108 ⟨S_, .i1⟩) HostLoop.idx0 = IntOp.cmpi .slt (Scf.iv 0#32 1#32 k) 4096#32 := by
      have e0 : num τ (r l 104 ⟨S_, .i32⟩) = 10 + 163 * (l : ℕ) + 104 := rfl
      have e1 : num τ (r l 107 ⟨S_, .i32⟩) = 10 + 163 * (l : ℕ) + 107 := rfl
      rw [(cond_line l).binary (a := r l 104 ⟨S_, .i32⟩) (b := r l 107 ⟨S_, .i32⟩) (y := r l 108 ⟨S_, .i1⟩) 1 rfl _ rfl (by omega) (by omega),
        (cond_line l).nullary (y := r l 107 ⟨S_, .i32⟩) 0 rfl _ rfl, (cond_line l).keep _ (r l 104 ⟨S_, .i32⟩) (Or.inl (by unfold num at e0; omega)), hctr]
      rfl
    refine Iff.trans ?_ (Scf.cmpi_slt_iv_ub_iff (lb := 0#32) (ub := 4096#32) (st := 1#32) (by decide) (show k ≤ Scf.trips 0#32 4096#32 1#32 from hk))
    rw [← e]
    refine Eq.to_iff (congrArg (· = 1#1) ?_)
    rw [cond, after_cons, after_cons, after_nil]
    unfold rd
    rw [binary_result']
    rfl
  isplitl [Hb]; · iexact Hb
  isplitl [Hh]
  · rw [cond, after_cons, after_cons, after_nil]; iexact Hh
  iexact HR

/-- The stretches @main runs a layer's operations before its loop in. -/
def preP : Fin 4 → List (List (HloOp τ sig (Elt F)))
  | 0 => [piece (pre 0) 0 23, piece (pre 0) 23 25, piece (pre 0) 25 55, piece (pre 0) 55 64, piece (pre 0) 64 69, piece (pre 0) 69 74, piece (pre 0) 74 88, piece (pre 0) 88 107]
  | 1 => [piece (pre 1) 0 23, piece (pre 1) 23 25, piece (pre 1) 25 26, piece (pre 1) 26 55, piece (pre 1) 55 64, piece (pre 1) 64 74, piece (pre 1) 74 88, piece (pre 1) 88 107]
  | 2 => [piece (pre 2) 0 23, piece (pre 2) 23 25, piece (pre 2) 25 51, piece (pre 2) 51 55, piece (pre 2) 55 64, piece (pre 2) 64 74, piece (pre 2) 74 88, piece (pre 2) 88 107]
  | 3 => [piece (pre 3) 0 15, piece (pre 3) 15 23, piece (pre 3) 23 25, piece (pre 3) 25 55, piece (pre 3) 55 64, piece (pre 3) 64 74, piece (pre 3) 74 88, piece (pre 3) 88 97, piece (pre 3) 97 107]

/-- The stretches of a layer's operations after its loop. -/
abbrev postP (l : Fin 4) : List (List (HloOp τ sig (Elt F))) := [piece (post l) 0 5, piece (post l) 5 14, piece (post l) 14 17]

theorem preP_flatten : ∀ l : Fin 4, (preP (F := F) l).flatten = pre l
  | 0 => rfl | 1 => rfl | 2 => rfl | 3 => rfl

theorem postP_flatten (l : Fin 4) : (postP (F := F) l).flatten = post l := rfl

theorem preP_plain (l : Fin 4) : Plain (preP (F := F) l) :=
  (pre_line l).plain fun o ho op hop => by rw [← preP_flatten]; exact List.mem_flatten.mpr ⟨o, ho, hop⟩

theorem postP_plain (l : Fin 4) : Plain (postP (F := F) l) :=
  (post_line l).plain fun o ho op hop => by rw [← postP_flatten]; exact List.mem_flatten.mpr ⟨o, ho, hop⟩

theorem bodyP_plain (l : Fin 4) : Plain (bodyP (F := F) l) := fun o ho => by
  have h : ∀ op ∈ o, op ∈ (bodyP (F := F) l).flatten := fun op hop => List.mem_flatten.mpr ⟨o, ho, hop⟩
  have e : (bodyP (F := F) l).flatten = body l ++ carry l := rfl
  have key : ∀ op ∈ o, op.bufs ⊆ tcRefs τ sig ∧ op.fresh = ∅ := fun op hop => by
    have := h op hop
    rw [e, List.mem_append] at this
    rcases this with h | h
    · exact ((body_line l).mem op h).1
    · exact carry_plain l op h
  exact ⟨fun op hop => (key op hop).1, fun op hop => (key op hop).2⟩

/-- The buffers when a layer's loop is left: the operations before it, its 4096 trips, the condition once more. -/
def exit (l : Fin 4) (V : Valuation τ sig (Elt F)) : Valuation τ sig (Elt F) := after (cond l) (trips l (after (pre l) V) 4096)

/-- The buffers after a whole layer. -/
def layer (l : Fin 4) (V : Valuation τ sig (Elt F)) : Valuation τ sig (Elt F) := after (post l) (exit l V)

theorem entry_counter (l : Fin 4) (V : Valuation τ sig (Elt F)) : rd (after (pre l) V) (r l 104 ⟨S_, .i32⟩) = constantI S_ 32 0#32 := by
  have e1 : num τ (r l 98 ⟨S_, .i32⟩) = 10 + 163 * (l : ℕ) + 98 := rfl
  rw [(pre_line l).unary (x := r l 98 ⟨S_, .i32⟩) (y := r l 104 ⟨S_, .i32⟩) 104 rfl _ rfl (by omega),
    (pre_line l).nullary (y := r l 98 ⟨S_, .i32⟩) 98 rfl _ rfl]
  rfl

local notation "𝕄" => MT nD τ sig Unit (Elt F) ℕ (Option PUnit) ℕ

abbrev noAdm : (p : Fin 0) → (pcfgs (F := F) p).Adm := fun p => p.elim0
abbrev noTk : Fin 0 → Pipeline.Ticket (Ix := Unit) (Name := ℕ) (U := Option PUnit) (Lvl := ℕ) (nD := nD) (τ := τ) (pcfgs (F := F)) noAdm := fun j => j.elim0
abbrev noL : GSem nD τ sig → Finset Unit := fun _ => ∅
abbrev noLv : GSem nD τ sig → Unit → ℕ := fun _ _ => 0

theorem cells_inj : Function.Injective (Pipeline.cellOf (nD := nD) (τ := τ) (Pipeline.pin (pcfgs (F := F)) noAdm)) := fun k => k.1.elim0

/-- What rides along unchanged: the core owes nothing. -/
abbrev Rw (c : Dev nD) : sProp 𝕄 := iprop(∃ W, owes (c : Thread nD τ) (0 : CellTallies nD τ sig Unit) W)

/-- A layer's segments, from the buffers at `W`. -/
def layerSegs (l : Fin 4) (W : Dev nD → Valuation τ sig (Elt F)) :
    List (CSeg (pcfgs (F := F)) noAdm defs₀ Variants.none noL noLv loops noTk) :=
  segsOf _ _ _ _ _ _ _ _ Rw (preP l) (preP_plain l) W
    ++ loopSeg _ _ _ _ _ _ _ _ l (condR l) (bodyR l) (loops_eq l) (cond l) (bodyP l) (bodyP_plain l) (body_chain l) 4096 (fun c => after (pre l) (W c)) Rw
        (cond_spec l _ (fun c => entry_counter l (W c)) Rw)
      :: segsOf _ _ _ _ _ _ _ _ Rw (postP l) (postP_plain l) (fun c => exit l (W c))

theorem layerSegs_prog (l : Fin 4) (W : Dev nD → Valuation τ sig (Elt F)) :
    (layerSegs l W).map CSeg.prog = ((preP l).map fun ops => (seq ops : Pr F)) ++ HostLoop.enter l :: (postP l).map fun ops => (seq ops : Pr F) := by
  unfold layerSegs
  rw [List.map_append, List.map_cons, segsOf_prog, segsOf_prog]
  rfl

theorem layerSegs_chains (l : Fin 4) (W : Dev nD → Valuation τ sig (Elt F)) :
    CSeg.Chains (fun c => iprop(held (c : Thread nD τ) (ucRefs τ sig) (W c) ∗ Rw c)) (layerSegs l W)
      (fun c => iprop(held (c : Thread nD τ) (ucRefs τ sig) (layer l (W c)) ∗ Rw c)) := by
  unfold layerSegs
  refine CSeg.Chains.append (segsOf_chains _ _ _ _ _ _ _ _ Rw (preP l) (preP_plain l) _) ⟨fun c => ?_, ?_⟩
  · rw [loopSeg_pre]
    show iprop(held (c : Thread nD τ) (ucRefs τ sig) (afterL (preP l) (W c)) ∗ Rw c) ⊢ _
    rw [afterL_eq_after_flatten, preP_flatten]
  · refine CSeg.Chains.mono_left (fun c => ?_) _ (CSeg.Chains.mono_right (fun c => ?_) _ _ (segsOf_chains _ _ _ _ _ _ _ _ Rw (postP l) (postP_plain l) (fun c => exit l (W c))))
    · rw [loopSeg_post, atTrip_eq]
      exact .rfl
    · show iprop(held (c : Thread nD τ) (ucRefs τ sig) (afterL (postP l) (exit l (W c))) ∗ Rw c) ⊢ _
      rw [afterL_eq_after_flatten, postP_flatten]
      exact .rfl

/-- The buffers before layer `n`. -/
def layers (m : (ℓ : Loc nD τ sig) → Buf (Elt F) ℓ) (c : Dev nD) : ℕ → Valuation τ sig (Elt F)
  | 0 => launchContents m c
  | 1 => layer 0 (launchContents m c)
  | 2 => layer 1 (layer 0 (launchContents m c))
  | 3 => layer 2 (layer 1 (layer 0 (launchContents m c)))
  | _ => layer 3 (layer 2 (layer 1 (layer 0 (launchContents m c))))

/-- @main's segments. -/
def segs (m : (ℓ : Loc nD τ sig) → Buf (Elt F) ℓ) : List (CSeg (pcfgs (F := F)) noAdm defs₀ Variants.none noL noLv loops noTk) :=
  layerSegs 0 (fun c => layers m c 0) ++ (layerSegs 1 (fun c => layers m c 1) ++ (layerSegs 2 (fun c => layers m c 2) ++ layerSegs 3 (fun c => layers m c 3)))

theorem segs_prog (m : (ℓ : Loc nD τ sig) → Buf (Elt F) ℓ) : (segs m).map CSeg.prog = items F := by
  unfold segs
  rw [List.map_append, List.map_append, List.map_append, layerSegs_prog, layerSegs_prog, layerSegs_prog, layerSegs_prog]
  rfl

theorem segs_chains (m : (ℓ : Loc nD τ sig) → Buf (Elt F) ℓ) :
    CSeg.Chains (fun c => iprop(held (c : Thread nD τ) (ucRefs τ sig) (launchContents m c) ∗ Rw c)) (segs m)
      (fun c => iprop(held (c : Thread nD τ) (ucRefs τ sig) (layers m c 4) ∗ Rw c)) :=
  CSeg.Chains.append (layerSegs_chains 0 _) (CSeg.Chains.append (layerSegs_chains 1 _) (CSeg.Chains.append (layerSegs_chains 2 _) (layerSegs_chains 3 _)))

/-- THE RUN of the reference: every execution terminates with every TensorCore buffer at `layers m c 4` and every counter at zero. -/
theorem run [∀ e, Nonempty (Elt F e)] (m : (ℓ : Loc nD τ sig) → Buf (Elt F) ℓ) (ρ : Dev nD → PrngReg) :
    θ_run (defs (F := F)) (onTc (τ := τ) main) ⟨m, fun _ => 0, ρ⟩
      (fun r => (∀ (c : Dev nD), ∀ b ∈ ucRefs τ sig, r.2.mem ((c : Dev nD), b) = layers m c 4 b) ∧ r.2.sem = fun _ => 0) :=
  Pipeline.θ_run_regions_loop_kit_sems (Ix := Unit) (Name := ℕ) (U := Option PUnit) (Lvl := ℕ) (J := Fin 0) (P := Fin 0) (Val := Elt F)
    pcfgs noAdm cells_inj defs₀ Variants.none noL noLv loops noTk m ρ main (segs m)
    (fun c Q => by
      rw [main_chain c]
      show wp _ _ _ (Pipeline.chain ((segs m).map CSeg.prog)) Q ⊢ _
      rw [segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (layers m c 4)))
    (hch := segs_chains m)
    (hinit := by
      refine Pipeline.initEach noL noLv fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = layers m c 4 b)
    (hfin := fun c s' => by
      unfold held
      iintro ⟨Hh, HSI⟩
      ihave Hr := (pointsTo_read_all (ucRefs τ sig) (fun b => ((c : Dev nD), b)) (fun b => layers m c 4 b) s') $$ [Hh HSI]
      · isplitl [Hh] <;> iassumption
      icases Hr with ⟨%h, HSI⟩
      imodintro
      isplitr; · ipureintro; exact h
      iexact HSI)
    (hQ := fun s h hs => ⟨h, funext fun g => hs g (by rcases g with ⟨t, s | s⟩ <;> exact absurd s.2 (Nat.not_lt_zero _))⟩)

/-- Buffers the condition, the body and the copies do not write keep their contents through the trips. -/
theorem trips_keep (l : Fin 4) (V : Valuation τ sig (Elt F)) {T : BufTy} (t : TRef sig T) (ht : num τ t < 10 + 163 * l + 104) (k : ℕ) :
    rd (trips l V k) t = rd V t := by
  induction k with
  | zero => rfl
  | succ k ih =>
    unfold num at ht
    show rd (after (carry l) (after (body l) (after (cond l) (trips l V k)))) _ = _
    rw [(carry_line l).keep _ t (Or.inl (by omega)), (body_line l).keep _ t (Or.inl (by omega)), (cond_line l).keep _ t (Or.inl (by omega)), ih]

/-- A layer writes only its own buffers. -/
theorem layer_keep (l : Fin 4) (V : Valuation τ sig (Elt F)) {T : BufTy} (t : TRef sig T) (ht : num τ t < 10 + 163 * l) : rd (layer l V) t = rd V t := by
  have ht' := ht
  unfold num at ht
  unfold layer exit
  rw [(post_line l).keep _ t (Or.inl (by omega)), (cond_line l).keep _ t (Or.inl (by omega)), trips_keep l _ t (by omega), (pre_line l).keep _ t (Or.inl (by omega))]

/-- The arguments' contents never change. -/
theorem layers_arg (m : (ℓ : Loc nD τ sig) → Buf (Elt F) ℓ) (c : Dev nD) {T : BufTy} (t : TRef sig T) (ht : num τ t < 10) :
    rd (layers m c 4) t = rd (launchContents m c) t := by
  show rd (layer 3 (layer 2 (layer 1 (layer 0 (launchContents m c))))) t = _
  rw [layer_keep 3 _ t (by omega), layer_keep 2 _ t (by omega), layer_keep 1 _ t (by omega), layer_keep 0 _ t (by omega)]

end Generic

end Cert.ReferenceIdeal.Layer
-- ==== Proof.RefFrame.lean ====
/-
  What the reference's run says of its arguments and its result: the arguments end as they were, the result is the last
  layer's output buffer, every counter reads zero.
-/
module

public import proofs.«01_k».proof.Proof.RefRun
public import Idealize.ShloMosaic.Lib.StableHlo.RunHlo
public import Idealize.ShloMosaic.PureOps.Ideal

@[expose] public section

set_option maxRecDepth 1000000

noncomputable section

namespace Cert.ReferenceIdeal.Layer

open Cert.ReferenceIdeal Cert.ReferenceIdeal.Gen Cert.Ssa
open Idealize.ShloMosaic Idealize.ShloMosaic.TcCoe Idealize.ShloMosaic.StableHlo
open Idealize.SL.Sem

/-- The arguments' contents never change, as contents of the machine's buffers. -/
theorem layers_ref (m : (ℓ : Loc nD τ sig) → Buf (Elt Ideal) ℓ) (c : Dev nD) (b : Ref sig .tc) (hd : b.space ≠ .host) (hu : b.isScoped = false)
    (hb : key (Proc.devRef (τ := τ) .tc b) < 10) : layers m c 4 (Proc.devRef .tc b) = m ((c.tc : Thread nD τ).loc b) :=
  layers_arg m c (T := b.ty) ⟨b, rfl, hd, hu⟩ hb

/-- What the run says of a final memory: the arguments unchanged, the result at the fourth layer's output. -/
structure Ends (m : (ℓ : Loc nD τ sig) → Buf (Elt Ideal) ℓ) (s : MemSt nD τ sig (Elt Ideal)) : Prop where
  arg : ∀ (c : Dev nD) (b : Ref sig .tc), b.space ≠ .host → b.isScoped = false → key (Proc.devRef (τ := τ) .tc b) < 10 →
    s.mem ((c.tc : Thread nD τ).loc b) = m ((c.tc : Thread nD τ).loc b)
  res : ∀ c : Dev nD, s.mem ((c.tc : Thread nD τ).loc main_v331) = layers m c 4 (Proc.devRef .tc main_v331)
  sem : s.sem = fun _ => 0

/-- Every execution of the reference ends so. -/
theorem run_ends (m : (ℓ : Loc nD τ sig) → Buf (Elt Ideal) ℓ) (ρ : Dev nD → PrngReg) :
    θ_run (defs (F := Ideal)) (onTc (τ := τ) (main (F := Ideal))) ⟨m, fun _ => 0, ρ⟩ (fun fin => Ends m fin.2) :=
  θ_run_mono (run m ρ) fun _ ⟨h, hs⟩ =>
    ⟨fun c b hd hu hk => (h c _ (devRef_mem_ucRefs b hu)).trans (layers_ref m c b hd hu hk), fun c => h c _ (devRef_mem_ucRefs main_v331 rfl), hs⟩

/-- The result's buffer is the fourth layer's last. -/
theorem result_ref (V : Valuation τ sig (Elt Ideal)) : V (Proc.devRef .tc main_v331) = rd V (r 3 162 ⟨S8x4096x128, .f32⟩) := rfl

/-- The ten arguments of a final memory. -/
theorem Ends.args {m : (ℓ : Loc nD τ sig) → Buf (Elt Ideal) ℓ} {s : MemSt nD τ sig (Elt Ideal)} (h : Ends m s) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9) :=
  ⟨h.arg c main_arg0 (by decide) rfl (by decide), h.arg c main_arg1 (by decide) rfl (by decide), h.arg c main_arg2 (by decide) rfl (by decide), h.arg c main_arg3 (by decide) rfl (by decide), h.arg c main_arg4 (by decide) rfl (by decide), h.arg c main_arg5 (by decide) rfl (by decide), h.arg c main_arg6 (by decide) rfl (by decide), h.arg c main_arg7 (by decide) rfl (by decide), h.arg c main_arg8 (by decide) rfl (by decide), h.arg c main_arg9 (by decide) rfl (by decide)⟩

end Cert.ReferenceIdeal.Layer
-- ==== Proof.Math.lean ====
/-
  The selective-state-space stack as mathematics: what each quantity of a layer is at a time step and a channel, over the extended reals.
-/
module

public import Idealize.ShloMosaic.PureOps.Ideal
public import Idealize.ShloMosaic.Lib.Pointwise

@[expose] public section

noncomputable section

namespace Cert.Math

open Idealize.ShloMosaic

/-- The weights of one layer. -/
structure Wts where
  inw : Fin 128 → Fin 512 → EReal
  cw : Fin 4 → Fin 256 → EReal
  cb : Fin 256 → EReal
  xpw : Fin 256 → Fin 40 → EReal
  dtw : Fin 8 → Fin 256 → EReal
  dtb : Fin 256 → EReal
  a : Fin 16 → Fin 256 → EReal
  d : Fin 256 → EReal
  ow : Fin 256 → Fin 128 → EReal

/-- `x / (1 + exp (-x))`. -/
def silu (v : EReal) : EReal := v * Ideal.logistic v

/-- `log (1 + exp x)`, in the form that doesn't overflow. -/
def softplus (v : EReal) : EReal := max v 0 + Ideal.log1p (Ideal.exp (-max v (-v)))

/-- Channel `c` of the convolution's half of the projection. -/
def lo (c : Fin 256) : Fin 512 := ⟨c, by omega⟩
/-- Channel `c` of the gate's half of the projection. -/
def hi (c : Fin 256) : Fin 512 := ⟨256 + c, by omega⟩
/-- The projection's entries: the step sizes' low-rank factor, -/
def pdt (r : Fin 8) : Fin 40 := ⟨r, by omega⟩
/-- the input's coefficients, -/
def pB (n : Fin 16) : Fin 40 := ⟨8 + n, by omega⟩
/-- and the output's. -/
def pC (n : Fin 16) : Fin 40 := ⟨24 + n, by omega⟩

namespace Wts

variable (W : Wts) (x : Fin 4096 → Fin 128 → EReal)

/-- The input projection. -/
def xz (t : Fin 4096) (j : Fin 512) : EReal := ∑ k, x t k * W.inw k j

/-- The convolution's input, three rows of zeros before it. -/
def pre (i : ℕ) (c : Fin 256) : EReal := if h : 3 ≤ i ∧ i - 3 < 4096 then W.xz x ⟨i - 3, h.2⟩ (lo c) else 0

/-- The causal convolution over four steps. -/
def conv (t : Fin 4096) (c : Fin 256) : EReal :=
  W.cb c + W.pre x t c * W.cw 0 c + W.pre x (t + 1) c * W.cw 1 c + W.pre x (t + 2) c * W.cw 2 c + W.pre x (t + 3) c * W.cw 3 c

/-- The recurrence's input. -/
def u (t : Fin 4096) (c : Fin 256) : EReal := silu (W.conv x t c)

/-- The projection of the step sizes and coefficients. -/
def proj (t : Fin 4096) (j : Fin 40) : EReal := ∑ c, W.u x t c * W.xpw c j

/-- The step size. -/
def dt (t : Fin 4096) (c : Fin 256) : EReal := softplus ((∑ r, W.proj x t (pdt r) * W.dtw r c) + W.dtb c)

/-- The state before step `t`. -/
def h : ℕ → Fin 16 → Fin 256 → EReal
  | 0 => fun _ _ => 0
  | t + 1 => fun n c => if ht : t < 4096 then
      Ideal.exp (W.dt x ⟨t, ht⟩ c * W.a n c) * h t n c + W.dt x ⟨t, ht⟩ c * W.u x ⟨t, ht⟩ c * W.proj x ⟨t, ht⟩ (pB n)
    else h t n c

/-- The recurrence's output. -/
def y (t : Fin 4096) (c : Fin 256) : EReal := ∑ n, W.h x (t + 1) n c * W.proj x t (pC n)

/-- The layer's output. -/
def out (t : Fin 4096) (m : Fin 128) : EReal :=
  ∑ c, (W.y x t c + W.u x t c * W.d c) * silu (W.xz x t (hi c)) * W.ow c m

theorem h_zero (n : Fin 16) (c : Fin 256) : W.h x 0 n c = 0 := rfl

theorem h_succ (t : Fin 4096) (n : Fin 16) (c : Fin 256) : W.h x (t + 1) n c =
    Ideal.exp (W.dt x t c * W.a n c) * W.h x t n c + W.dt x t c * W.u x t c * W.proj x t (pB n) := dif_pos t.2

theorem pre_pad {i : ℕ} (h : i < 3) (c : Fin 256) : W.pre x i c = 0 := dif_neg (by omega)

theorem pre_in (t : Fin 4096) (c : Fin 256) : W.pre x (t + 3) c = W.xz x t (lo c) := dif_pos ⟨by omega, by omega⟩

end Wts

/-- The layers one after another: what enters layer `l`. -/
def stack (W : Fin 4 → Wts) (x : Fin 4096 → Fin 128 → EReal) : ℕ → Fin 4096 → Fin 128 → EReal
  | 0 => x
  | l + 1 => (W (Fin.ofNat 4 l)).out (stack W x l)

/-- The weights of every layer, from the arguments. -/
def ofArgs (A1 : (⟨3, ![4, 512, 128]⟩ : Shape).Idx → EReal) (A2 : (⟨3, ![4, 256, 4]⟩ : Shape).Idx → EReal)
    (A3 : (⟨2, ![4, 256]⟩ : Shape).Idx → EReal) (A4 : (⟨3, ![4, 40, 256]⟩ : Shape).Idx → EReal) (A5 : (⟨3, ![4, 256, 8]⟩ : Shape).Idx → EReal)
    (A6 : (⟨2, ![4, 256]⟩ : Shape).Idx → EReal) (A7 : (⟨3, ![4, 256, 16]⟩ : Shape).Idx → EReal) (A8 : (⟨2, ![4, 256]⟩ : Shape).Idx → EReal)
    (A9 : (⟨3, ![4, 128, 256]⟩ : Shape).Idx → EReal) (l : Fin 4) : Wts where
  inw k j := A1 (ix3 l j k)
  cw i c := A2 (ix3 l c i)
  cb c := A3 (ix2 l c)
  xpw c j := A4 (ix3 l j c)
  dtw j c := A5 (ix3 l c j)
  dtb c := A6 (ix2 l c)
  a n c := -Ideal.exp (A7 (ix3 l c n))
  d c := A8 (ix2 l c)
  ow c m := A9 (ix3 l m c)

/-- The whole result: every batch through the four layers. -/
def result (A0 : (⟨3, ![8, 4096, 128]⟩ : Shape).Idx → EReal) (W : Fin 4 → Wts) : (⟨3, ![8, 4096, 128]⟩ : Shape).Idx → EReal :=
  fun i => stack W (fun t m => A0 (ix3 (i 0) t m)) 4 (i 1) (i 2)

end Cert.Math
end
-- ==== Proof.KerVal.lean ====
/-
  A tile of a layer, over the extended reals, read at a row and a channel: the quantities of the layer at that row's time step.
-/
module

public import proofs.«01_k».proof.Proof.Math
public import proofs.«01_k».proof.Proof.Spec
public import Idealize.ShloMosaic.Lib.Pointwise

@[expose] public section

noncomputable section

namespace Cert.Mamba

open Idealize.ShloMosaic
open Cert.KernelIdeal Cert.KernelIdeal.Gen
open Cert.Math

/-- The time step of row `r` of tile `k`. -/
def at' (k : Fin 32) (r : Fin 128) : Fin 4096 := ⟨128 * k + r, by omega⟩

theorem outTile_apply (d : FVec Ideal S1x256 .f32) (ow : FVec Ideal S256x128 .f32) (y z xa : FVec Ideal S128x256 .f32) (r : Fin 128) (m : Fin 128) :
    outTile d ow y z xa (ix2 r m) = ∑ c : Fin 256, (y (ix2 r c) + xa (ix2 r c) * d (ix2 0 c)) * silu (z (ix2 r c)) * ow (ix2 c m) := by
  pointwise [outTile]
  rfl

theorem k0_pay2_apply (w : FVec Ideal S128x512 .f32) (x : FVec Ideal S128x128 .f32) (r : Fin 128) (c : Fin 256) :
    k0_pay2 w x (ix2 r c) = ∑ k : Fin 128, x (ix2 r k) * w (ix2 k (lo c)) := by
  pointwise [k0_pay2, k0_pay1]
  rfl

theorem k0_pay3_apply (w : FVec Ideal S128x512 .f32) (x : FVec Ideal S128x128 .f32) (r : Fin 128) (c : Fin 256) :
    k0_pay3 w x (ix2 r c) = ∑ k : Fin 128, x (ix2 r k) * w (ix2 k (hi c)) := by
  pointwise [k0_pay3, k0_pay1]
  rfl

/-- Row `5 + j + r` of a window of 136 rows. -/
def wrow (r : Fin 128) (j : Fin 4) : Fin 136 := ⟨5 + j + r, by omega⟩

theorem k0_pay9_apply (cw : FVec Ideal S4x256 .f32) (cb : FVec Ideal S1x256 .f32) (p : FVec Ideal S136x256 .f32) (r : Fin 128) (c : Fin 256) :
    k0_pay9 cw cb p (ix2 r c) = silu (cb (ix2 0 c) + p (ix2 (wrow r 0) c) * cw (ix2 0 c) + p (ix2 (wrow r 1) c) * cw (ix2 1 c)
      + p (ix2 (wrow r 2) c) * cw (ix2 2 c) + p (ix2 (wrow r 3) c) * cw (ix2 3 c)) := by
  pointwise [k0_pay9]
  rfl

theorem k0_pay10_apply (cw : FVec Ideal S4x256 .f32) (cb : FVec Ideal S1x256 .f32) (p : FVec Ideal S136x256 .f32) (r : Fin 128) (c : Fin 256) :
    k0_pay10 cw cb p (ix2 r c) = k0_pay9 cw cb p (ix2 r c) := by
  unfold k0_pay10
  generalize k0_pay9 cw cb p = v
  pointwise

theorem k0_pay11_apply (cw : FVec Ideal S4x256 .f32) (cb : FVec Ideal S1x256 .f32) (xpw : FVec Ideal S256x40 .f32) (p : FVec Ideal S136x256 .f32)
    (r : Fin 128) (j : Fin 40) : k0_pay11 cw cb xpw p (ix2 r j) = ∑ c : Fin 256, k0_pay9 cw cb p (ix2 r c) * xpw (ix2 c j) := by
  unfold k0_pay11
  generalize k0_pay9 cw cb p = v
  pointwise

theorem k0_pay12_apply (cw : FVec Ideal S4x256 .f32) (cb : FVec Ideal S1x256 .f32) (xpw : FVec Ideal S256x40 .f32) (p : FVec Ideal S136x256 .f32)
    (r : Fin 128) (j : Fin 40) : k0_pay12 cw cb xpw p (ix2 r j) = k0_pay11 cw cb xpw p (ix2 r j) := by
  unfold k0_pay12
  generalize k0_pay11 cw cb xpw p = v
  pointwise

theorem k0_pay13_apply (cw : FVec Ideal S4x256 .f32) (cb : FVec Ideal S1x256 .f32) (xpw : FVec Ideal S256x40 .f32) (dtw : FVec Ideal S8x256 .f32)
    (dtb : FVec Ideal S1x256 .f32) (p : FVec Ideal S136x256 .f32) (r : Fin 128) (c : Fin 256) : k0_pay13 cw cb xpw dtw dtb p (ix2 r c)
      = (∑ j : Fin 8, k0_pay11 cw cb xpw p (ix2 r (pdt j)) * dtw (ix2 j c)) + dtb (ix2 0 c) := by
  unfold k0_pay13
  generalize k0_pay11 cw cb xpw p = v
  pointwise
  rfl

theorem k0_pay237_apply (cw : FVec Ideal S4x256 .f32) (cb : FVec Ideal S1x256 .f32) (xpw : FVec Ideal S256x40 .f32) (dtw : FVec Ideal S8x256 .f32)
    (dtb : FVec Ideal S1x256 .f32) (p : FVec Ideal S136x256 .f32) (r : Fin 128) (c : Fin 256) :
    k0_pay237 (k0_pay14 cw cb xpw dtw dtb p) (k0_pay16 cw cb xpw dtw dtb p) (k0_pay17 cw cb xpw dtw dtb p)
      (k0_pay18 cw cb xpw dtw dtb p) k0_pay19 (ix2 r c) = softplus (k0_pay13 cw cb xpw dtw dtb p (ix2 r c)) := by
  unfold k0_pay237 k0_pay14 k0_pay16 k0_pay17 k0_pay18 k0_pay19 k0_pay15
  generalize k0_pay13 cw cb xpw dtw dtb p = v
  pointwise
  rw [if_neg (not_not.mpr rfl), zero_sub]
  rfl

theorem dtTile_apply (cw : FVec Ideal S4x256 .f32) (cb : FVec Ideal S1x256 .f32) (xpw : FVec Ideal S256x40 .f32) (dtw : FVec Ideal S8x256 .f32)
    (dtb : FVec Ideal S1x256 .f32) (p : FVec Ideal S136x256 .f32) (r : Fin 128) (c : Fin 256) :
    dtTile cw cb xpw dtw dtb p (ix2 r c) = softplus (k0_pay13 cw cb xpw dtw dtb p (ix2 r c)) := by
  rw [← k0_pay237_apply]
  unfold dtTile k0_pay238
  generalize k0_pay237 (k0_pay14 cw cb xpw dtw dtb p) (k0_pay16 cw cb xpw dtw dtb p) (k0_pay17 cw cb xpw dtw dtb p)
    (k0_pay18 cw cb xpw dtw dtb p) k0_pay19 = v
  pointwise

theorem wTile_apply (cw : FVec Ideal S4x256 .f32) (cb : FVec Ideal S1x256 .f32) (xpw : FVec Ideal S256x40 .f32) (dtw : FVec Ideal S8x256 .f32)
    (dtb : FVec Ideal S1x256 .f32) (p : FVec Ideal S136x256 .f32) (r : Fin 128) (c : Fin 256) :
    wTile cw cb xpw dtw dtb p (ix2 r c) = softplus (k0_pay13 cw cb xpw dtw dtb p (ix2 r c)) * k0_pay9 cw cb p (ix2 r c) := by
  rw [← k0_pay237_apply]
  unfold wTile k0_pay239
  generalize k0_pay237 (k0_pay14 cw cb xpw dtw dtb p) (k0_pay16 cw cb xpw dtw dtb p) (k0_pay17 cw cb xpw dtw dtb p)
    (k0_pay18 cw cb xpw dtw dtb p) k0_pay19 = v
  generalize k0_pay9 cw cb p = u
  pointwise

theorem gTile_apply (n : Fin 16) (a : FVec Ideal S16x256 .f32) (dt : FVec Ideal S128x256 .f32) (r : Fin 128) (c : Fin 256) :
    gTile n a dt (ix3 r 0 c) = Ideal.exp (dt (ix2 r c) * a (ix2 n c)) := by
  pointwise [gTile]

theorem sTile_apply (n : Fin 16) (w : FVec Ideal S128x256 .f32) (b : FVec Ideal S128x16 .f32) (r : Fin 128) (c : Fin 256) :
    sTile n w b (ix3 r 0 c) = w (ix2 r c) * b (ix2 r n) := by
  pointwise [sTile]

theorem yTerm_apply (n : Fin 16) (cv : FVec Ideal S128x16 .f32) (h : FVec Ideal S128x1x256 .f32) (r : Fin 128) (c : Fin 256) :
    yTerm n cv h (ix2 r c) = h (ix3 r 0 c) * cv (ix2 r n) := by
  pointwise [yTerm]

theorem k0_pay39_apply (v : FVec Ideal S128x40 .f32) (r : Fin 128) (n : Fin 16) : k0_pay39 v (ix2 r n) = v (ix2 r (pB n)) := by
  pointwise [k0_pay39]
  rfl

theorem k0_pay40_apply (v : FVec Ideal S128x40 .f32) (r : Fin 128) (n : Fin 16) : k0_pay40 v (ix2 r n) = v (ix2 r (pC n)) := by
  pointwise [k0_pay40]
  rfl

theorem k0_pay57_apply (h : FVec Ideal S16x256 .f32) (g s : FVec Ideal S1x16x256 .f32) (n : Fin 16) (c : Fin 256) :
    k0_pay57 h g s (ix2 n c) = g (ix3 0 n c) * h (ix2 n c) + s (ix3 0 n c) := by
  pointwise [k0_pay57]

theorem k0_pay58_apply (h : FVec Ideal S16x256 .f32) (g s : FVec Ideal S1x16x256 .f32) (n : Fin 16) (c : Fin 256) :
    k0_pay58 h g s (ix3 0 n c) = k0_pay57 h g s (ix2 n c) := by
  unfold k0_pay58
  generalize k0_pay57 h g s = v
  pointwise

theorem k0_pay240_apply (n : Fin 16) (c : Fin 256) : k0_pay240 (F := Ideal) (ix2 n c) = 0 := by
  pointwise [k0_pay240]

/-! ## A layer's tiles -/

namespace LayerW

/-- The layer's weights, entry by entry. -/
def wts (W : LayerW Ideal) : Wts where
  inw k j := W.inw (ix2 k j)
  cw i c := W.cw (ix2 i c)
  cb c := W.cb (ix2 0 c)
  xpw c j := W.xpw (ix2 c j)
  dtw j c := W.dtw (ix2 j c)
  dtb c := W.dtb (ix2 0 c)
  a n c := W.a (ix2 n c)
  d c := W.d (ix2 0 c)
  ow c m := W.ow (ix2 c m)

variable (W : LayerW Ideal) (X : Fin 32 → FVec Ideal S128x128 .f32) (x : Fin 4096 → Fin 128 → EReal)
  (hX : ∀ k r m, X k (ix2 r m) = x (at' k r) m)

include hX

theorem tile_pre (k : Fin 32) (r : Fin 128) (c : Fin 256) : k0_pay2 W.inw (X k) (ix2 r c) = W.wts.xz x (at' k r) (lo c) := by
  rw [k0_pay2_apply]
  unfold Wts.xz
  exact Finset.sum_congr rfl fun m _ => by rw [hX]; rfl

theorem z_apply (k : Fin 32) (r : Fin 128) (c : Fin 256) : W.z X k (ix2 r c) = W.wts.xz x (at' k r) (hi c) := by
  unfold z
  rw [k0_pay3_apply]
  unfold Wts.xz
  exact Finset.sum_congr rfl fun m _ => by rw [hX]; rfl

theorem pre_apply (i : Fin 4104) (hi : 5 ≤ i.val) (c : Fin 256) : W.pre X (ix2 i c) = W.wts.pre x (i - 5) c := by
  unfold pre
  by_cases h : 8 ≤ i.val
  · have hk : (i.val - 8) / 128 < 32 := by omega
    have hr : (i.val - 8) % 128 < 128 := by omega
    rw [tPre.upto_apply _ _ (ix2 i c) ⟨_, hk⟩ (ix2 (n0 := 128) (n1 := 256) ⟨_, hr⟩ c) fun a => ?_, tile_pre W X x hX]
    · have e : i.val - 5 = (at' ⟨_, hk⟩ ⟨_, hr⟩).val + 3 := by show i.val - 5 = 128 * ((i.val - 8) / 128) + (i.val - 8) % 128 + 3; omega
      rw [e, Wts.pre_in]
    · match a with
      | 0 => show i.val = 128 * ((i.val - 8) / 128) + 8 + (i.val - 8) % 128; omega
      | 1 => show c.val = 0 + c.val; omega
  · rw [tPre.upto_of_not _ _ _ fun hh => ?_, Wts.pre_pad _ _ (by omega)]
    · exact Ideal.ofBits_zero_f32
    · have h0 := (hh 0).1
      change 128 * ((i.val - 8) / 128) + 8 ≤ i.val at h0
      omega

theorem win_apply (k : Fin 32) (r : Fin 128) (j : Fin 4) (c : Fin 256) :
    W.win X k (ix2 (wrow r j) c) = W.wts.pre x ((at' k r).val + j) c := by
  have e : W.win X k (ix2 (wrow r j) c) = W.pre X (ix2 ⟨128 * k + (5 + j + r), by omega⟩ c) := by
    unfold win
    refine congrArg (W.pre X) (funext fun a => Fin.ext ?_)
    have ho := congrFun (off4_eq (k.cast t2_trips.symm))
    match a with
    | 0 => show k0_off4 (k.cast t2_trips.symm) 0 + 1 * (5 + j.val + r.val) = 128 * k + (5 + j + r); rw [ho 0]; show 128 * k.val + _ = _; omega
    | 1 => show k0_off4 (k.cast t2_trips.symm) 1 + 1 * c.val = c; rw [ho 1]; show 0 + _ = _; omega
  rw [e, pre_apply W X x hX _ (by show 5 ≤ 128 * k.val + (5 + j + r); omega)]
  refine congrArg (W.wts.pre x · c) ?_
  show 128 * k.val + (5 + j + r) - 5 = 128 * k + r + j
  omega

theorem u_apply (k : Fin 32) (r : Fin 128) (c : Fin 256) : k0_pay9 W.cw W.cb (W.win X k) (ix2 r c) = W.wts.u x (at' k r) c := by
  rw [k0_pay9_apply, win_apply W X x hX, win_apply W X x hX, win_apply W X x hX, win_apply W X x hX]
  rfl

theorem xa_apply (k : Fin 32) (r : Fin 128) (c : Fin 256) : W.xa X k (ix2 r c) = W.wts.u x (at' k r) c := by
  unfold xa
  rw [k0_pay10_apply, u_apply W X x hX]

theorem proj_apply (k : Fin 32) (r : Fin 128) (j : Fin 40) : k0_pay11 W.cw W.cb W.xpw (W.win X k) (ix2 r j) = W.wts.proj x (at' k r) j := by
  rw [k0_pay11_apply]
  unfold Wts.proj
  exact Finset.sum_congr rfl fun c _ => by rw [u_apply W X x hX]; rfl

theorem pj_apply (k : Fin 32) (r : Fin 128) (j : Fin 40) : W.pj X k (ix2 r j) = W.wts.proj x (at' k r) j := by
  unfold pj
  rw [k0_pay12_apply, proj_apply W X x hX]

theorem delta_apply (k : Fin 32) (r : Fin 128) (c : Fin 256) :
    softplus (k0_pay13 W.cw W.cb W.xpw W.dtw W.dtb (W.win X k) (ix2 r c)) = W.wts.dt x (at' k r) c := by
  rw [k0_pay13_apply]
  unfold Wts.dt
  refine congrArg (fun v => softplus (v + W.dtb (ix2 0 c))) (Finset.sum_congr rfl fun j _ => ?_)
  rw [proj_apply W X x hX]
  rfl

theorem dt_apply (k : Fin 32) (r : Fin 128) (c : Fin 256) : W.dt X k (ix2 r c) = W.wts.dt x (at' k r) c := by
  unfold dt
  rw [dtTile_apply, delta_apply W X x hX]

theorem w_apply (k : Fin 32) (r : Fin 128) (c : Fin 256) : W.w X k (ix2 r c) = W.wts.dt x (at' k r) c * W.wts.u x (at' k r) c := by
  unfold w
  rw [wTile_apply, delta_apply W X x hX, u_apply W X x hX]

theorem g_apply (k : Fin 32) (n : Fin 16) (r : Fin 128) (c : Fin 256) :
    W.g X k n (ix3 r 0 c) = Ideal.exp (W.wts.dt x (at' k r) c * W.wts.a n c) := by
  unfold g
  rw [gTile_apply, dt_apply W X x hX]
  rfl

theorem s_apply (k : Fin 32) (n : Fin 16) (r : Fin 128) (c : Fin 256) :
    W.s X k n (ix3 r 0 c) = W.wts.dt x (at' k r) c * W.wts.u x (at' k r) c * W.wts.proj x (at' k r) (pB n) := by
  unfold s
  rw [sTile_apply, w_apply W X x hX, k0_pay39_apply, pj_apply W X x hX]

/-- One step of a tile is one step of the recurrence. -/
theorem step_apply (k : Fin 32) (h : FVec Ideal S16x256 .f32) (t : Fin 128) (hh : ∀ n c, h (ix2 n c) = W.wts.h x (128 * k + t) n c)
    (n : Fin 16) (c : Fin 256) :
    k0_pay57 h (atStep (W.g X k) t) (atStep (W.s X k) t) (ix2 n c) = W.wts.h x (128 * k + t + 1) n c := by
  rw [k0_pay57_apply, hh]
  show W.g X k n (ix3 t 0 c) * _ + W.s X k n (ix3 t 0 c) = _
  rw [g_apply W X x hX, s_apply W X x hX]
  exact (Wts.h_succ W.wts x (at' k t) n c).symm

theorem hStep_apply (k : Fin 32) (h : FVec Ideal S16x256 .f32) (hh : ∀ n c, h (ix2 n c) = W.wts.h x (128 * k) n c) (t : ℕ) (ht : t ≤ 128)
    (n : Fin 16) (c : Fin 256) : W.hStep X k h t (ix2 n c) = W.wts.h x (128 * k + t) n c := by
  induction t generalizing n c with
  | zero => exact hh n c
  | succ t ih =>
    rw [hStep_succ W X k h ht]
    exact step_apply W X x hX k _ ⟨t, ht⟩ (fun n c => ih (by omega) n c) n c

theorem hIn_apply (k : ℕ) (hk : k ≤ 32) (n : Fin 16) (c : Fin 256) : W.hIn X k (ix2 n c) = W.wts.h x (128 * k) n c := by
  induction k generalizing n c with
  | zero => exact k0_pay240_apply n c
  | succ k ih =>
    rw [hIn_succ W X hk]
    exact hStep_apply W X x hX ⟨k, hk⟩ _ (fun n c => ih (by omega) n c) 128 le_rfl n c

theorem hs_apply (k : Fin 32) (t : Fin 128) (n : Fin 16) (c : Fin 256) : W.hs X k t (ix3 0 n c) = W.wts.h x ((at' k t).val + 1) n c := by
  unfold hs
  rw [k0_pay58_apply]
  exact step_apply W X x hX k _ t (fun n c => hStep_apply W X x hX k _ (hIn_apply W X x hX k (by omega)) t (by omega) n c) n c

/-- The first states read out add up. -/
theorem yAcc_apply (k : Fin 32) (r : Fin 128) (c : Fin 256) (n : ℕ) (hn : n < 16) : W.yAcc X k n (ix2 r c)
    = ∑ i ∈ Finset.range (n + 1), if h : i < 16 then W.wts.h x ((at' k r).val + 1) ⟨i, h⟩ c * W.wts.proj x (at' k r) (pC ⟨i, h⟩) else 0 := by
  have term : ∀ i : Fin 16, yTerm i (k0_pay40 (W.pj X k)) (atState (W.hs X k) i) (ix2 r c)
      = W.wts.h x ((at' k r).val + 1) i c * W.wts.proj x (at' k r) (pC i) := fun i => by
    rw [yTerm_apply, k0_pay40_apply, pj_apply W X x hX]
    show W.hs X k r (ix3 0 i c) * _ = _
    rw [hs_apply W X x hX]
  induction n with
  | zero =>
    rw [Finset.sum_range_one, dif_pos (by decide)]
    exact term 0
  | succ n ih =>
    rw [Finset.sum_range_succ, ← ih (by omega), yAcc_succ W X k hn, dif_pos hn, ← term]
    rfl

theorem y_apply (k : Fin 32) (r : Fin 128) (c : Fin 256) : W.yAcc X k 15 (ix2 r c) = W.wts.y x (at' k r) c := by
  rw [yAcc_apply W X x hX k r c 15 (by decide), Finset.sum_range]
  unfold Wts.y
  exact Finset.sum_congr rfl fun i _ => dif_pos i.isLt

/-- A tile of a layer's output. -/
theorem out_apply (k : Fin 32) (r : Fin 128) (m : Fin 128) : W.out X k (ix2 r m) = W.wts.out x (at' k r) m := by
  unfold out
  rw [outTile_apply]
  unfold Wts.out
  refine Finset.sum_congr rfl fun c _ => ?_
  rw [y_apply W X x hX, xa_apply W X x hX, z_apply W X x hX]
  rfl

end LayerW

end Cert.Mamba
end
-- ==== Proof.KerStack.lean ====
/-
  The output block of a grid point, over the extended reals: the four layers applied to the input block.
-/
module

public import proofs.«01_k».proof.Proof.KerVal
public import proofs.«01_k».proof.Proof.Layers
public import Idealize.ShloMosaic.Lib.ValueLayout

@[expose] public section

noncomputable section

namespace Cert.Mamba

open Idealize.ShloMosaic
open Cert.KernelIdeal Cert.KernelIdeal.Gen
open Cert.Math

namespace Ins

variable (I : Ins Ideal)

/-- The weights of layer `l`, entry by entry, from the arrays read. -/
def wts (l : Fin 4) : Wts where
  inw k j := I.inw (ix3 l k j)
  cw i c := I.cw (ix3 l i c)
  cb c := I.cb (ix3 l 0 c)
  xpw c j := I.xpw (ix3 l c j)
  dtw j c := I.dtw (ix3 l j c)
  dtb c := I.dtb (ix3 l 0 c)
  a n c := I.a (ix3 l n c)
  d c := I.d (ix3 l 0 c)
  ow c m := I.ow (ix3 l c m)

/-- One layer's matrix, cut out of a stack of matrices. -/
theorem cut_apply {A B : ℕ} (v : (⟨3, ![4, A, B]⟩ : Shape).Idx → EReal) (l : Fin 4)
    (inb : ∀ a, (![l.val, 0, 0] : Fin 3 → ℕ) a + (![1, A, B] : Fin 3 → ℕ) a ≤ (⟨3, ![4, A, B]⟩ : Shape).size a)
    (h : (⟨3, ![1, A, B]⟩ : Shape).ShapeCasts ⟨2, ![A, B]⟩) (i : Fin A) (j : Fin B) :
    shapeCast ⟨2, ![A, B]⟩ (VecWindow.window (s := ⟨3, ![4, A, B]⟩) v ![l.val, 0, 0] ![1, A, B] inb) h (ix2 i j) = v (ix3 l i j) := by
  refine (ValueIdx.shapeCast_1ab_ab_apply _ h i j).trans (congrArg v (funext fun a => Fin.ext ?_))
  match a with
  | 0 => show l.val + 1 * 0 = l.val; omega
  | 1 => show 0 + 1 * i.val = i.val; omega
  | 2 => show 0 + 1 * j.val = j.val; omega

/-- A layer's weights, as its matrices hold them. -/
theorem layer_wts (l : Fin 4) : (I.layer l).wts = I.wts l := by
  unfold LayerW.wts wts layer
  dsimp only
  congr 1 <;> funext <;> exact cut_apply ..

/-- A tile of the input block, entry by entry. -/
theorem tile_apply (k : Fin 32) (r : Fin 128) (m : Fin 128) : I.tile k (ix2 r m) = I.x (ix3 0 (at' k r) m) := by
  have e : ∀ (w : S1x128x128.Idx → EReal), shapeCast S128x128 w shapeCasts_S1x128x128_S128x128 (ix2 r m) = w (ix3 0 r m) := fun w => by pointwise
  unfold tile
  rw [e]
  refine congrArg I.x (funext fun a => Fin.ext ?_)
  have ho := congrFun (off1_eq (k.cast t1_trips.symm))
  match a with
  | 0 => show k0_off1 (k.cast t1_trips.symm) 0 + 1 * 0 = 0; rw [ho 0]; rfl
  | 1 => show k0_off1 (k.cast t1_trips.symm) 1 + 1 * r.val = 128 * k.val + r; rw [ho 1]; show 128 * k.val + 1 * r.val = _; omega
  | 2 => show k0_off1 (k.cast t1_trips.symm) 2 + 1 * m.val = m; rw [ho 2]; show 0 + 1 * m.val = _; omega

/-- What a layer writes is what the next one reads. -/
theorem next_apply (X : Fin 32 → FVec Ideal S128x128 .f32) (k : Fin 32) (r : Fin 128) (m : Fin 128) : next X k (ix2 r m) = X k (ix2 r m) := by
  unfold next
  generalize X k = v
  pointwise

/-- What enters layer `l`, tile by tile. -/
theorem feed_apply (l : ℕ) (k : Fin 32) (r : Fin 128) (m : Fin 128) :
    I.feed l k (ix2 r m) = stack I.wts (fun t m => I.x (ix3 0 t m)) l (at' k r) m := by
  induction l generalizing k r m with
  | zero => exact I.tile_apply k r m
  | succ l ih =>
    show next ((I.layer (Fin.ofNat 4 l)).out (I.feed l)) k (ix2 r m) = _
    rw [next_apply, LayerW.out_apply (I.layer (Fin.ofNat 4 l)) (I.feed l) _ ih, layer_wts]
    rfl

/-- What the last layer writes, tile by tile. -/
theorem result_apply (k : Fin 32) (r : Fin 128) (m : Fin 128) :
    I.result k (ix3 0 r m) = stack I.wts (fun t m => I.x (ix3 0 t m)) 4 (at' k r) m := by
  have e : ∀ (w : S128x128.Idx → EReal), shapeCast S1x128x128 w shapeCasts_S128x128_S1x128x128 (ix3 0 r m) = w (ix2 r m) := fun w => by pointwise
  unfold result
  rw [e, LayerW.out_apply (I.layer 3) (I.feed 3) _ (I.feed_apply 3), layer_wts]
  rfl

/-- The output block, entry by entry. -/
theorem outBlk_apply (t : Fin 4096) (m : Fin 128) : I.outBlk (ix3 0 t m) = stack I.wts (fun t m => I.x (ix3 0 t m)) 4 t m := by
  have hk : t.val / 128 < 32 := by omega
  have hr : t.val % 128 < 128 := by omega
  unfold outBlk
  rw [tO.upto_apply _ _ (ix3 0 t m) ⟨_, hk⟩ (ix3 (n0 := 1) (n1 := 128) (n2 := 128) 0 ⟨_, hr⟩ m) fun a => ?_]
  · refine (I.result_apply _ _ m).trans (congrArg (stack I.wts (fun t m => I.x (ix3 0 t m)) 4 · m) (Fin.ext ?_))
    show 128 * (t.val / 128) + t.val % 128 = t
    omega
  · match a with
    | 0 => rfl
    | 1 => show t.val = 128 * (t.val / 128) + t.val % 128; omega
    | 2 => show m.val = 0 + m.val; omega

end Ins

end Cert.Mamba
end
-- ==== Proof.KerArray.lean ====
/-
  The output array of the idealised kernel, entry by entry: every batch of the input through the four layers.
-/
module

public import proofs.«01_k».proof.Proof.KerStack
public import proofs.«01_k».proof.Proof.FrameIdeal
public import Idealize.ShloMosaic.Lib.Pipeline.ValueKit

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Cert.Math

variable (m : (ℓ : Loc nD τ sig) → Buf (Elt Ideal) ℓ)

/-- Argument arrays as launched. -/
abbrev arg0 (c : Dev nD) : S8x4096x128.Idx → EReal := m ((c.tc : Thread nD τ).loc main_arg0)

/-- The weights of every layer, from the arguments as launched. -/
def weights (c : Dev nD) : Fin 4 → Wts :=
  ofArgs (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))

/-- Where each window's block stands. -/
theorem idx_x : ∀ t : Fin cfg0.N, win0_0.index t = ![t.val, 0, 0] ∧ win0_10.index t = ![t.val, 0, 0] :=
  (by decide +kernel : ∀ t : Fin grid0.N, _)
/-- The weights have one block each. -/
theorem idx_w : ∀ t : Fin cfg0.N, win0_1.index t = ![0, 0, 0] ∧ win0_2.index t = ![0, 0, 0] ∧ win0_3.index t = ![0, 0, 0]
    ∧ win0_4.index t = ![0, 0, 0] ∧ win0_5.index t = ![0, 0, 0] ∧ win0_6.index t = ![0, 0, 0] ∧ win0_7.index t = ![0, 0, 0]
    ∧ win0_8.index t = ![0, 0, 0] ∧ win0_9.index t = ![0, 0, 0] :=
  (by decide +kernel : ∀ t : Fin grid0.N, _)

/-- The input block of a grid point is that batch of the first argument. -/
theorem x_apply (c : Dev nD) (t : Fin cfg0.N) (s : Fin 4096) (k : Fin 128) :
    (ins m c t).x (ix3 0 s k) = arg0 m c (ix3 (t.cast N_0) s k) := by
  show iblk m c 0 t (ix3 0 s k) = _
  blk_ext [iblk, V, idx_x t]
  rfl

/-! Windows that are whole arrays read the arrays. -/

theorem whole1 (c : Dev nD) (t : Fin cfg0.N) (l : Fin 4) (k : Fin 128) (j : Fin 512) : iblk m c 1 t (ix3 l k j) = V m c main_call0_v0 (ix3 l k j) := by
  have h := (idx_w t).1
  blk_ext [iblk, h]
theorem whole2 (c : Dev nD) (t : Fin cfg0.N) (l : Fin 4) (k : Fin 4) (j : Fin 256) : iblk m c 2 t (ix3 l k j) = V m c main_call0_v1 (ix3 l k j) := by
  have h := (idx_w t).2.1
  blk_ext [iblk, h]
theorem whole3 (c : Dev nD) (t : Fin cfg0.N) (l : Fin 4) (k : Fin 1) (j : Fin 256) : iblk m c 3 t (ix3 l k j) = V m c main_call0_v2 (ix3 l k j) := by
  have h := (idx_w t).2.2.1
  blk_ext [iblk, h]
theorem whole4 (c : Dev nD) (t : Fin cfg0.N) (l : Fin 4) (k : Fin 256) (j : Fin 40) : iblk m c 4 t (ix3 l k j) = V m c main_call0_v3 (ix3 l k j) := by
  have h := (idx_w t).2.2.2.1
  blk_ext [iblk, h]
theorem whole5 (c : Dev nD) (t : Fin cfg0.N) (l : Fin 4) (k : Fin 8) (j : Fin 256) : iblk m c 5 t (ix3 l k j) = V m c main_call0_v4 (ix3 l k j) := by
  have h := (idx_w t).2.2.2.2.1
  blk_ext [iblk, h]
theorem whole6 (c : Dev nD) (t : Fin cfg0.N) (l : Fin 4) (k : Fin 1) (j : Fin 256) : iblk m c 6 t (ix3 l k j) = V m c main_call0_v5 (ix3 l k j) := by
  have h := (idx_w t).2.2.2.2.2.1
  blk_ext [iblk, h]
theorem whole7 (c : Dev nD) (t : Fin cfg0.N) (l : Fin 4) (k : Fin 16) (j : Fin 256) : iblk m c 7 t (ix3 l k j) = V m c main_call0_v8 (ix3 l k j) := by
  have h := (idx_w t).2.2.2.2.2.2.1
  blk_ext [iblk, h]
theorem whole8 (c : Dev nD) (t : Fin cfg0.N) (l : Fin 4) (k : Fin 1) (j : Fin 256) : iblk m c 8 t (ix3 l k j) = V m c main_call0_v9 (ix3 l k j) := by
  have h := (idx_w t).2.2.2.2.2.2.2.1
  blk_ext [iblk, h]
theorem whole9 (c : Dev nD) (t : Fin cfg0.N) (l : Fin 4) (k : Fin 256) (j : Fin 128) : iblk m c 9 t (ix3 l k j) = V m c main_call0_v10 (ix3 l k j) := by
  have h := (idx_w t).2.2.2.2.2.2.2.2
  blk_ext [iblk, h]

/-! What the host operations before the launch put into each weight array. -/

theorem V0 (c : Dev nD) : V m c main_call0_v0 = transpose S4x128x512 [0, 2, 1] (m ((c.tc : Thread nD τ).loc main_arg1) : S4x512x128.Idx → EReal) transposes_S4x512x128_S4x128x512_0_2_1 := by
  entry_read
  rfl
theorem V1 (c : Dev nD) : V m c main_call0_v1 = transpose S4x4x256 [0, 2, 1] (m ((c.tc : Thread nD τ).loc main_arg2) : S4x256x4.Idx → EReal) transposes_S4x256x4_S4x4x256_0_2_1 := by
  entry_read
  rfl
theorem V2 (c : Dev nD) : V m c main_call0_v2 = broadcastInDim S4x1x256 ![0, 2] bcast_S4x256_S4x1x256_0_2 (m ((c.tc : Thread nD τ).loc main_arg3) : S4x256.Idx → EReal) := by
  entry_read
  rfl
theorem V3 (c : Dev nD) : V m c main_call0_v3 = transpose S4x256x40 [0, 2, 1] (m ((c.tc : Thread nD τ).loc main_arg4) : S4x40x256.Idx → EReal) transposes_S4x40x256_S4x256x40_0_2_1 := by
  entry_read
  rfl
theorem V4 (c : Dev nD) : V m c main_call0_v4 = transpose S4x8x256 [0, 2, 1] (m ((c.tc : Thread nD τ).loc main_arg5) : S4x256x8.Idx → EReal) transposes_S4x256x8_S4x8x256_0_2_1 := by
  entry_read
  rfl
theorem V5 (c : Dev nD) : V m c main_call0_v5 = broadcastInDim S4x1x256 ![0, 2] bcast_S4x256_S4x1x256_0_2 (m ((c.tc : Thread nD τ).loc main_arg6) : S4x256.Idx → EReal) := by
  entry_read
  rfl
theorem V8 (c : Dev nD) : V m c main_call0_v8 = transpose S4x16x256 [0, 2, 1] (Host.negf (F := Ideal) (φ := .f32) (Host.exp (F := Ideal) (φ := .f32) (m ((c.tc : Thread nD τ).loc main_arg7) : S4x256x16.Idx → EReal))) transposes_S4x256x16_S4x16x256_0_2_1 := by
  entry_read
  rfl
theorem V9 (c : Dev nD) : V m c main_call0_v9 = broadcastInDim S4x1x256 ![0, 2] bcast_S4x256_S4x1x256_0_2 (m ((c.tc : Thread nD τ).loc main_arg8) : S4x256.Idx → EReal) := by
  entry_read
  rfl
theorem V10 (c : Dev nD) : V m c main_call0_v10 = transpose S4x256x128 [0, 2, 1] (m ((c.tc : Thread nD τ).loc main_arg9) : S4x128x256.Idx → EReal) transposes_S4x128x256_S4x256x128_0_2_1 := by
  entry_read
  rfl

/-- The weights the body finds at a grid point are the arguments'. -/
theorem wts_eq (c : Dev nD) (t : Fin cfg0.N) : (ins m c t).wts = weights m c := by
  funext l
  unfold Mamba.Ins.wts weights ofArgs
  simp only [Wts.mk.injEq]
  refine ⟨?_, ?_, ?_, ?_, ?_, ?_, ?_, ?_, ?_⟩ <;> funext
  · refine (whole1 m c t _ _ _).trans ?_; rw [V0]; generalize m ((c.tc : Thread nD τ).loc main_arg1) = v; pointwise
  · refine (whole2 m c t _ _ _).trans ?_; rw [V1]; generalize m ((c.tc : Thread nD τ).loc main_arg2) = v; pointwise
  · refine (whole3 m c t _ _ _).trans ?_; rw [V2]; generalize m ((c.tc : Thread nD τ).loc main_arg3) = v; pointwise
  · refine (whole4 m c t _ _ _).trans ?_; rw [V3]; generalize m ((c.tc : Thread nD τ).loc main_arg4) = v; pointwise
  · refine (whole5 m c t _ _ _).trans ?_; rw [V4]; generalize m ((c.tc : Thread nD τ).loc main_arg5) = v; pointwise
  · refine (whole6 m c t _ _ _).trans ?_; rw [V5]; generalize m ((c.tc : Thread nD τ).loc main_arg6) = v; pointwise
  · refine (whole7 m c t _ _ _).trans ?_; rw [V8]; generalize m ((c.tc : Thread nD τ).loc main_arg7) = v; pointwise
  · refine (whole8 m c t _ _ _).trans ?_; rw [V9]; generalize m ((c.tc : Thread nD τ).loc main_arg8) = v; pointwise
  · refine (whole9 m c t _ _ _).trans ?_; rw [V10]; generalize m ((c.tc : Thread nD τ).loc main_arg9) = v; pointwise

/-- An output block, entry by entry. -/
theorem block_apply (c : Dev nD) (t : Fin cfg0.N) (y : S1x4096x128.Idx) :
    (ins m c t).outBlk y = result (arg0 m c) (weights m c) (ix3 (t.cast N_0) (y 1) (y 2)) := by
  have e : y = ix3 (n0 := 1) (n1 := 4096) (n2 := 128) 0 (y 1) (y 2) := funext fun a => match a with
    | 0 => Fin.ext (by have := (y 0).2; show (y 0).val = 0; change (y 0).val < 1 at this; omega)
    | 1 => rfl
    | 2 => rfl
  refine (congrArg (ins m c t).outBlk e).trans ?_
  refine (Mamba.Ins.outBlk_apply (ins m c t) (y 1) (y 2)).trans ?_
  rw [wts_eq]
  simp only [x_apply]
  rfl

/-- The output array after the run. -/
theorem final (c : Dev nD) : (dats m 0 c).arrAt 10 cfg0.N = result (arg0 m c) (weights m c) := by
  refine (dats m 0 c).arrAt_eq_of_covers 10 _ (by decide +kernel) fun t hf y => ?_
  have hi := (idx_x t).2
  blk_simp
  rw [after_10]
  refine (block_apply m c t y).trans (congrArg (result (arg0 m c) (weights m c)) ?_)
  blk_ext [hi]
  rfl

/-- Every execution of the kernel ends with the result array at the four layers' values and the arguments unchanged. -/
theorem run (ρ : Dev nD → PrngReg) : θ_run (defs (F := Ideal)) (onTc (τ := τ) (main (F := Ideal))) ⟨m, fun _ => 0, ρ⟩ (fun fin => (∀ c : Dev nD,
      fin.2.mem ((c.tc : Thread nD τ).loc main_v0) = result (arg0 m c) (weights m c)) ∧ ∀ c : Dev nD,
      fin.2.mem ((c.tc : Thread nD τ).loc main_arg0) = m ((c.tc : Thread nD τ).loc main_arg0)
      ∧ fin.2.mem ((c.tc : Thread nD τ).loc main_arg1) = m ((c.tc : Thread nD τ).loc main_arg1)
      ∧ fin.2.mem ((c.tc : Thread nD τ).loc main_arg2) = m ((c.tc : Thread nD τ).loc main_arg2)
      ∧ fin.2.mem ((c.tc : Thread nD τ).loc main_arg3) = m ((c.tc : Thread nD τ).loc main_arg3)
      ∧ fin.2.mem ((c.tc : Thread nD τ).loc main_arg4) = m ((c.tc : Thread nD τ).loc main_arg4)
      ∧ fin.2.mem ((c.tc : Thread nD τ).loc main_arg5) = m ((c.tc : Thread nD τ).loc main_arg5)
      ∧ fin.2.mem ((c.tc : Thread nD τ).loc main_arg6) = m ((c.tc : Thread nD τ).loc main_arg6)
      ∧ fin.2.mem ((c.tc : Thread nD τ).loc main_arg7) = m ((c.tc : Thread nD τ).loc main_arg7)
      ∧ fin.2.mem ((c.tc : Thread nD τ).loc main_arg8) = m ((c.tc : Thread nD τ).loc main_arg8)
      ∧ fin.2.mem ((c.tc : Thread nD τ).loc main_arg9) = m ((c.tc : Thread nD τ).loc main_arg9)) :=
  θ_run_and (θ_run_mono (run_quiescent m ρ) fun fin h c => ((h.1 c).1 10).trans (final m c))
    (θ_run_mono (frame m ρ) fun _ h => h.1)

end Cert.KernelIdeal.Run
end
-- ==== Proof.RefPre.lean ====
/-
  What a layer of the reference computes before its recurrence, entry by entry, over the extended reals.
-/
module

public import proofs.«01_k».proof.Proof.RefRun
public import proofs.«01_k».proof.Proof.Math
public import Idealize.ShloMosaic.Lib.Pointwise

@[expose] public section

set_option maxRecDepth 100000

noncomputable section

namespace Cert.ReferenceIdeal.Layer

open Cert.ReferenceIdeal Cert.ReferenceIdeal.Gen Cert.Ssa
open Idealize.ShloMosaic Idealize.ShloMosaic.TcCoe Idealize.ShloMosaic.StableHlo
open Cert.Math

variable (l : Fin 4) (V : Valuation τ sig (Elt Ideal))

/-- The buffers when the recurrence starts. -/
abbrev P : Valuation τ sig (Elt Ideal) := after (pre l) V

/-- The weights of the layers, from the arguments in a valuation. -/
def wts : Fin 4 → Wts :=
  ofArgs (rd V a1) (rd V a2) (rd V a3) (rd V a4) (rd V a5) (rd V a6) (rd V a7) (rd V a8) (rd V a9)

/-- A layer's input, of one batch. -/
def xs (b : Fin 8) (t : Fin 4096) (k : Fin 128) : EReal := rd V (xin l) (ix3 b t k)

section Equations

variable {Tx Ta Tb Tc Ty : BufTy}

/-- A constant before the loop. -/
theorem preN {i : ℕ} {v : Ty.Contents (Elt Ideal)} (h : i < 163 := by decide) (hT : hbmTy (10 + i) = Ty := by rfl)
    (hi : (pre l)[i]? = some (TRef.nullary (r l i Ty h hT) v)) : rd (P l V) (r l i Ty h hT) = v :=
  (pre_line l).nullary i hi V rfl

/-- An operation of one operand before the loop. -/
theorem preU {i j : ℕ} {f : Tx.Contents (Elt Ideal) → Ty.Contents (Elt Ideal)} {h : i < 163} {hT : hbmTy (10 + i) = Ty} {h' : j < 163} {hT' : hbmTy (10 + j) = Tx}
    (hi : (pre l)[i]? = some (TRef.unary (r l j Tx h' hT') (r l i Ty h hT) f)) (hj : j < i) :
    rd (P l V) (r l i Ty h hT) = f (rd (P l V) (r l j Tx h' hT')) :=
  (pre_line l).unary i hi V rfl (by show 10 + 163 * (l : ℕ) + j < _; omega)

/-- An operation of two operands before the loop. -/
theorem preB {i j k : ℕ} {f : Ta.Contents (Elt Ideal) → Tb.Contents (Elt Ideal) → Ty.Contents (Elt Ideal)} {h : i < 163} {hT : hbmTy (10 + i) = Ty}
    {h' : j < 163} {hT' : hbmTy (10 + j) = Ta} {h'' : k < 163} {hT'' : hbmTy (10 + k) = Tb}
    (hi : (pre l)[i]? = some (TRef.binary (r l j Ta h' hT') (r l k Tb h'' hT'') (r l i Ty h hT) f)) (hj : j < i) (hk : k < i) :
    rd (P l V) (r l i Ty h hT) = f (rd (P l V) (r l j Ta h' hT')) (rd (P l V) (r l k Tb h'' hT'')) :=
  (pre_line l).binary i hi V rfl (by show 10 + 163 * (l : ℕ) + j < _; omega) (by show 10 + 163 * (l : ℕ) + k < _; omega)

/-- An operation of three operands before the loop. -/
theorem preT {i j k n : ℕ} {f : Tc.Contents (Elt Ideal) → Ta.Contents (Elt Ideal) → Tb.Contents (Elt Ideal) → Ty.Contents (Elt Ideal)} {h : i < 163} {hT : hbmTy (10 + i) = Ty}
    {h' : j < 163} {hT' : hbmTy (10 + j) = Tc} {h'' : k < 163} {hT'' : hbmTy (10 + k) = Ta} {g : n < 163} {gT : hbmTy (10 + n) = Tb}
    (hi : (pre l)[i]? = some (TRef.ternary (r l j Tc h' hT') (r l k Ta h'' hT'') (r l n Tb g gT) (r l i Ty h hT) f)) (hj : j < i) (hk : k < i) (hn : n < i) :
    rd (P l V) (r l i Ty h hT) = f (rd (P l V) (r l j Tc h' hT')) (rd (P l V) (r l k Ta h'' hT'')) (rd (P l V) (r l n Tb g gT)) :=
  (pre_line l).ternary i hi V rfl (by show 10 + 163 * (l : ℕ) + j < _; omega) (by show 10 + 163 * (l : ℕ) + k < _; omega) (by show 10 + 163 * (l : ℕ) + n < _; omega)

/-- A reshape before the loop. -/
theorem preR {i j : ℕ} {S S' : Shape} {e : EltTy} {hn : S.ShapeCasts S'} {h : i < 163} {hT : hbmTy (10 + i) = ⟨S', e⟩} {h' : j < 163} {hT' : hbmTy (10 + j) = ⟨S, e⟩}
    (hi : (pre (F := Ideal) l)[i]? = some (TRef.reshape (r l j ⟨S, e⟩ h' hT') (r l i ⟨S', e⟩ h hT) rfl hn)) (hj : j < i) :
    rd (P l V) (r l i ⟨S', e⟩ h hT) = shapeCast S' (rd (P l V) (r l j ⟨S, e⟩ h' hT')) hn :=
  (pre_line l).reshape i hi V rfl (by show 10 + 163 * (l : ℕ) + j < _; omega)

/-- An operation of an argument before the loop. -/
theorem preA {i : ℕ} {x : TRef sig Tx} {f : Tx.Contents (Elt Ideal) → Ty.Contents (Elt Ideal)} {h : i < 163} {hT : hbmTy (10 + i) = Ty}
    (hi : (pre l)[i]? = some (TRef.unary x (r l i Ty h hT) f)) (hx : num τ x < 10) :
    rd (P l V) (r l i Ty h hT) = f (rd V x) := by
  rw [(pre_line l).unary i hi V rfl (by omega), (pre_line l).keep V x (Or.inl (by unfold num at hx; omega))]

end Equations

/-! The weights, entry by entry. -/

theorem w_inw (k : Fin 128) (j : Fin 512) : rd (P l V) (r l 18 ⟨S128x512, .f32⟩) (ix2 k j) = (wts V l).inw k j := by
  rw [preU l V (i := 18) (j := 1) rfl (by decide), preR l V (i := 1) (j := 0) rfl (by decide), preA l V (i := 0) rfl (by decide)]
  unfold wts
  generalize rd V a1 = v
  pointwise [ofArgs]

theorem w_cw (c : Fin 256) (i : Fin 4) : rd (P l V) (r l 3 ⟨S256x4, .f32⟩) (ix2 c i) = (wts V l).cw i c := by
  rw [preR l V (i := 3) (j := 2) rfl (by decide), preA l V (i := 2) rfl (by decide)]
  unfold wts
  generalize rd V a2 = v
  pointwise [ofArgs]

theorem w_cb (c : Fin 256) : rd (P l V) (r l 5 ⟨S256, .f32⟩) (ix1 c) = (wts V l).cb c := by
  rw [preR l V (i := 5) (j := 4) rfl (by decide), preA l V (i := 4) rfl (by decide)]
  unfold wts
  generalize rd V a3 = v
  pointwise [ofArgs]

theorem w_xpw (c : Fin 256) (j : Fin 40) : rd (P l V) (r l 64 ⟨S256x40, .f32⟩) (ix2 c j) = (wts V l).xpw c j := by
  rw [preU l V (i := 64) (j := 7) rfl (by decide), preR l V (i := 7) (j := 6) rfl (by decide), preA l V (i := 6) rfl (by decide)]
  unfold wts
  generalize rd V a4 = v
  pointwise [ofArgs]

theorem w_dtw (j : Fin 8) (c : Fin 256) : rd (P l V) (r l 69 ⟨S8x256, .f32⟩) (ix2 j c) = (wts V l).dtw j c := by
  rw [preU l V (i := 69) (j := 9) rfl (by decide), preR l V (i := 9) (j := 8) rfl (by decide), preA l V (i := 8) rfl (by decide)]
  unfold wts
  generalize rd V a5 = v
  pointwise [ofArgs]

theorem w_dtb (c : Fin 256) : rd (P l V) (r l 11 ⟨S256, .f32⟩) (ix1 c) = (wts V l).dtb c := by
  rw [preR l V (i := 11) (j := 10) rfl (by decide), preA l V (i := 10) rfl (by decide)]
  unfold wts
  generalize rd V a6 = v
  pointwise [ofArgs]

theorem w_a (c : Fin 256) (n : Fin 16) : rd (P l V) (r l 89 ⟨S256x16, .f32⟩) (ix2 c n) = (wts V l).a n c := by
  rw [preU l V (i := 89) (j := 88) rfl (by decide), preU l V (i := 88) (j := 13) rfl (by decide), preR l V (i := 13) (j := 12) rfl (by decide), preA l V (i := 12) rfl (by decide)]
  unfold wts
  generalize rd V a7 = v
  pointwise [ofArgs]

theorem w_d (c : Fin 256) : rd (P l V) (r l 15 ⟨S256, .f32⟩) (ix1 c) = (wts V l).d c := by
  rw [preR l V (i := 15) (j := 14) rfl (by decide), preA l V (i := 14) rfl (by decide)]
  unfold wts
  generalize rd V a8 = v
  pointwise [ofArgs]

theorem w_ow (m : Fin 128) (c : Fin 256) : rd (P l V) (r l 17 ⟨S128x256, .f32⟩) (ix2 m c) = (wts V l).ow c m := by
  rw [preR l V (i := 17) (j := 16) rfl (by decide), preA l V (i := 16) rfl (by decide)]
  unfold wts
  generalize rd V a9 = v
  pointwise [ofArgs]

/-- The input projection. -/
theorem b_xz (b : Fin 8) (t : Fin 4096) (j : Fin 512) : rd (P l V) (r l 19 ⟨S8x4096x512, .f32⟩) (ix3 b t j) = (wts V l).xz (xs l V b) t j := by
  have hx := num_xin l
  rw [(pre_line l).binary (a := xin l) (b := r l 18 ⟨S128x512, .f32⟩) (y := r l 19 ⟨S8x4096x512, .f32⟩) 19 rfl V rfl (by omega) (by show 10 + 163 * (l : ℕ) + 18 < _; omega),
    (pre_line l).keep V (xin l) (Or.inl (by unfold num at hx; omega))]
  have hw := w_inw l V
  generalize rd (P l V) (r l 18 ⟨S128x512, .f32⟩) = w at hw ⊢
  unfold Wts.xz xs
  generalize rd V (xin l) = x
  pointwise
  simp only [hw]

/-- The gate. -/
theorem b_z (b : Fin 8) (t : Fin 4096) (c : Fin 256) : rd (P l V) (r l 21 ⟨S8x4096x256, .f32⟩) (ix3 b t c) = (wts V l).xz (xs l V b) t (hi c) := by
  rw [preU l V (i := 21) (j := 19) rfl (by decide), ← b_xz]
  generalize rd (P l V) (r l 19 ⟨S8x4096x512, .f32⟩) = v
  pointwise
  rfl

/-- The convolution's padded input. -/
theorem b_pad (b : Fin 8) (i : Fin 4099) (c : Fin 256) : rd (P l V) (r l 24 ⟨S8x4099x256, .f32⟩) (ix3 b i c) = (wts V l).pre (xs l V b) i c := by
  rw [preB l V (i := 24) (j := 20) (k := 23) rfl (by decide) (by decide), preU l V (i := 20) (j := 19) rfl (by decide), preU l V (i := 23) (j := 22) rfl (by decide), preN l V (i := 22) (hi := rfl)]
  have h := b_xz l V b
  generalize rd (P l V) (r l 19 ⟨S8x4096x512, .f32⟩) = v at h ⊢
  unfold Wts.pre
  pointwise
  have e : FloatOps.sitofp (F := Ideal) FTy.f32 0#32 = (0 : EReal) := by
    show (((0#32 : BitVec 32).toInt : ℝ) : EReal) = 0
    simp
  rw [e]
  simp only [h]
  rfl

/-- The convolution. -/
theorem b_conv (b : Fin 8) (t : Fin 4096) (c : Fin 256) : rd (P l V) (r l 54 ⟨S8x4096x256, .f32⟩) (ix3 b t c) = (wts V l).conv (xs l V b) t c := by
  rw [preB l V (i := 54) (j := 47) (k := 53) rfl (by decide) (by decide), preB l V (i := 53) (j := 48) (k := 52) rfl (by decide) (by decide), preU l V (i := 52) (j := 51) rfl (by decide), preU l V (i := 51) (j := 50) rfl (by decide), preR l V (i := 50) (j := 49) rfl (by decide), preU l V (i := 49) (j := 3) rfl (by decide), preU l V (i := 48) (j := 24) rfl (by decide),
    preB l V (i := 47) (j := 40) (k := 46) rfl (by decide) (by decide), preB l V (i := 46) (j := 41) (k := 45) rfl (by decide) (by decide), preU l V (i := 45) (j := 44) rfl (by decide), preU l V (i := 44) (j := 43) rfl (by decide), preR l V (i := 43) (j := 42) rfl (by decide), preU l V (i := 42) (j := 3) rfl (by decide), preU l V (i := 41) (j := 24) rfl (by decide),
    preB l V (i := 40) (j := 33) (k := 39) rfl (by decide) (by decide), preB l V (i := 39) (j := 34) (k := 38) rfl (by decide) (by decide), preU l V (i := 38) (j := 37) rfl (by decide), preU l V (i := 37) (j := 36) rfl (by decide), preR l V (i := 36) (j := 35) rfl (by decide), preU l V (i := 35) (j := 3) rfl (by decide), preU l V (i := 34) (j := 24) rfl (by decide),
    preB l V (i := 33) (j := 32) (k := 30) rfl (by decide) (by decide), preB l V (i := 30) (j := 25) (k := 29) rfl (by decide) (by decide), preU l V (i := 29) (j := 28) rfl (by decide), preU l V (i := 28) (j := 27) rfl (by decide), preR l V (i := 27) (j := 26) rfl (by decide), preU l V (i := 26) (j := 3) rfl (by decide), preU l V (i := 25) (j := 24) rfl (by decide),
    preU l V (i := 32) (j := 31) rfl (by decide), preU l V (i := 31) (j := 5) rfl (by decide)]
  have hp := b_pad l V b
  have hw := w_cw l V
  have hb := w_cb l V
  generalize rd (P l V) (r l 24 ⟨S8x4099x256, .f32⟩) = v at hp ⊢
  generalize rd (P l V) (r l 3 ⟨S256x4, .f32⟩) = w at hw ⊢
  generalize rd (P l V) (r l 5 ⟨S256, .f32⟩) = y at hb ⊢
  unfold Wts.conv
  pointwise
  simp only [hp, hw, hb, Nat.add_comm 1, Nat.add_comm 2, Nat.add_comm 3]

/-- The recurrence's input. -/
theorem b_u (b : Fin 8) (t : Fin 4096) (c : Fin 256) : rd (P l V) (r l 63 ⟨S8x4096x256, .f32⟩) (ix3 b t c) = (wts V l).u (xs l V b) t c := by
  rw [preB l V (i := 63) (j := 54) (k := 62) rfl (by decide) (by decide), preB l V (i := 62) (j := 61) (k := 59) rfl (by decide) (by decide), preB l V (i := 59) (j := 58) (k := 56) rfl (by decide) (by decide), preU l V (i := 56) (j := 55) rfl (by decide), preU l V (i := 55) (j := 54) rfl (by decide), preU l V (i := 58) (j := 57) rfl (by decide), preN l V (i := 57) (hi := rfl), preU l V (i := 61) (j := 60) rfl (by decide), preN l V (i := 60) (hi := rfl)]
  unfold Wts.u
  rw [← b_conv]
  generalize rd (P l V) (r l 54 ⟨S8x4096x256, .f32⟩) = v
  pointwise [silu]
  rfl

/-- The projection of the step sizes and coefficients. -/
theorem b_proj (b : Fin 8) (t : Fin 4096) (j : Fin 40) : rd (P l V) (r l 65 ⟨S8x4096x40, .f32⟩) (ix3 b t j) = (wts V l).proj (xs l V b) t j := by
  rw [preB l V (i := 65) (j := 63) (k := 64) rfl (by decide) (by decide)]
  have hu := b_u l V b
  have hw := w_xpw l V
  generalize rd (P l V) (r l 63 ⟨S8x4096x256, .f32⟩) = v at hu ⊢
  generalize rd (P l V) (r l 64 ⟨S256x40, .f32⟩) = w at hw ⊢
  unfold Wts.proj
  pointwise
  simp only [hu, hw]

/-- The step size. -/
theorem b_dt (b : Fin 8) (t : Fin 4096) (c : Fin 256) : rd (P l V) (r l 87 ⟨S8x4096x256, .f32⟩) (ix3 b t c) = (wts V l).dt (xs l V b) t c := by
  have e : rd (P l V) (r l 73 ⟨S8x4096x256, .f32⟩) (ix3 b t c) = (∑ k, (wts V l).proj (xs l V b) t (pdt k) * (wts V l).dtw k c) + (wts V l).dtb c := by
    rw [preB l V (i := 73) (j := 70) (k := 72) rfl (by decide) (by decide), preB l V (i := 70) (j := 66) (k := 69) rfl (by decide) (by decide), preU l V (i := 66) (j := 65) rfl (by decide), preU l V (i := 72) (j := 71) rfl (by decide), preU l V (i := 71) (j := 11) rfl (by decide)]
    have hp := b_proj l V b
    have hw := w_dtw l V
    have hb := w_dtb l V
    generalize rd (P l V) (r l 65 ⟨S8x4096x40, .f32⟩) = v at hp ⊢
    generalize rd (P l V) (r l 69 ⟨S8x256, .f32⟩) = w at hw ⊢
    generalize rd (P l V) (r l 11 ⟨S256, .f32⟩) = y at hb ⊢
    pointwise
    simp only [hp, hw, hb]
    rfl
  unfold Wts.dt
  rw [← e, preT l V (i := 87) (j := 79) (k := 81) (n := 86) rfl (by decide) (by decide) (by decide), preB l V (i := 79) (j := 78) (k := 78) rfl (by decide) (by decide), preB l V (i := 81) (j := 73) (k := 80) rfl (by decide) (by decide), preB l V (i := 86) (j := 76) (k := 85) rfl (by decide) (by decide),
    preU l V (i := 85) (j := 84) rfl (by decide), preU l V (i := 84) (j := 83) rfl (by decide), preU l V (i := 83) (j := 82) rfl (by decide), preU l V (i := 82) (j := 78) rfl (by decide), preB l V (i := 76) (j := 73) (k := 75) rfl (by decide) (by decide), preB l V (i := 78) (j := 73) (k := 77) rfl (by decide) (by decide), preU l V (i := 75) (j := 74) rfl (by decide), preU l V (i := 77) (j := 74) rfl (by decide), preU l V (i := 80) (j := 74) rfl (by decide), preN l V (i := 74) (hi := rfl)]
  generalize rd (P l V) (r l 73 ⟨S8x4096x256, .f32⟩) = v
  pointwise [softplus]
  exact if_neg (not_not.mpr rfl)

/-! What the recurrence carries when it starts. -/

theorem s_dt (b : Fin 8) (t : Fin 4096) (c : Fin 256) : rd (P l V) (r l 99 ⟨S4096x8x256, .f32⟩) (ix3 t b c) = (wts V l).dt (xs l V b) t c := by
  rw [preU l V (i := 99) (j := 92) rfl (by decide), preU l V (i := 92) (j := 87) rfl (by decide), ← b_dt]
  generalize rd (P l V) (r l 87 ⟨S8x4096x256, .f32⟩) = v
  rw [id]
  pointwise

theorem s_B (b : Fin 8) (t : Fin 4096) (n : Fin 16) : rd (P l V) (r l 100 ⟨S4096x8x16, .f32⟩) (ix3 t b n) = (wts V l).proj (xs l V b) t (pB n) := by
  rw [preU l V (i := 100) (j := 93) rfl (by decide), preU l V (i := 93) (j := 67) rfl (by decide), preU l V (i := 67) (j := 65) rfl (by decide), ← b_proj]
  generalize rd (P l V) (r l 65 ⟨S8x4096x40, .f32⟩) = v
  rw [id]
  pointwise
  rfl

theorem s_C (b : Fin 8) (t : Fin 4096) (n : Fin 16) : rd (P l V) (r l 101 ⟨S4096x8x16, .f32⟩) (ix3 t b n) = (wts V l).proj (xs l V b) t (pC n) := by
  rw [preU l V (i := 101) (j := 94) rfl (by decide), preU l V (i := 94) (j := 68) rfl (by decide), preU l V (i := 68) (j := 65) rfl (by decide), ← b_proj]
  generalize rd (P l V) (r l 65 ⟨S8x4096x40, .f32⟩) = v
  rw [id]
  pointwise
  rfl

theorem s_u (b : Fin 8) (t : Fin 4096) (c : Fin 256) : rd (P l V) (r l 102 ⟨S4096x8x256, .f32⟩) (ix3 t b c) = (wts V l).u (xs l V b) t c := by
  rw [preU l V (i := 102) (j := 95) rfl (by decide), preU l V (i := 95) (j := 63) rfl (by decide), ← b_u]
  generalize rd (P l V) (r l 63 ⟨S8x4096x256, .f32⟩) = v
  rw [id]
  pointwise

theorem s_a (c : Fin 256) (n : Fin 16) : rd (P l V) (r l 103 ⟨S256x16, .f32⟩) (ix2 c n) = (wts V l).a n c := by
  rw [preU l V (i := 103) (j := 89) rfl (by decide), ← w_a]
  generalize rd (P l V) (r l 89 ⟨S256x16, .f32⟩) = v
  rw [id]

/-- The state starts at zero. -/
theorem s_h (b : Fin 8) (c : Fin 256) (n : Fin 16) : rd (P l V) (r l 105 ⟨S8x256x16, .f32⟩) (ix3 b c n) = 0 := by
  rw [preU l V (i := 105) (j := 91) rfl (by decide), preU l V (i := 91) (j := 90) rfl (by decide), preN l V (i := 90) (hi := rfl)]
  rw [id]
  pointwise

end Cert.ReferenceIdeal.Layer
end
-- ==== Proof.RefLoop.lean ====
/-
  The recurrence of a layer of the reference, entry by entry, over the extended reals: the state and the rows written after each trip.
-/
module

public import proofs.«01_k».proof.Proof.RefPre
public import Idealize.ShloMosaic.Lib.DynamicIndex
public import Idealize.ShloMosaic.Lib.Pipeline.Value

@[expose] public section

set_option maxRecDepth 100000

noncomputable section

namespace Cert.ReferenceIdeal.Layer

open Cert.ReferenceIdeal Cert.ReferenceIdeal.Gen Cert.Ssa
open Idealize.ShloMosaic Idealize.ShloMosaic.TcCoe Idealize.ShloMosaic.StableHlo
open Cert.Math

/-- The counter as a number. -/
theorem iv_toInt {k : ℕ} (hk : k < 4096) : (Scf.iv 0#32 1#32 k).toInt = k := by
  have e : Scf.iv 0#32 1#32 k = BitVec.ofNat 32 k := by
    unfold Scf.iv
    simp
  rw [e]
  exact toInt_ofNat_of_lt (by omega)

/-- The counter and two zeros as offsets. -/
theorem starts {k : ℕ} (hk : k < 4096) (a : Fin 3) :
    ((![(fun _ => Scf.iv 0#32 1#32 k), constantI S_ 32 0#32, constantI S_ 32 0#32] : Fin 3 → S_.Idx → BitVec 32) a (Shape.Idx.first h_S_)).toInt
      = ((![k, 0, 0] : Fin 3 → ℕ) a : ℤ) := by
  match a with
  | 0 => exact iv_toInt hk
  | 1 => rfl
  | 2 => rfl

/-- A slice at the counter reads the row the counter names. -/
theorem slice_apply {A B : ℕ} (x : (⟨3, ![4096, A, B]⟩ : Shape).Idx → EReal) {k : ℕ} (hk : k < 4096)
    (h : (⟨3, ![4096, A, B]⟩ : Shape).Slices (fun _ => 0) ⟨3, ![1, A, B]⟩) (b : Fin A) (c : Fin B) :
    Host.dynamicSlice ⟨3, ![1, A, B]⟩ x (fun a => ((![(fun _ => Scf.iv 0#32 1#32 k), constantI S_ 32 0#32, constantI S_ 32 0#32] : Fin 3 → S_.Idx → BitVec 32) a
      (Shape.Idx.first h_S_)).toInt) h (ix3 0 b c) = x (ix3 ⟨k, hk⟩ b c) := by
  rw [Host.dynamicSlice_eq_extractStridedSlice _ _ _ (![k, 0, 0] : Fin 3 → ℕ) h ⟨rfl, fun a => ?_⟩ (starts hk)]
  · refine congrArg x (funext fun a => Fin.ext ?_)
    match a with
    | 0 => show k + 0 = k; omega
    | 1 => show 0 + b.val = b.val; omega
    | 2 => show 0 + c.val = c.val; omega
  · match a with
    | 0 => show k + 1 ≤ 4096; omega
    | 1 => show 0 + A ≤ A; omega
    | 2 => show 0 + B ≤ B; omega

/-- An update at the counter writes the row the counter names. -/
theorem update_apply (x : S4096x8x256.Idx → EReal) (y : S1x8x256.Idx → EReal) {k : ℕ} (hk : k < 4096) (t : Fin 4096) (b : Fin 8) (c : Fin 256) :
    Host.dynamicUpdateSlice x y (fun a => ((![(fun _ => Scf.iv 0#32 1#32 k), constantI S_ 32 0#32, constantI S_ 32 0#32] : Fin 3 → S_.Idx → BitVec 32) a
      (Shape.Idx.first h_S_)).toInt) updateFits_S4096x8x256_S1x8x256 (ix3 t b c) = if t.val = k then y (ix3 0 b c) else x (ix3 t b c) := by
  have hs := starts hk
  rw [Host.dynamicUpdateSlice_eq_updateSlice x y _ _ (![k, 0, 0] : Fin 3 → ℕ) (fun a => by
    rw [hs a]
    match a with
    | 0 => show (min (max (k : ℤ) 0) ((4096 - 1 : ℕ) : ℤ)).toNat = k; omega
    | 1 => rfl
    | 2 => rfl) ⟨rfl, fun a => match a with
      | 0 => (by show k + 1 ≤ 4096; omega)
      | 1 => (by show 0 + 8 ≤ 8; omega)
      | 2 => (by show 0 + 256 ≤ 256; omega)⟩]
  unfold updateSlice
  split
  · rename_i h
    have h0 := h 0
    have e : t.val = k := by
      change k ≤ t.val ∧ t.val < k + 1 at h0
      omega
    rw [if_pos e]
    refine congrArg y (funext fun a => Fin.ext ?_)
    match a with
    | 0 => show t.val - k = 0; omega
    | 1 => show b.val - 0 = b.val; omega
    | 2 => show c.val - 0 = c.val; omega
  · rename_i h
    rw [if_neg]
    intro e
    refine h fun a => ?_
    match a with
    | 0 => show k ≤ t.val ∧ t.val < k + 1; omega
    | 1 => show 0 ≤ b.val ∧ b.val < 0 + 8; omega
    | 2 => show 0 ≤ c.val ∧ c.val < 0 + 256; omega

section Trip

variable (l : Fin 4) (W : Valuation τ sig (Elt Ideal))

/-- The buffers at the end of a trip's computation. -/
abbrev Q : Valuation τ sig (Elt Ideal) := after (body l) (after (cond l) W)

section Equations

variable {Tx Ta Tb Tc Ty Ti : BufTy}

/-- What was there before the trip is still there. -/
theorem bodyK (j : ℕ) (T : BufTy) (h : j < 163) (hT : hbmTy (10 + j) = T) (hj : j < 107) : rd (Q l W) (r l j T h hT) = rd W (r l j T h hT) := by
  have e : key (Proc.devRef (τ := τ) .tc (r l j T h hT).ref) = 10 + 163 * (l : ℕ) + j := rfl
  rw [(body_line l).keep _ _ (Or.inl (by omega)), (cond_line l).keep _ _ (Or.inl (by omega))]

/-! The equation of each kind of operation of a trip. -/

theorem bodyN (n : ℕ) {i : ℕ} {v : Ty.Contents (Elt Ideal)} (h : i < 163 := by decide) (hT : hbmTy (10 + i) = Ty := by rfl)
    (hi : (body l)[n]? = some (TRef.nullary (r l i Ty h hT) v)) (e : 109 + n = i) : rd (Q l W) (r l i Ty h hT) = v :=
  (body_line l).nullary n hi _ (by show 10 + 163 * (l : ℕ) + i = _; omega)

theorem bodyU (n : ℕ) {i j : ℕ} {f : Tx.Contents (Elt Ideal) → Ty.Contents (Elt Ideal)} {h : i < 163} {hT : hbmTy (10 + i) = Ty} {h' : j < 163} {hT' : hbmTy (10 + j) = Tx}
    (hi : (body l)[n]? = some (TRef.unary (r l j Tx h' hT') (r l i Ty h hT) f)) (e : 109 + n = i) (hj : j < i) :
    rd (Q l W) (r l i Ty h hT) = f (rd (Q l W) (r l j Tx h' hT')) :=
  (body_line l).unary n hi _ (by show 10 + 163 * (l : ℕ) + i = _; omega) (by show 10 + 163 * (l : ℕ) + j < _; omega)

theorem bodyB (n : ℕ) {i j k : ℕ} {f : Ta.Contents (Elt Ideal) → Tb.Contents (Elt Ideal) → Ty.Contents (Elt Ideal)} {h : i < 163} {hT : hbmTy (10 + i) = Ty}
    {h' : j < 163} {hT' : hbmTy (10 + j) = Ta} {h'' : k < 163} {hT'' : hbmTy (10 + k) = Tb}
    (hi : (body l)[n]? = some (TRef.binary (r l j Ta h' hT') (r l k Tb h'' hT'') (r l i Ty h hT) f)) (e : 109 + n = i) (hj : j < i) (hk : k < i) :
    rd (Q l W) (r l i Ty h hT) = f (rd (Q l W) (r l j Ta h' hT')) (rd (Q l W) (r l k Tb h'' hT'')) :=
  (body_line l).binary n hi _ (by show 10 + 163 * (l : ℕ) + i = _; omega) (by show 10 + 163 * (l : ℕ) + j < _; omega) (by show 10 + 163 * (l : ℕ) + k < _; omega)

theorem bodyRs (n : ℕ) {i j : ℕ} {S S' : Shape} {e : EltTy} {hn : S.ShapeCasts S'} {h : i < 163} {hT : hbmTy (10 + i) = ⟨S', e⟩} {h' : j < 163} {hT' : hbmTy (10 + j) = ⟨S, e⟩}
    (hi : (body (F := Ideal) l)[n]? = some (TRef.reshape (r l j ⟨S, e⟩ h' hT') (r l i ⟨S', e⟩ h hT) rfl hn)) (ei : 109 + n = i) (hj : j < i) :
    rd (Q l W) (r l i ⟨S', e⟩ h hT) = shapeCast S' (rd (Q l W) (r l j ⟨S, e⟩ h' hT')) hn :=
  (body_line l).reshape n hi _ (by show 10 + 163 * (l : ℕ) + i = _; omega) (by show 10 + 163 * (l : ℕ) + j < _; omega)

theorem bodyUI (n : ℕ) {i j u v w : ℕ} {f : Ta.Contents (Elt Ideal) → (Fin 3 → Ti.Contents (Elt Ideal)) → Ty.Contents (Elt Ideal)} {h : i < 163} {hT : hbmTy (10 + i) = Ty}
    {h' : j < 163} {hT' : hbmTy (10 + j) = Ta} {hu : u < 163} {hTu : hbmTy (10 + u) = Ti} {hv : v < 163} {hTv : hbmTy (10 + v) = Ti} {hw : w < 163} {hTw : hbmTy (10 + w) = Ti}
    (hi : (body l)[n]? = some (TRef.unaryIndexed (r l j Ta h' hT') ![r l u Ti hu hTu, r l v Ti hv hTv, r l w Ti hw hTw] (r l i Ty h hT) f)) (e : 109 + n = i)
    (hj : j < i) (ju : u < i) (jv : v < i) (jw : w < i) :
    rd (Q l W) (r l i Ty h hT) = f (rd (Q l W) (r l j Ta h' hT')) ![rd (Q l W) (r l u Ti hu hTu), rd (Q l W) (r l v Ti hv hTv), rd (Q l W) (r l w Ti hw hTw)] :=
  (body_line l).unaryIndexed n hi _ (by show 10 + 163 * (l : ℕ) + i = _; omega) (by show 10 + 163 * (l : ℕ) + j < _; omega)
    (by show 10 + 163 * (l : ℕ) + u < _; omega) (by show 10 + 163 * (l : ℕ) + v < _; omega) (by show 10 + 163 * (l : ℕ) + w < _; omega)

theorem bodyBI (n : ℕ) {i j k u v w : ℕ} {f : Ta.Contents (Elt Ideal) → Tb.Contents (Elt Ideal) → (Fin 3 → Ti.Contents (Elt Ideal)) → Ty.Contents (Elt Ideal)}
    {h : i < 163} {hT : hbmTy (10 + i) = Ty} {h' : j < 163} {hT' : hbmTy (10 + j) = Ta} {h'' : k < 163} {hT'' : hbmTy (10 + k) = Tb}
    {hu : u < 163} {hTu : hbmTy (10 + u) = Ti} {hv : v < 163} {hTv : hbmTy (10 + v) = Ti} {hw : w < 163} {hTw : hbmTy (10 + w) = Ti}
    (hi : (body l)[n]? = some (TRef.binaryIndexed (r l j Ta h' hT') (r l k Tb h'' hT'') ![r l u Ti hu hTu, r l v Ti hv hTv, r l w Ti hw hTw] (r l i Ty h hT) f)) (e : 109 + n = i)
    (hj : j < i) (hk : k < i) (ju : u < i) (jv : v < i) (jw : w < i) :
    rd (Q l W) (r l i Ty h hT) = f (rd (Q l W) (r l j Ta h' hT')) (rd (Q l W) (r l k Tb h'' hT'')) ![rd (Q l W) (r l u Ti hu hTu), rd (Q l W) (r l v Ti hv hTv), rd (Q l W) (r l w Ti hw hTw)] :=
  (body_line l).binaryIndexed n hi _ (by show 10 + 163 * (l : ℕ) + i = _; omega) (by show 10 + 163 * (l : ℕ) + j < _; omega) (by show 10 + 163 * (l : ℕ) + k < _; omega)
    (by show 10 + 163 * (l : ℕ) + u < _; omega) (by show 10 + 163 * (l : ℕ) + v < _; omega) (by show 10 + 163 * (l : ℕ) + w < _; omega)

end Equations

variable {k : ℕ} (hk : k < 4096) (hc : rd W (r l 104 ⟨S_, .i32⟩) = fun _ => Scf.iv 0#32 1#32 k)
include hk hc

/-- The step sizes of the trip. -/
theorem t_dt (b : Fin 8) (c : Fin 256) : rd (Q l W) (r l 112 ⟨S8x256, .f32⟩) (ix2 b c) = rd W (r l 99 ⟨S4096x8x256, .f32⟩) (ix3 ⟨k, hk⟩ b c) := by
  have e := bodyUI l W (i := 111) (j := 99) (u := 104) (v := 109) (w := 110) 2 rfl rfl (by decide) (by decide) (by decide) (by decide)
  rw [bodyN l W (i := 109) 0 (hi := rfl) (e := rfl), bodyN l W (i := 110) 1 (hi := rfl) (e := rfl), bodyK l W 104 ⟨S_, .i32⟩ (by decide) rfl (by decide), bodyK l W 99 ⟨S4096x8x256, .f32⟩ (by decide) rfl (by decide), hc] at e
  rw [bodyRs l W (i := 112) (j := 111) 3 rfl rfl (by decide), e]
  refine Eq.trans ?_ (slice_apply (rd W (r l 99 ⟨S4096x8x256, .f32⟩)) hk sliceFits_S4096x8x256_S1x8x256 b c)
  generalize Host.dynamicSlice (s := S4096x8x256) (α := EReal) _ _ _ _ = v
  pointwise

/-- The input's coefficients of the trip. -/
theorem t_B (b : Fin 8) (n : Fin 16) : rd (Q l W) (r l 116 ⟨S8x16, .f32⟩) (ix2 b n) = rd W (r l 100 ⟨S4096x8x16, .f32⟩) (ix3 ⟨k, hk⟩ b n) := by
  have e := bodyUI l W (i := 115) (j := 100) (u := 104) (v := 113) (w := 114) 6 rfl rfl (by decide) (by decide) (by decide) (by decide)
  rw [bodyN l W (i := 113) 4 (hi := rfl) (e := rfl), bodyN l W (i := 114) 5 (hi := rfl) (e := rfl), bodyK l W 104 ⟨S_, .i32⟩ (by decide) rfl (by decide), bodyK l W 100 ⟨S4096x8x16, .f32⟩ (by decide) rfl (by decide), hc] at e
  rw [bodyRs l W (i := 116) (j := 115) 7 rfl rfl (by decide), e]
  refine Eq.trans ?_ (slice_apply (rd W (r l 100 ⟨S4096x8x16, .f32⟩)) hk sliceFits_S4096x8x16_S1x8x16 b n)
  generalize Host.dynamicSlice (s := S4096x8x16) (α := EReal) _ _ _ _ = v
  pointwise

/-- The output's coefficients of the trip. -/
theorem t_C (b : Fin 8) (n : Fin 16) : rd (Q l W) (r l 120 ⟨S8x16, .f32⟩) (ix2 b n) = rd W (r l 101 ⟨S4096x8x16, .f32⟩) (ix3 ⟨k, hk⟩ b n) := by
  have e := bodyUI l W (i := 119) (j := 101) (u := 104) (v := 117) (w := 118) 10 rfl rfl (by decide) (by decide) (by decide) (by decide)
  rw [bodyN l W (i := 117) 8 (hi := rfl) (e := rfl), bodyN l W (i := 118) 9 (hi := rfl) (e := rfl), bodyK l W 104 ⟨S_, .i32⟩ (by decide) rfl (by decide), bodyK l W 101 ⟨S4096x8x16, .f32⟩ (by decide) rfl (by decide), hc] at e
  rw [bodyRs l W (i := 120) (j := 119) 11 rfl rfl (by decide), e]
  refine Eq.trans ?_ (slice_apply (rd W (r l 101 ⟨S4096x8x16, .f32⟩)) hk sliceFits_S4096x8x16_S1x8x16 b n)
  generalize Host.dynamicSlice (s := S4096x8x16) (α := EReal) _ _ _ _ = v
  pointwise

/-- The input of the trip. -/
theorem t_u (b : Fin 8) (c : Fin 256) : rd (Q l W) (r l 124 ⟨S8x256, .f32⟩) (ix2 b c) = rd W (r l 102 ⟨S4096x8x256, .f32⟩) (ix3 ⟨k, hk⟩ b c) := by
  have e := bodyUI l W (i := 123) (j := 102) (u := 104) (v := 121) (w := 122) 14 rfl rfl (by decide) (by decide) (by decide) (by decide)
  rw [bodyN l W (i := 121) 12 (hi := rfl) (e := rfl), bodyN l W (i := 122) 13 (hi := rfl) (e := rfl), bodyK l W 104 ⟨S_, .i32⟩ (by decide) rfl (by decide), bodyK l W 102 ⟨S4096x8x256, .f32⟩ (by decide) rfl (by decide), hc] at e
  rw [bodyRs l W (i := 124) (j := 123) 15 rfl rfl (by decide), e]
  refine Eq.trans ?_ (slice_apply (rd W (r l 102 ⟨S4096x8x256, .f32⟩)) hk sliceFits_S4096x8x256_S1x8x256 b c)
  generalize Host.dynamicSlice (s := S4096x8x256) (α := EReal) _ _ _ _ = v
  pointwise

/-- The state after the trip. -/
theorem t_h (b : Fin 8) (c : Fin 256) (n : Fin 16) : rd (Q l W) (r l 138 ⟨S8x256x16, .f32⟩) (ix3 b c n)
    = Ideal.exp (rd W (r l 99 ⟨S4096x8x256, .f32⟩) (ix3 ⟨k, hk⟩ b c) * rd W (r l 103 ⟨S256x16, .f32⟩) (ix2 c n)) * rd W (r l 105 ⟨S8x256x16, .f32⟩) (ix3 b c n)
      + rd W (r l 99 ⟨S4096x8x256, .f32⟩) (ix3 ⟨k, hk⟩ b c) * rd W (r l 102 ⟨S4096x8x256, .f32⟩) (ix3 ⟨k, hk⟩ b c) * rd W (r l 100 ⟨S4096x8x16, .f32⟩) (ix3 ⟨k, hk⟩ b n) := by
  rw [bodyB l W (i := 138) (j := 131) (k := 137) 29 rfl rfl (by decide) (by decide), bodyB l W (i := 131) (j := 130) (k := 105) 22 rfl rfl (by decide) (by decide), bodyB l W (i := 137) (j := 135) (k := 136) 28 rfl rfl (by decide) (by decide), bodyU l W (i := 136) (j := 134) 27 rfl rfl (by decide), bodyU l W (i := 134) (j := 116) 25 rfl rfl (by decide), bodyU l W (i := 135) (j := 133) 26 rfl rfl (by decide), bodyU l W (i := 133) (j := 132) 24 rfl rfl (by decide), bodyB l W (i := 132) (j := 112) (k := 124) 23 rfl rfl (by decide) (by decide),
    bodyU l W (i := 130) (j := 129) 21 rfl rfl (by decide), bodyB l W (i := 129) (j := 127) (k := 128) 20 rfl rfl (by decide) (by decide), bodyU l W (i := 128) (j := 126) 19 rfl rfl (by decide), bodyU l W (i := 126) (j := 103) 17 rfl rfl (by decide), bodyU l W (i := 127) (j := 125) 18 rfl rfl (by decide), bodyU l W (i := 125) (j := 112) 16 rfl rfl (by decide), bodyK l W 103 ⟨S256x16, .f32⟩ (by decide) rfl (by decide), bodyK l W 105 ⟨S8x256x16, .f32⟩ (by decide) rfl (by decide),
    ← t_dt l W hk hc, ← t_B l W hk hc, ← t_u l W hk hc]
  generalize rd (Q l W) (r l 112 ⟨S8x256, .f32⟩) = v1
  generalize rd (Q l W) (r l 116 ⟨S8x16, .f32⟩) = v2
  generalize rd (Q l W) (r l 124 ⟨S8x256, .f32⟩) = v3
  generalize rd W (r l 103 ⟨S256x16, .f32⟩) = v4
  generalize rd W (r l 105 ⟨S8x256x16, .f32⟩) = v5
  pointwise

/-- The rows after the trip. -/
theorem t_y (t : Fin 4096) (b : Fin 8) (c : Fin 256) : rd (Q l W) (r l 143 ⟨S4096x8x256, .f32⟩) (ix3 t b c)
    = if t.val = k then (∑ n : Fin 16, (rd (Q l W) (r l 138 ⟨S8x256x16, .f32⟩) (ix3 b c n) * rd W (r l 101 ⟨S4096x8x16, .f32⟩) (ix3 ⟨k, hk⟩ b n) : EReal) : EReal)
      else (rd W (r l 106 ⟨S4096x8x256, .f32⟩) (ix3 t b c) : EReal) := by
  have e := bodyBI l W (i := 143) (j := 106) (k := 140) (u := 104) (v := 141) (w := 142) 34 rfl rfl (by decide) (by decide) (by decide) (by decide) (by decide)
  rw [bodyN l W (i := 141) 32 (hi := rfl) (e := rfl), bodyN l W (i := 142) 33 (hi := rfl) (e := rfl), bodyK l W 104 ⟨S_, .i32⟩ (by decide) rfl (by decide), bodyK l W 106 ⟨S4096x8x256, .f32⟩ (by decide) rfl (by decide), hc] at e
  rw [e]
  refine (update_apply _ _ hk t b c).trans ?_
  rw [bodyU l W (i := 140) (j := 139) 31 rfl rfl (by decide), bodyB l W (i := 139) (j := 138) (k := 120) 30 rfl rfl (by decide) (by decide)]
  simp only [← t_C l W hk hc]
  generalize rd (Q l W) (r l 138 ⟨S8x256x16, .f32⟩) = v1
  generalize rd (Q l W) (r l 120 ⟨S8x16, .f32⟩) = v2
  refine congrArg (fun z => if t.val = k then z else _) ?_
  pointwise

end Trip

section Trips

variable (l : Fin 4) (V : Valuation τ sig (Elt Ideal))

/-- A trip carries the new state over. -/
theorem trip_h (W : Valuation τ sig (Elt Ideal)) : rd (trip l W) (r l 105 ⟨S8x256x16, .f32⟩) = rd (Q l W) (r l 138 ⟨S8x256x16, .f32⟩) :=
  (carry_line l).unaryOut (x := r l 138 ⟨S8x256x16, .f32⟩) 1 rfl _ rfl (by show 10 + 163 * (l : ℕ) + 104 + 3 ≤ 10 + 163 * (l : ℕ) + 138; omega)

/-- A trip carries the new rows over. -/
theorem trip_y (W : Valuation τ sig (Elt Ideal)) : rd (trip l W) (r l 106 ⟨S4096x8x256, .f32⟩) = rd (Q l W) (r l 143 ⟨S4096x8x256, .f32⟩) :=
  (carry_line l).unaryOut (x := r l 143 ⟨S4096x8x256, .f32⟩) 2 rfl _ rfl (by show 10 + 163 * (l : ℕ) + 104 + 3 ≤ 10 + 163 * (l : ℕ) + 143; omega)

/-- What the loop only reads stays. -/
theorem kept (k : ℕ) (j : ℕ) (T : BufTy) (h : j < 163) (hT : hbmTy (10 + j) = T) (hj : j < 104) :
    rd (trips l (P l V) k) (r l j T h hT) = rd (P l V) (r l j T h hT) :=
  trips_keep l _ _ (by show 10 + 163 * (l : ℕ) + j < _; omega) k

/-- The state after `k` trips. -/
theorem trips_h (k : ℕ) (hk : k ≤ 4096) (b : Fin 8) (c : Fin 256) (n : Fin 16) :
    rd (trips l (P l V) k) (r l 105 ⟨S8x256x16, .f32⟩) (ix3 b c n) = (wts V l).h (xs l V b) k n c := by
  induction k generalizing b c n with
  | zero => exact s_h l V b c n
  | succ k ih =>
    have hc := trips_counter l (P l V) (entry_counter l V) k
    have hk' : k < 4096 := hk
    show rd (trip l (trips l (P l V) k)) _ _ = _
    rw [trip_h, t_h l _ hk' hc, ih (by omega), kept l V k 99 _ _ _ (by decide), kept l V k 103 _ _ _ (by decide), kept l V k 102 _ _ _ (by decide),
      kept l V k 100 _ _ _ (by decide), s_dt, s_a, s_u, s_B]
    exact ((wts V l).h_succ (xs l V b) ⟨k, hk'⟩ n c).symm

/-- The rows after `k` trips: the first `k` are the recurrence's output. -/
theorem trips_y (k : ℕ) (hk : k ≤ 4096) (t : Fin 4096) (ht : t.val < k) (b : Fin 8) (c : Fin 256) :
    rd (trips l (P l V) k) (r l 106 ⟨S4096x8x256, .f32⟩) (ix3 t b c) = (wts V l).y (xs l V b) t c := by
  induction k with
  | zero => omega
  | succ k ih =>
    have hc := trips_counter l (P l V) (entry_counter l V) k
    have hk' : k < 4096 := hk
    show rd (trip l (trips l (P l V) k)) _ _ = _
    rw [trip_y, t_y l _ hk' hc]
    split
    · rename_i e
      unfold Wts.y
      refine Finset.sum_congr rfl fun n _ => ?_
      rw [← trip_h]
      show rd (trips l (P l V) (k + 1)) _ _ * _ = _
      rw [trips_h l V (k + 1) hk, kept l V k 101 _ _ _ (by decide), s_C]
      obtain rfl : t = ⟨k, hk'⟩ := Fin.ext e
      rfl
    · exact ih (by omega) (by omega)

end Trips

end Cert.ReferenceIdeal.Layer
end
-- ==== Proof.RefOut.lean ====
/-
  What a layer of the reference leaves, entry by entry, over the extended reals, and the four layers together.
-/
module

public import proofs.«01_k».proof.Proof.RefLoop
public import proofs.«01_k».proof.Proof.RefFrame

@[expose] public section

set_option maxRecDepth 100000

noncomputable section

namespace Cert.ReferenceIdeal.Layer

open Cert.ReferenceIdeal Cert.ReferenceIdeal.Gen Cert.Ssa
open Idealize.ShloMosaic Idealize.ShloMosaic.TcCoe Idealize.ShloMosaic.StableHlo
open Cert.Math

section Post

variable (l : Fin 4) (V : Valuation τ sig (Elt Ideal))

section Equations

variable {Tx Ta Tb Ty : BufTy}

/-- What was there when the loop was left is still there after the layer. -/
theorem postK (j : ℕ) (T : BufTy) (h : j < 163) (hT : hbmTy (10 + j) = T) (hj : j < 107) :
    rd (layer l V) (r l j T h hT) = rd (trips l (P l V) 4096) (r l j T h hT) := by
  have e : key (Proc.devRef (τ := τ) .tc (r l j T h hT).ref) = 10 + 163 * (l : ℕ) + j := rfl
  unfold layer exit
  rw [(post_line l).keep _ _ (Or.inl (by omega)), (cond_line l).keep _ _ (Or.inl (by omega))]

/-! The equation of each kind of operation after the loop. -/

theorem postN (n : ℕ) {i : ℕ} {v : Ty.Contents (Elt Ideal)} (h : i < 163 := by decide) (hT : hbmTy (10 + i) = Ty := by rfl)
    (hi : (post l)[n]? = some (TRef.nullary (r l i Ty h hT) v)) (e : 146 + n = i) : rd (layer l V) (r l i Ty h hT) = v :=
  (post_line l).nullary n hi _ (by show 10 + 163 * (l : ℕ) + i = _; omega)

theorem postU (n : ℕ) {i j : ℕ} {f : Tx.Contents (Elt Ideal) → Ty.Contents (Elt Ideal)} {h : i < 163} {hT : hbmTy (10 + i) = Ty} {h' : j < 163} {hT' : hbmTy (10 + j) = Tx}
    (hi : (post l)[n]? = some (TRef.unary (r l j Tx h' hT') (r l i Ty h hT) f)) (e : 146 + n = i) (hj : j < i) :
    rd (layer l V) (r l i Ty h hT) = f (rd (layer l V) (r l j Tx h' hT')) :=
  (post_line l).unary n hi _ (by show 10 + 163 * (l : ℕ) + i = _; omega) (by show 10 + 163 * (l : ℕ) + j < _; omega)

theorem postB (n : ℕ) {i j k : ℕ} {f : Ta.Contents (Elt Ideal) → Tb.Contents (Elt Ideal) → Ty.Contents (Elt Ideal)} {h : i < 163} {hT : hbmTy (10 + i) = Ty}
    {h' : j < 163} {hT' : hbmTy (10 + j) = Ta} {h'' : k < 163} {hT'' : hbmTy (10 + k) = Tb}
    (hi : (post l)[n]? = some (TRef.binary (r l j Ta h' hT') (r l k Tb h'' hT'') (r l i Ty h hT) f)) (e : 146 + n = i) (hj : j < i) (hk : k < i) :
    rd (layer l V) (r l i Ty h hT) = f (rd (layer l V) (r l j Ta h' hT')) (rd (layer l V) (r l k Tb h'' hT'')) :=
  (post_line l).binary n hi _ (by show 10 + 163 * (l : ℕ) + i = _; omega) (by show 10 + 163 * (l : ℕ) + j < _; omega) (by show 10 + 163 * (l : ℕ) + k < _; omega)

end Equations

/-- The gated output of the recurrence. -/
theorem o_gated (b : Fin 8) (t : Fin 4096) (c : Fin 256) : rd (layer l V) (r l 160 ⟨S8x4096x256, .f32⟩) (ix3 b t c)
    = ((wts V l).y (xs l V b) t c + (wts V l).u (xs l V b) t c * (wts V l).d c) * silu ((wts V l).xz (xs l V b) t (hi c)) := by
  rw [postB l V (i := 160) (j := 150) (k := 159) 14 rfl rfl (by decide) (by decide), postB l V (i := 150) (j := 146) (k := 149) 4 rfl rfl (by decide) (by decide), postB l V (i := 149) (j := 63) (k := 148) 3 rfl rfl (by decide) (by decide), postU l V (i := 148) (j := 147) 2 rfl rfl (by decide), postU l V (i := 147) (j := 15) 1 rfl rfl (by decide), postU l V (i := 146) (j := 106) 0 rfl rfl (by decide),
    postB l V (i := 159) (j := 21) (k := 158) 13 rfl rfl (by decide) (by decide), postB l V (i := 158) (j := 157) (k := 155) 12 rfl rfl (by decide) (by decide), postU l V (i := 157) (j := 156) 11 rfl rfl (by decide), postN l V (i := 156) 10 (hi := rfl) (e := rfl), postB l V (i := 155) (j := 154) (k := 152) 9 rfl rfl (by decide) (by decide), postU l V (i := 154) (j := 153) 8 rfl rfl (by decide), postN l V (i := 153) 7 (hi := rfl) (e := rfl), postU l V (i := 152) (j := 151) 6 rfl rfl (by decide), postU l V (i := 151) (j := 21) 5 rfl rfl (by decide),
    postK l V 63 ⟨S8x4096x256, .f32⟩ (by decide) rfl (by decide), postK l V 21 ⟨S8x4096x256, .f32⟩ (by decide) rfl (by decide), postK l V 15 ⟨S256, .f32⟩ (by decide) rfl (by decide), postK l V 106 ⟨S4096x8x256, .f32⟩ (by decide) rfl (by decide),
    kept l V 4096 63 _ _ _ (by decide), kept l V 4096 21 _ _ _ (by decide), kept l V 4096 15 _ _ _ (by decide),
    ← b_u, ← b_z, ← w_d, ← trips_y l V 4096 le_rfl t t.2]
  generalize rd (trips l (P l V) 4096) (r l 106 ⟨S4096x8x256, .f32⟩) = v1
  generalize rd (P l V) (r l 63 ⟨S8x4096x256, .f32⟩) = v2
  generalize rd (P l V) (r l 21 ⟨S8x4096x256, .f32⟩) = v3
  generalize rd (P l V) (r l 15 ⟨S256, .f32⟩) = v4
  pointwise [silu]
  rfl

/-- A layer's output. -/
theorem o_out (b : Fin 8) (t : Fin 4096) (m : Fin 128) : rd (layer l V) (r l 162 ⟨S8x4096x128, .f32⟩) (ix3 b t m) = (wts V l).out (xs l V b) t m := by
  rw [postB l V (i := 162) (j := 160) (k := 161) 16 rfl rfl (by decide) (by decide), postU l V (i := 161) (j := 17) 15 rfl rfl (by decide), postK l V 17 ⟨S128x256, .f32⟩ (by decide) rfl (by decide), kept l V 4096 17 _ _ _ (by decide)]
  have hg := o_gated l V b
  have hw := w_ow l V
  generalize rd (layer l V) (r l 160 ⟨S8x4096x256, .f32⟩) = v1 at hg ⊢
  generalize rd (P l V) (r l 17 ⟨S128x256, .f32⟩) = v2 at hw ⊢
  unfold Wts.out
  pointwise
  simp only [hg, hw]

/-- The weights stay. -/
theorem wts_layer : wts (layer l V) = wts V := by
  unfold wts
  rw [layer_keep l V a1 (Nat.lt_of_lt_of_le (by decide : num τ a1 < 10) (Nat.le_add_right _ _)),
    layer_keep l V a2 (Nat.lt_of_lt_of_le (by decide : num τ a2 < 10) (Nat.le_add_right _ _)),
    layer_keep l V a3 (Nat.lt_of_lt_of_le (by decide : num τ a3 < 10) (Nat.le_add_right _ _)),
    layer_keep l V a4 (Nat.lt_of_lt_of_le (by decide : num τ a4 < 10) (Nat.le_add_right _ _)),
    layer_keep l V a5 (Nat.lt_of_lt_of_le (by decide : num τ a5 < 10) (Nat.le_add_right _ _)),
    layer_keep l V a6 (Nat.lt_of_lt_of_le (by decide : num τ a6 < 10) (Nat.le_add_right _ _)),
    layer_keep l V a7 (Nat.lt_of_lt_of_le (by decide : num τ a7 < 10) (Nat.le_add_right _ _)),
    layer_keep l V a8 (Nat.lt_of_lt_of_le (by decide : num τ a8 < 10) (Nat.le_add_right _ _)),
    layer_keep l V a9 (Nat.lt_of_lt_of_le (by decide : num τ a9 < 10) (Nat.le_add_right _ _))]

end Post

/-- The four layers: the reference's result. -/
theorem four (V : Valuation τ sig (Elt Ideal)) :
    rd (layer 3 (layer 2 (layer 1 (layer 0 V)))) (r 3 162 ⟨S8x4096x128, .f32⟩) = result (rd V a0) (wts V) := by
  have h1 : ∀ b, xs 1 (layer 0 V) b = stack (wts V) (xs 0 V b) 1 := fun b => funext fun t => funext fun m => o_out 0 V b t m
  have h2 : ∀ b, xs 2 (layer 1 (layer 0 V)) b = stack (wts V) (xs 0 V b) 2 := fun b => funext fun t => funext fun m => by
    refine (o_out 1 (layer 0 V) b t m).trans ?_
    rw [wts_layer, h1]
    rfl
  have h3 : ∀ b, xs 3 (layer 2 (layer 1 (layer 0 V))) b = stack (wts V) (xs 0 V b) 3 := fun b => funext fun t => funext fun m => by
    refine (o_out 2 (layer 1 (layer 0 V)) b t m).trans ?_
    rw [wts_layer, wts_layer, h2]
    rfl
  funext i
  obtain ⟨b, t, m, rfl⟩ : ∃ (b : Fin 8) (t : Fin 4096) (m : Fin 128), i = ix3 b t m := ⟨i 0, i 1, i 2, eq_ix3 i⟩
  refine (o_out 3 _ b t m).trans ?_
  rw [wts_layer, wts_layer, wts_layer, h3]
  rfl

end Cert.ReferenceIdeal.Layer
end
-- ==== Proof.lean ====
/-
  The proof of the claims about the program, assembled from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.FrameKernel
public import proofs.«01_k».proof.Proof.FrameIdeal
public import proofs.«01_k».proof.Proof.RefFrame
public import proofs.«01_k».proof.Proof.KerArray
public import proofs.«01_k».proof.Proof.RefOut
public import Idealize.ShloMosaic.Adequacy
public import Idealize.ShloMosaic.Init

@[expose] public section

noncomputable section

namespace Cert.Proof

open Idealize.ShloMosaic Idealize.SL.Sem

/-- The reference's result, from the arguments as launched. -/
theorem reference_result (m : (ℓ : Loc Cert.ReferenceIdeal.nD Cert.ReferenceIdeal.τ Cert.ReferenceIdeal.sig) → Buf (Elt Ideal) ℓ) (c : Dev Cert.ReferenceIdeal.nD) :
    Cert.ReferenceIdeal.Layer.layers m c 4 (Proc.devRef .tc Cert.ReferenceIdeal.main_v331)
      = Cert.Math.result (m ((c.tc : Thread Cert.ReferenceIdeal.nD Cert.ReferenceIdeal.τ).loc Cert.ReferenceIdeal.main_arg0))
          (Cert.Math.ofArgs (m ((c.tc : Thread Cert.ReferenceIdeal.nD Cert.ReferenceIdeal.τ).loc Cert.ReferenceIdeal.main_arg1))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg9))) :=
  (Cert.ReferenceIdeal.Layer.result_ref _).trans (Cert.ReferenceIdeal.Layer.four _)

/-- From equal arguments the idealised kernel and the reference end with equal results. -/
theorem algebraic : Cert.algebraic_KernelIdeal_ReferenceIdeal := by
  intro m g m' g' _ hargs
  refine ⟨fun c => Cert.Math.result (Cert.KernelIdeal.Run.arg0 m c) (Cert.KernelIdeal.Run.weights m c), ?_, ?_⟩
  · exact θ_run_mono (Cert.KernelIdeal.Run.run m g) fun _ h c => ⟨h.1 c, h.2 c⟩
  · refine θ_run_mono (Cert.ReferenceIdeal.Layer.run_ends m' g') fun _ h c => ⟨(h.res c).trans ?_, h.args c⟩
    obtain ⟨h0, h1, h2, h3, h4, h5, h6, h7, h8, h9⟩ := hargs c
    rw [reference_result, h0, h1, h2, h3, h4, h5, h6, h7, h8, h9]
    rfl

/-- Everything claimed. -/
theorem claim : Cert.Claim := ⟨Cert.Kernel.Gen.facts, Cert.KernelIdeal.Gen.facts, Cert.ReferenceIdeal.Gen.facts,
  fun m g _ => Cert.Kernel.Run.frame m g,
  fun m g _ => Cert.KernelIdeal.Run.frame m g,
  fun m g _ => θ_run_mono (Cert.ReferenceIdeal.Layer.run_ends m g) fun _ h => ⟨fun c => h.args c, h.sem⟩,
  trivial, algebraic⟩

end Cert.Proof

end
